-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
-- ==== Pre_finite_scores.lean ====
abbrev S8x4224x8x96 : Shape := ⟨4, ![8, 4224, 8, 96]⟩
abbrev S8x4224x8x64 : Shape := ⟨4, ![8, 4224, 8, 64]⟩
abbrev S_ : Shape := ⟨0, ![]⟩

class Facts : Prop where
  bcast_S_S8x4224x8x96 : S_.BroadcastsInDim S8x4224x8x96 (![] : Fin 0 → Fin S8x4224x8x96.rank)
  reducesTo_S8x4224x8x96_S_d0_1_2_3 : S8x4224x8x96.ReducesTo [0, 1, 2, 3] S_
  h_S_ : 0 < S_.numel

variable [Facts]

def fn {F : FTy → Type} [FloatOps F] (main_arg0 : FVec F S8x4224x8x96 .f32) (main_arg1 : FVec F S8x4224x8x96 .f32) (main_arg2 : FVec F S8x4224x8x64 .f32) : IVec S_ 1 :=
  let main_v0 : FVec F S8x4224x8x96 .f32 := Host.absf main_arg0
  let main_cst : FVec F S_ .f32 := constant S_ .f32 0x7F800000#32
  let main_v1 : FVec F S8x4224x8x96 .f32 := broadcastInDim S8x4224x8x96 ![] bcast_S_S8x4224x8x96 main_cst
  let main_v2 : IVec S8x4224x8x96 1 := cmpf .olt main_v0 main_v1
  let main_c : IVec S_ 1 := constantI S_ 1 1#1
  let main_v3 : IVec S_ 1 := (fun x v => Host.reduce IntOp.andi x v reducesTo_S8x4224x8x96_S_d0_1_2_3 h_S_) main_v2 main_c
  let main_v4 : FVec F S8x4224x8x96 .f32 := Host.absf main_arg1
  let main_cst_0 : FVec F S_ .f32 := constant S_ .f32 0x7F800000#32
  let main_v5 : FVec F S8x4224x8x96 .f32 := broadcastInDim S8x4224x8x96 ![] bcast_S_S8x4224x8x96 main_cst_0
  let main_v6 : IVec S8x4224x8x96 1 := cmpf .olt main_v4 main_v5
  let main_c_1 : IVec S_ 1 := constantI S_ 1 1#1
  let main_v7 : IVec S_ 1 := (fun x v => Host.reduce IntOp.andi x v reducesTo_S8x4224x8x96_S_d0_1_2_3 h_S_) main_v6 main_c_1
  let main_v8 : IVec S_ 1 := andi main_v3 main_v7
  main_v8
-- ==== Kernel.lean ====
abbrev S8x4224x512 : Shape := ⟨3, ![8, 4224, 512]⟩
abbrev S8x4224x3x1024 : Shape := ⟨4, ![8, 4224, 3, 1024]⟩
abbrev S8x4096x1024 : Shape := ⟨3, ![8, 4096, 1024]⟩
abbrev S16x1024 : Shape := ⟨2, ![16, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x4224x6x512 : Shape := ⟨4, ![8, 4224, 6, 512]⟩
abbrev S6x8x4224x512 : Shape := ⟨4, ![6, 8, 4224, 512]⟩
abbrev S33792x512 : Shape := ⟨2, ![33792, 512]⟩
abbrev S6x33792x512 : Shape := ⟨3, ![6, 33792, 512]⟩
abbrev S1x1024 : Shape := ⟨2, ![1, 1024]⟩
abbrev S1024 : Shape := ⟨1, ![1024]⟩
abbrev S32768x1024 : Shape := ⟨2, ![32768, 1024]⟩
abbrev S33792x1024 : Shape := ⟨2, ![33792, 1024]⟩
abbrev S352x512 : Shape := ⟨2, ![352, 512]⟩
abbrev S6x352x512 : Shape := ⟨3, ![6, 352, 512]⟩
abbrev S352x1024 : Shape := ⟨2, ![352, 1024]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S336x1024 : Shape := ⟨2, ![336, 1024]⟩
abbrev S240x1024 : Shape := ⟨2, ![240, 1024]⟩
abbrev S112x1024 : Shape := ⟨2, ![112, 1024]⟩
abbrev S512x1024 : Shape := ⟨2, ![512, 1024]⟩
abbrev S1x352x512 : Shape := ⟨3, ![1, 352, 512]⟩
abbrev S1024x1024 : Shape := ⟨2, ![1024, 1024]⟩
abbrev S352 : Shape := ⟨1, ![352]⟩
abbrev S352x1 : Shape := ⟨2, ![352, 1]⟩

abbrev nBuf : Space → Nat
  | .hbm => 30
  | .vmem => 20
  | .smem => 0
  | _ => 0

abbrev bufTy : (tb : Table) → Fin (tcTables nBuf tb) → BufTy
  | .hbm, ⟨0, _⟩ => ⟨S8x4224x512, .bf16⟩
  | .hbm, ⟨1, _⟩ => ⟨S8x4224x512, .bf16⟩
  | .hbm, ⟨2, _⟩ => ⟨S8x4224x512, .bf16⟩
  | .hbm, ⟨3, _⟩ => ⟨S8x4224x3x1024, .bf16⟩
  | .hbm, ⟨4, _⟩ => ⟨S8x4096x1024, .f32⟩
  | .hbm, ⟨5, _⟩ => ⟨S16x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S2x512x1024, .bf16⟩
  | .hbm, ⟨14, _⟩ => ⟨S2x512x1024, .bf16⟩
  | .hbm, ⟨15, _⟩ => ⟨S2x512x1024, .bf16⟩
  | .hbm, ⟨16, _⟩ => ⟨S2x1024x1024, .bf16⟩
  | .hbm, ⟨17, _⟩ => ⟨S2x1024x4096, .bf16⟩
  | .hbm, ⟨18, _⟩ => ⟨S2x4096x1024, .bf16⟩
  | .hbm, ⟨19, _⟩ => ⟨S8x4224x6x512, .bf16⟩
  | .hbm, ⟨20, _⟩ => ⟨S6x8x4224x512, .bf16⟩
  | .hbm, ⟨21, _⟩ => ⟨S33792x512, .bf16⟩
  | .hbm, ⟨22, _⟩ => ⟨S33792x512, .bf16⟩
  | .hbm, ⟨23, _⟩ => ⟨S33792x512, .bf16⟩
  | .hbm, ⟨24, _⟩ => ⟨S6x33792x512, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S32768x1024, .f32⟩
  | .hbm, ⟨29, _⟩ => ⟨S33792x1024, .f32⟩
  | .local _ .vmem, ⟨0, _⟩ => ⟨S352x512, .bf16⟩
  | .local _ .vmem, ⟨1, _⟩ => ⟨S352x512, .bf16⟩
  | .local _ .vmem, ⟨2, _⟩ => ⟨S352x512, .bf16⟩
  | .local _ .vmem, ⟨3, _⟩ => ⟨S352x512, .bf16⟩
  | .local _ .vmem, ⟨4, _⟩ => ⟨S352x512, .bf16⟩
  | .local _ .vmem, ⟨5, _⟩ => ⟨S352x512, .bf16⟩
  | .local _ .vmem, ⟨6, _⟩ => ⟨S6x352x512, .bf16⟩
  | .local _ .vmem, ⟨7, _⟩ => ⟨S6x352x512, .bf16⟩
  | .local _ .vmem, ⟨8, _⟩ => ⟨S352x1024, .f32⟩
  | .local _ .vmem, ⟨9, _⟩ => ⟨S352x1024, .f32⟩
  | .local _ .vmem, ⟨10, _⟩ => ⟨S16x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024, .f32⟩
  | .local _ .vmem, ⟨16, _⟩ => ⟨S1x1024x4096, .bf16⟩
  | .local _ .vmem, ⟨17, _⟩ => ⟨S1x4096x1024, .bf16⟩
  | .local _ .vmem, ⟨18, _⟩ => ⟨S352x1024, .f32⟩
  | .local _ .vmem, ⟨19, _⟩ => ⟨S352x1024, .f32⟩
  | _, _ => ⟨S8x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let arg0 : BitVec 32 := BitVec.ofNat 32 (i 0).val
  let c4096_i32 : BitVec 32 := 4096#32
  let v0 : BitVec 32 := Scalar.muli arg0 c4096_i32
  let c3744_i32 : BitVec 32 := 3744#32
  let c0_i32 : BitVec 32 := 0#32
  let arg1 : BitVec 32 := BitVec.ofNat 32 (i 1).val
  let c352_i32 : BitVec 32 := 352#32
  let v1 : BitVec 32 := Scalar.muli arg1 c352_i32
  let c16_i32 : BitVec 32 := 16#32
  let v2 : BitVec 32 := Scalar.subi v1 c16_i32
  let v3 : BitVec 32 := Scalar.maxsi c0_i32 v2
  let v4 : BitVec 32 := Scalar.minsi c3744_i32 v3
  let v5 : BitVec 32 := Scalar.addi v0 v4
  v5
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c352_i32 : BitVec 32 := 352#32
  let v1 : BitVec 32 := Scalar.muli arg1 c352_i32
  let c16_i32 : BitVec 32 := 16#32
  let v2 : BitVec 32 := Scalar.subi v1 c16_i32
  let c0_i32 : BitVec 32 := 0#32
  let c3744_i32 : BitVec 32 := 3744#32
  let v3 : BitVec 32 := Scalar.maxsi c0_i32 v2
  let v4 : BitVec 32 := Scalar.minsi c3744_i32 v3
  let v5 : BitVec 32 := Scalar.addi v0 v4
  let v6 : BitVec 32 := v5
  let c0_i32_0 : BitVec 32 := 0#32
  let c0_i32_1 : BitVec 32 := 0#32
  ![v6.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S6x352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S352x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x4224x512 : Shape := ⟨3, ![8, 4224, 512]⟩
abbrev S8x4224x3x1024 : Shape := ⟨4, ![8, 4224, 3, 1024]⟩
abbrev S8x4096x1024 : Shape := ⟨3, ![8, 4096, 1024]⟩
abbrev S16x1024 : Shape := ⟨2, ![16, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x16x1024 : Shape := ⟨3, ![1, 16, 1024]⟩
abbrev S8x16x1024 : Shape := ⟨3, ![8, 16, 1024]⟩
abbrev S_ : Shape := ⟨0, ![]⟩
abbrev S8x112x1024 : Shape := ⟨3, ![8, 112, 1024]⟩
abbrev S8x4224x1024 : Shape := ⟨3, ![8, 4224, 1024]⟩
abbrev S1x512x1024 : Shape := ⟨3, ![1, 512, 1024]⟩
abbrev S512x1024 : Shape := ⟨2, ![512, 1024]⟩
abbrev S8x4224x1x1024 : Shape := ⟨4, ![8, 4224, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x4224 : Shape := ⟨2, ![8, 4224]⟩
abbrev S8x4224x1 : Shape := ⟨3, ![8, 4224, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4224x4096 : Shape := ⟨3, ![8, 4224, 4096]⟩
abbrev S1x4096x1024 : Shape := ⟨3, ![1, 4096, 1024]⟩
abbrev S4096x1024 : Shape := ⟨2, ![4096, 1024]⟩
abbrev S33792x1024 : Shape := ⟨2, ![33792, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4224x512, .bf16⟩
  | .hbm, ⟨1, _⟩ => ⟨S8x4224x512, .bf16⟩
  | .hbm, ⟨2, _⟩ => ⟨S8x4224x512, .bf16⟩
  | .hbm, ⟨3, _⟩ => ⟨S8x4224x3x1024, .bf16⟩
  | .hbm, ⟨4, _⟩ => ⟨S8x4096x1024, .f32⟩
  | .hbm, ⟨5, _⟩ => ⟨S16x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S8x4224x512, .f32⟩
  | .hbm, ⟨14, _⟩ => ⟨S8x4224x512, .f32⟩
  | .hbm, ⟨15, _⟩ => ⟨S8x4224x512, .f32⟩
  | .hbm, ⟨16, _⟩ => ⟨S8x4224x3x1024, .f32⟩
  | .hbm, ⟨17, _⟩ => ⟨S1x16x1024, .f32⟩
  | .hbm, ⟨18, _⟩ => ⟨S8x16x1024, .f32⟩
  | .hbm, ⟨19, _⟩ => ⟨S_, .f32⟩
  | .hbm, ⟨20, _⟩ => ⟨S8x112x1024, .f32⟩
  | .hbm, ⟨21, _⟩ => ⟨S8x4224x1024, .f32⟩
  | .hbm, ⟨22, _⟩ => ⟨S1x512x1024, .f32⟩
  | .hbm, ⟨23, _⟩ => ⟨S512x1024, .f32⟩
  | .hbm, ⟨24, _⟩ => ⟨S8x4224x1024, .f32⟩
  | .hbm, ⟨25, _⟩ => ⟨S1x512x1024, .f32⟩
  | .hbm, ⟨26, _⟩ => ⟨S512x1024, .f32⟩
  | .hbm, ⟨27, _⟩ => ⟨S8x4224x1024, .f32⟩
  | .hbm, ⟨28, _⟩ => ⟨S1x512x1024, .f32⟩
  | .hbm, ⟨29, _⟩ => ⟨S512x1024, .f32⟩
  | .hbm, ⟨30, _⟩ => ⟨S8x4224x1024, .f32⟩
  | .hbm, ⟨31, _⟩ => ⟨S8x4224x1x1024, .f32⟩
  | .hbm, ⟨32, _⟩ => ⟨S8x4224x1024, .f32⟩
  | .hbm, ⟨33, _⟩ => ⟨S8x4224x1024, .f32⟩
  | .hbm, ⟨34, _⟩ => ⟨S8x4224x1x1024, .f32⟩
  | .hbm, ⟨35, _⟩ => ⟨S8x4224x1024, .f32⟩
  | .hbm, ⟨36, _⟩ => ⟨S8x4224x1024, .f32⟩
  | .hbm, ⟨37, _⟩ => ⟨S8x4224x1024, .f32⟩
  | .hbm, ⟨38, _⟩ => ⟨S8x4224x1x1024, .f32⟩
  | .hbm, ⟨39, _⟩ => ⟨S8x4224x1024, .f32⟩
  | .hbm, ⟨40, _⟩ => ⟨S8x4224x1024, .f32⟩
  | .hbm, ⟨41, _⟩ => ⟨S8x4224x1024, .f32⟩
  | .hbm, ⟨42, _⟩ => ⟨S1x1024x1024, .f32⟩
  | .hbm, ⟨43, _⟩ => ⟨S1024x1024, .f32⟩
  | .hbm, ⟨44, _⟩ => ⟨S8x4224x1024, .f32⟩
  | .hbm, ⟨45, _⟩ => ⟨S8x4224x1024, .f32⟩
  | .hbm, ⟨46, _⟩ => ⟨S1x1024, .f32⟩
  | .hbm, ⟨47, _⟩ => ⟨S1024, .f32⟩
  | .hbm, ⟨48, _⟩ => ⟨S8x4224x1024, .f32⟩
  | .hbm, ⟨49, _⟩ => ⟨S_, .f32⟩
  | .hbm, ⟨50, _⟩ => ⟨S8x4224, .f32⟩
  | .hbm, ⟨51, _⟩ => ⟨S8x4224x1, .f32⟩
  | .hbm, ⟨52, _⟩ => ⟨S_, .f32⟩
  | .hbm, ⟨53, _⟩ => ⟨S8x4224x1, .f32⟩
  | .hbm, ⟨54, _⟩ => ⟨S8x4224x1, .f32⟩
  | .hbm, ⟨55, _⟩ => ⟨S_, .f32⟩
  | .hbm, ⟨56, _⟩ => ⟨S8x4224x1, .f32⟩
  | .hbm, ⟨57, _⟩ => ⟨S8x4224x1, .f32⟩
  | .hbm, ⟨58, _⟩ => ⟨S8x4224x1, .f32⟩
  | .hbm, ⟨59, _⟩ => ⟨S8x4224x1024, .f32⟩
  | .hbm, ⟨60, _⟩ => ⟨S8x4224x1024, .f32⟩
  | .hbm, ⟨61, _⟩ => ⟨S1x1x1024, .f32⟩
  | .hbm, ⟨62, _⟩ => ⟨S8x4224x1024, .f32⟩
  | .hbm, ⟨63, _⟩ => ⟨S8x4224x1024, .f32⟩
  | .hbm, ⟨64, _⟩ => ⟨S1x1024x4096, .f32⟩
  | .hbm, ⟨65, _⟩ => ⟨S1024x4096, .f32⟩
  | .hbm, ⟨66, _⟩ => ⟨S8x4224x4096, .f32⟩
  | .hbm, ⟨67, _⟩ => ⟨S_, .f32⟩
  | .hbm, ⟨68, _⟩ => ⟨S8x4224x4096, .f32⟩
  | .hbm, ⟨69, _⟩ => ⟨S8x4224x4096, .f32⟩
  | .hbm, ⟨70, _⟩ => ⟨S8x4224x4096, .f32⟩
  | .hbm, ⟨71, _⟩ => ⟨S1x4096x1024, .f32⟩
  | .hbm, ⟨72, _⟩ => ⟨S4096x1024, .f32⟩
  | .hbm, ⟨73, _⟩ => ⟨S8x4224x1024, .f32⟩
  | .hbm, ⟨74, _⟩ => ⟨S8x4224x1024, .f32⟩
  | .hbm, ⟨75, _⟩ => ⟨S33792x1024, .f32⟩
  | _, _ => ⟨S8x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel2.lean ====
abbrev S8x4224x1024 : Shape := ⟨3, ![8, 4224, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S33792x1024 : Shape := ⟨2, ![33792, 1024]⟩
abbrev S1x1024 : Shape := ⟨2, ![1, 1024]⟩
abbrev S1024 : Shape := ⟨1, ![1024]⟩
abbrev S8x4096x1024 : Shape := ⟨3, ![8, 4096, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x1 : Shape := ⟨2, ![1024, 1]⟩

abbrev nBuf : Space → Nat
  | .hbm => 11
  | .vmem => 7
  | .smem => 0
  | _ => 0

abbrev bufTy : (tb : Table) → Fin (tcTables nBuf tb) → BufTy
  | .hbm, ⟨0, _⟩ => ⟨S8x4224x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S2x1024x4096, .bf16⟩
  | .hbm, ⟨5, _⟩ => ⟨S2x4096x1024, .bf16⟩
  | .hbm, ⟨6, _⟩ => ⟨S33792x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024x1024, .f32⟩
  | .local _ .vmem, ⟨6, _⟩ => ⟨S1x1024x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c4224_i32 : BitVec 32 := 4224#32
  let v0 : BitVec 32 := Scalar.muli arg0 c4224_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x4224x1024 : Shape := ⟨3, ![8, 4224, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x4112x1024 : Shape := ⟨3, ![8, 4112, 1024]⟩
abbrev S1x1024 : Shape := ⟨2, ![1, 1024]⟩
abbrev S1024 : Shape := ⟨1, ![1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4112x4096 : Shape := ⟨3, ![8, 4112, 4096]⟩
abbrev S1x4096x1024 : Shape := ⟨3, ![1, 4096, 1024]⟩
abbrev S4096x1024 : Shape := ⟨2, ![4096, 1024]⟩
abbrev S8x4096x1024 : Shape := ⟨3, ![8, 4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S8x4112x1024, .f32⟩
  | .hbm, ⟨5, _⟩ => ⟨S1x1024, .f32⟩
  | .hbm, ⟨6, _⟩ => ⟨S1024, .f32⟩
  | .hbm, ⟨7, _⟩ => ⟨S8x4112x1024, .f32⟩
  | .hbm, ⟨8, _⟩ => ⟨S_, .f32⟩
  | .hbm, ⟨9, _⟩ => ⟨S8x4112, .f32⟩
  | .hbm, ⟨10, _⟩ => ⟨S8x4112x1, .f32⟩
  | .hbm, ⟨11, _⟩ => ⟨S_, .f32⟩
  | .hbm, ⟨12, _⟩ => ⟨S8x4112x1, .f32⟩
  | .hbm, ⟨13, _⟩ => ⟨S8x4112x1, .f32⟩
  | .hbm, ⟨14, _⟩ => ⟨S_, .f32⟩
  | .hbm, ⟨15, _⟩ => ⟨S8x4112x1, .f32⟩
  | .hbm, ⟨16, _⟩ => ⟨S8x4112x1, .f32⟩
  | .hbm, ⟨17, _⟩ => ⟨S8x4112x1, .f32⟩
  | .hbm, ⟨18, _⟩ => ⟨S8x4112x1024, .f32⟩
  | .hbm, ⟨19, _⟩ => ⟨S8x4112x1024, .f32⟩
  | .hbm, ⟨20, _⟩ => ⟨S1x1x1024, .f32⟩
  | .hbm, ⟨21, _⟩ => ⟨S8x4112x1024, .f32⟩
  | .hbm, ⟨22, _⟩ => ⟨S8x4112x1024, .f32⟩
  | .hbm, ⟨23, _⟩ => ⟨S1x1024x4096, .f32⟩
  | .hbm, ⟨24, _⟩ => ⟨S1024x4096, .f32⟩
  | .hbm, ⟨25, _⟩ => ⟨S8x4112x4096, .f32⟩
  | .hbm, ⟨26, _⟩ => ⟨S_, .f32⟩
  | .hbm, ⟨27, _⟩ => ⟨S8x4112x4096, .f32⟩
  | .hbm, ⟨28, _⟩ => ⟨S8x4112x4096, .f32⟩
  | .hbm, ⟨29, _⟩ => ⟨S8x4112x4096, .f32⟩
  | .hbm, ⟨30, _⟩ => ⟨S1x4096x1024, .f32⟩
  | .hbm, ⟨31, _⟩ => ⟨S4096x1024, .f32⟩
  | .hbm, ⟨32, _⟩ => ⟨S8x4112x1024, .f32⟩
  | .hbm, ⟨33, _⟩ => ⟨S8x4112x1024, .f32⟩
  | .hbm, ⟨34, _⟩ => ⟨S8x4096x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel3.lean ====
abbrev S8x4224x8x96 : Shape := ⟨4, ![8, 4224, 8, 96]⟩
abbrev S8x4224x8x64 : Shape := ⟨4, ![8, 4224, 8, 64]⟩
abbrev S_ : Shape := ⟨0, ![]⟩
abbrev S8x8x4224x96 : Shape := ⟨4, ![8, 8, 4224, 96]⟩
abbrev S8x8x4224x128 : Shape := ⟨4, ![8, 8, 4224, 128]⟩
abbrev S8x8x4224x64 : Shape := ⟨4, ![8, 8, 4224, 64]⟩
abbrev S8x4x2x4224x64 : Shape := ⟨5, ![8, 4, 2, 4224, 64]⟩
abbrev S8x4x4224x64 : Shape := ⟨4, ![8, 4, 4224, 64]⟩
abbrev S8x4x1x4224x64 : Shape := ⟨5, ![8, 4, 1, 4224, 64]⟩
abbrev S8x4x4224x128 : Shape := ⟨4, ![8, 4, 4224, 128]⟩
abbrev S8x4x1x4224x128 : Shape := ⟨5, ![8, 4, 1, 4224, 128]⟩
abbrev S8x4x2x4224x128 : Shape := ⟨5, ![8, 4, 2, 4224, 128]⟩
abbrev S8x4224x512 : Shape := ⟨3, ![8, 4224, 512]⟩
abbrev S1x4x384x128 : Shape := ⟨4, ![1, 4, 384, 128]⟩
abbrev S1x4x4224x128 : Shape := ⟨4, ![1, 4, 4224, 128]⟩
abbrev S1x384x256 : Shape := ⟨3, ![1, 384, 256]⟩
abbrev S4x11x384x384 : Shape := ⟨4, ![4, 11, 384, 384]⟩
abbrev S4x384x128 : Shape := ⟨3, ![4, 384, 128]⟩
abbrev S1x1x384x128 : Shape := ⟨4, ![1, 1, 384, 128]⟩
abbrev S384x128 : Shape := ⟨2, ![384, 128]⟩
abbrev S1x1x1536x128 : Shape := ⟨4, ![1, 1, 1536, 128]⟩
abbrev S1536x128 : Shape := ⟨2, ![1536, 128]⟩
abbrev S384x1536 : Shape := ⟨2, ![384, 1536]⟩
abbrev S384x384 : Shape := ⟨2, ![384, 384]⟩
abbrev S1x1x384x384 : Shape := ⟨4, ![1, 1, 384, 384]⟩
abbrev S1x384x128 : Shape := ⟨3, ![1, 384, 128]⟩
abbrev S1x1x768x128 : Shape := ⟨4, ![1, 1, 768, 128]⟩
abbrev S768x128 : Shape := ⟨2, ![768, 128]⟩
abbrev S384x768 : Shape := ⟨2, ![384, 768]⟩
abbrev S384 : Shape := ⟨1, ![384]⟩
abbrev S384x1 : Shape := ⟨2, ![384, 1]⟩

abbrev nBuf : Space → Nat
  | .hbm => 38
  | .vmem => 11
  | .smem => 0
  | _ => 0

abbrev bufTy : (tb : Table) → Fin (tcTables nBuf tb) → BufTy
  | .hbm, ⟨0, _⟩ => ⟨S8x4224x8x96, .f32⟩
  | .hbm, ⟨1, _⟩ => ⟨S8x4224x8x96, .f32⟩
  | .hbm, ⟨2, _⟩ => ⟨S8x4224x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8x4224x96, .f32⟩
  | .hbm, ⟨11, _⟩ => ⟨S_, .i32⟩
  | .hbm, ⟨12, _⟩ => ⟨S_, .f32⟩
  | .hbm, ⟨13, _⟩ => ⟨S8x8x4224x128, .f32⟩
  | .hbm, ⟨14, _⟩ => ⟨S8x8x4224x128, .f32⟩
  | .hbm, ⟨15, _⟩ => ⟨S8x8x4224x128, .f32⟩
  | .hbm, ⟨16, _⟩ => ⟨S8x8x4224x128, .bf16⟩
  | .hbm, ⟨17, _⟩ => ⟨S8x8x4224x96, .f32⟩
  | .hbm, ⟨18, _⟩ => ⟨S_, .i32⟩
  | .hbm, ⟨19, _⟩ => ⟨S_, .f32⟩
  | .hbm, ⟨20, _⟩ => ⟨S8x8x4224x128, .f32⟩
  | .hbm, ⟨21, _⟩ => ⟨S8x8x4224x128, .bf16⟩
  | .hbm, ⟨22, _⟩ => ⟨S8x8x4224x64, .f32⟩
  | .hbm, ⟨23, _⟩ => ⟨S8x4x2x4224x64, .f32⟩
  | .hbm, ⟨24, _⟩ => ⟨S_, .f32⟩
  | .hbm, ⟨25, _⟩ => ⟨S8x4x4224x64, .f32⟩
  | .hbm, ⟨26, _⟩ => ⟨S8x4x1x4224x64, .f32⟩
  | .hbm, ⟨27, _⟩ => ⟨S8x4x4224x64, .f32⟩
  | .hbm, ⟨28, _⟩ => ⟨S8x4x4224x128, .f32⟩
  | .hbm, ⟨29, _⟩ => ⟨S8x4x1x4224x64, .f32⟩
  | .hbm, ⟨30, _⟩ => ⟨S8x4x4224x64, .f32⟩
  | .hbm, ⟨31, _⟩ => ⟨S8x4x4224x128, .f32⟩
  | .hbm, ⟨32, _⟩ => ⟨S8x4x1x4224x128, .f32⟩
  | .hbm, ⟨33, _⟩ => ⟨S8x4x1x4224x128, .f32⟩
  | .hbm, ⟨34, _⟩ => ⟨S8x4x2x4224x128, .f32⟩
  | .hbm, ⟨35, _⟩ => ⟨S8x8x4224x128, .f32⟩
  | .hbm, ⟨36, _⟩ => ⟨S8x8x4224x128, .bf16⟩
  | .hbm, ⟨37, _⟩ => ⟨S8x4224x512, .bf16⟩
  | .local _ .vmem, ⟨0, _⟩ => ⟨S1x4x384x128, .bf16⟩
  | .local _ .vmem, ⟨1, _⟩ => ⟨S1x4x384x128, .bf16⟩
  | .local _ .vmem, ⟨2, _⟩ => ⟨S1x4x4224x128, .bf16⟩
  | .local _ .vmem, ⟨3, _⟩ => ⟨S1x4x4224x128, .bf16⟩
  | .local _ .vmem, ⟨4, _⟩ => ⟨S1x4x4224x128, .bf16⟩
  | .local _ .vmem, ⟨5, _⟩ => ⟨S1x4x4224x128, .bf16⟩
  | .local _ .vmem, ⟨6, _⟩ => ⟨S1x384x256, .bf16⟩
  | .local _ .vmem, ⟨7, _⟩ => ⟨S1x384x256, .bf16⟩
  | .local _ .vmem, ⟨8, _⟩ => ⟨S4x11x384x384, .f32⟩
  | .local _ .vmem, ⟨9, _⟩ => ⟨S4x384x128, .f32⟩
  | .local _ .vmem, ⟨10, _⟩ => ⟨S4x384x128, .f32⟩
  | _, _ => ⟨S8x4224x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

@[reducible] def k0_t1_loop (i : grid0.Coords) : Scf.Loop 32 :=
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_17 : BitVec 32 := 1#32
  ⟨c0_i32, v19, c1_i32_17⟩
def k0_mult1 (i : grid0.Coords) (k0_t1 : Fin (k0_t1_loop i).trips) : BitVec 32 :=
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32 : BitVec 32 := 384#32
  let v123 : BitVec 32 := Scalar.muli v122 c384_i32
  v123
def k0_off1 (i : grid0.Coords) (k0_t1 : Fin (k0_t1_loop i).trips) : Fin 4 → Nat :=
  let c0_99 : Index := 0#32
  let c0_100 : Index := 0#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32 : BitVec 32 := 384#32
  let v123 : BitVec 32 := Scalar.muli v122 c384_i32
  let v124 : BitVec 32 := v123
  let v125 : Index := Scalar.indexCast v124
  let c0_101 : Index := 0#32
  ![0, 0, v125.toNat, 0]
def k0_off2 (i : grid0.Coords) (k0_t1 : Fin (k0_t1_loop i).trips) (c0_i32_103 : BitVec 32) : Fin 4 → Nat :=
  let c0_104 : Index := 0#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let v130 : BitVec 32 := Scalar.addi v122 c0_i32_103
  let v131 : Index := Scalar.indexCast v130
  let c0_105 : Index := 0#32
  let c0_106 : Index := 0#32
  ![0, v131.toNat, 0, 0]
def k0_mult2 (i : grid0.Coords) (k0_t1 : Fin (k0_t1_loop i).trips) : BitVec 32 :=
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32_118 : BitVec 32 := 384#32
  let v177 : BitVec 32 := Scalar.muli v122 c384_i32_118
  v177
def k0_off3 (i : grid0.Coords) (k0_t1 : Fin (k0_t1_loop i).trips) : Fin 4 → Nat :=
  let c0_119 : Index := 0#32
  let c1_120 : Index := 1#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32_118 : BitVec 32 := 384#32
  let v177 : BitVec 32 := Scalar.muli v122 c384_i32_118
  let v178 : BitVec 32 := v177
  let v179 : Index := Scalar.indexCast v178
  let c0_121 : Index := 0#32
  ![0, 1, v179.toNat, 0]
def k0_off4 (i : grid0.Coords) (k0_t1 : Fin (k0_t1_loop i).trips) (c0_i32_123 : BitVec 32) : Fin 4 → Nat :=
  let c1_124 : Index := 1#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let v184 : BitVec 32 := Scalar.addi v122 c0_i32_123
  let v185 : Index := Scalar.indexCast v184
  let c0_125 : Index := 0#32
  let c0_126 : Index := 0#32
  ![1, v185.toNat, 0, 0]
def k0_mult3 (i : grid0.Coords) (k0_t1 : Fin (k0_t1_loop i).trips) : BitVec 32 :=
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32_139 : BitVec 32 := 384#32
  let v231 : BitVec 32 := Scalar.muli v122 c384_i32_139
  v231
def k0_off5 (i : grid0.Coords) (k0_t1 : Fin (k0_t1_loop i).trips) : Fin 4 → Nat :=
  let c0_140 : Index := 0#32
  let c2_141 : Index := 2#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32_139 : BitVec 32 := 384#32
  let v231 : BitVec 32 := Scalar.muli v122 c384_i32_139
  let v232 : BitVec 32 := v231
  let v233 : Index := Scalar.indexCast v232
  let c0_142 : Index := 0#32
  ![0, 2, v233.toNat, 0]
def k0_off6 (i : grid0.Coords) (k0_t1 : Fin (k0_t1_loop i).trips) (c0_i32_144 : BitVec 32) : Fin 4 → Nat :=
  let c2_145 : Index := 2#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let v238 : BitVec 32 := Scalar.addi v122 c0_i32_144
  let v239 : Index := Scalar.indexCast v238
  let c0_146 : Index := 0#32
  let c0_147 : Index := 0#32
  ![2, v239.toNat, 0, 0]
def k0_mult4 (i : grid0.Coords) (k0_t1 : Fin (k0_t1_loop i).trips) : BitVec 32 :=
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32_160 : BitVec 32 := 384#32
  let v285 : BitVec 32 := Scalar.muli v122 c384_i32_160
  v285
def k0_off7 (i : grid0.Coords) (k0_t1 : Fin (k0_t1_loop i).trips) : Fin 4 → Nat :=
  let c0_161 : Index := 0#32
  let c3_162 : Index := 3#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let c384_i32_160 : BitVec 32 := 384#32
  let v285 : BitVec 32 := Scalar.muli v122 c384_i32_160
  let v286 : BitVec 32 := v285
  let v287 : Index := Scalar.indexCast v286
  let c0_163 : Index := 0#32
  ![0, 3, v287.toNat, 0]
def k0_off8 (i : grid0.Coords) (k0_t1 : Fin (k0_t1_loop i).trips) (c0_i32_165 : BitVec 32) : Fin 4 → Nat :=
  let c3_166 : Index := 3#32
  let c4_i32 : BitVec 32 := 4#32
  let c0_i32 : BitVec 32 := 0#32
  let c1_i32_17 : BitVec 32 := 1#32
  let arg10 : BitVec 32 := Scf.iv c0_i32 c1_i32_17 k0_t1
  let v122 : BitVec 32 := Scalar.muli c4_i32 arg10
  let v292 : BitVec 32 := Scalar.addi v122 c0_i32_165
  let v293 : Index := Scalar.indexCast v292
  let c0_167 : Index := 0#32
  let c0_168 : Index := 0#32
  ![3, v293.toNat, 0, 0]
@[reducible] def k0_t2_loop (i : grid0.Coords) : Scf.Loop 32 :=
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let v16 : BitVec 32 := Scalar.addi c0_i32 v15
  let c1_i32_18 : BitVec 32 := 1#32
  ⟨v19, v16, c1_i32_18⟩
def k0_mult5 (i : grid0.Coords) (k0_t2 : Fin (k0_t2_loop i).trips) : BitVec 32 :=
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32 : BitVec 32 := 384#32
  let v123 : BitVec 32 := Scalar.muli v122 c384_i32
  v123
def k0_off9 (i : grid0.Coords) (k0_t2 : Fin (k0_t2_loop i).trips) : Fin 4 → Nat :=
  let c0_99 : Index := 0#32
  let c0_100 : Index := 0#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32 : BitVec 32 := 384#32
  let v123 : BitVec 32 := Scalar.muli v122 c384_i32
  let v124 : BitVec 32 := v123
  let v125 : Index := Scalar.indexCast v124
  let c0_101 : Index := 0#32
  ![0, 0, v125.toNat, 0]
def k0_off10 (i : grid0.Coords) (k0_t2 : Fin (k0_t2_loop i).trips) (c0_i32_103 : BitVec 32) : Fin 4 → Nat :=
  let c0_104 : Index := 0#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let v130 : BitVec 32 := Scalar.addi v122 c0_i32_103
  let v131 : Index := Scalar.indexCast v130
  let c0_105 : Index := 0#32
  let c0_106 : Index := 0#32
  ![0, v131.toNat, 0, 0]
def k0_mult6 (i : grid0.Coords) (k0_t2 : Fin (k0_t2_loop i).trips) : BitVec 32 :=
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32_118 : BitVec 32 := 384#32
  let v177 : BitVec 32 := Scalar.muli v122 c384_i32_118
  v177
def k0_off11 (i : grid0.Coords) (k0_t2 : Fin (k0_t2_loop i).trips) : Fin 4 → Nat :=
  let c0_119 : Index := 0#32
  let c1_120 : Index := 1#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32_118 : BitVec 32 := 384#32
  let v177 : BitVec 32 := Scalar.muli v122 c384_i32_118
  let v178 : BitVec 32 := v177
  let v179 : Index := Scalar.indexCast v178
  let c0_121 : Index := 0#32
  ![0, 1, v179.toNat, 0]
def k0_off12 (i : grid0.Coords) (k0_t2 : Fin (k0_t2_loop i).trips) (c0_i32_123 : BitVec 32) : Fin 4 → Nat :=
  let c1_124 : Index := 1#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let v184 : BitVec 32 := Scalar.addi v122 c0_i32_123
  let v185 : Index := Scalar.indexCast v184
  let c0_125 : Index := 0#32
  let c0_126 : Index := 0#32
  ![1, v185.toNat, 0, 0]
def k0_mult7 (i : grid0.Coords) (k0_t2 : Fin (k0_t2_loop i).trips) : BitVec 32 :=
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32_139 : BitVec 32 := 384#32
  let v231 : BitVec 32 := Scalar.muli v122 c384_i32_139
  v231
def k0_off13 (i : grid0.Coords) (k0_t2 : Fin (k0_t2_loop i).trips) : Fin 4 → Nat :=
  let c0_140 : Index := 0#32
  let c2_141 : Index := 2#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32_139 : BitVec 32 := 384#32
  let v231 : BitVec 32 := Scalar.muli v122 c384_i32_139
  let v232 : BitVec 32 := v231
  let v233 : Index := Scalar.indexCast v232
  let c0_142 : Index := 0#32
  ![0, 2, v233.toNat, 0]
def k0_off14 (i : grid0.Coords) (k0_t2 : Fin (k0_t2_loop i).trips) (c0_i32_144 : BitVec 32) : Fin 4 → Nat :=
  let c2_145 : Index := 2#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let v238 : BitVec 32 := Scalar.addi v122 c0_i32_144
  let v239 : Index := Scalar.indexCast v238
  let c0_146 : Index := 0#32
  let c0_147 : Index := 0#32
  ![2, v239.toNat, 0, 0]
def k0_mult8 (i : grid0.Coords) (k0_t2 : Fin (k0_t2_loop i).trips) : BitVec 32 :=
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32_160 : BitVec 32 := 384#32
  let v285 : BitVec 32 := Scalar.muli v122 c384_i32_160
  v285
def k0_off15 (i : grid0.Coords) (k0_t2 : Fin (k0_t2_loop i).trips) : Fin 4 → Nat :=
  let c0_161 : Index := 0#32
  let c3_162 : Index := 3#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let c384_i32_160 : BitVec 32 := 384#32
  let v285 : BitVec 32 := Scalar.muli v122 c384_i32_160
  let v286 : BitVec 32 := v285
  let v287 : Index := Scalar.indexCast v286
  let c0_163 : Index := 0#32
  ![0, 3, v287.toNat, 0]
def k0_off16 (i : grid0.Coords) (k0_t2 : Fin (k0_t2_loop i).trips) (c0_i32_165 : BitVec 32) : Fin 4 → Nat :=
  let c3_166 : Index := 3#32
  let c4_i32 : BitVec 32 := 4#32
  let c0_i32 : BitVec 32 := 0#32
  let arg2 : BitVec 32 := BitVec.ofNat 32 (i 2).val
  let c2_i32 : BitVec 32 := 2#32
  let v10 : BitVec 32 := Scalar.shrui arg2 c2_i32
  let v15 : BitVec 32 := Scalar.subi v10 c0_i32
  let c1_i32_16 : BitVec 32 := 1#32
  let v17 : BitVec 32 := Scalar.divsi v15 c1_i32_16
  let v18 : BitVec 32 := Scalar.muli v17 c1_i32_16
  let v19 : BitVec 32 := Scalar.addi c0_i32 v18
  let c1_i32_18 : BitVec 32 := 1#32
  let arg10 : BitVec 32 := Scf.iv v19 c1_i32_18 k0_t2
  let v122 : BitVec 32 := Scalar.muli c4_i32 arg10
  let v292 : BitVec 32 := Scalar.addi v122 c0_i32_165
  let v293 : Index := Scalar.indexCast v292
  let c0_167 : Index := 0#32
  let c0_168 : Index := 0#32
  ![3, v293.toNat, 0, 0]
def k0_cond1 (i : grid0.Coords) : BitVec 1 :=
  let arg2 : BitVec 32 := BitVec.ofNat 32 (i 2).val
  let c2_i32_31 : BitVec 32 := 2#32
  let v34 : BitVec 32 := Scalar.andi arg2 c2_i32_31
  let c0_i32_32 : BitVec 32 := 0#32
  let v35 : BitVec 1 := Scalar.cmpi .ne v34 c0_i32_32
  let v36 : BitVec 32 := Scalar.extui v35
  let c0_i32_33 : BitVec 32 := 0#32
  let v37 : BitVec 1 := Scalar.cmpi .ne v36 c0_i32_33
  v37

def k0_mult9 (i : grid0.Coords) : BitVec 32 :=
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32 : BitVec 32 := 384#32
  let v131 : BitVec 32 := Scalar.muli v122 c384_i32
  v131
def k0_off17 (i : grid0.Coords) : Fin 4 → Nat :=
  let c0_111 : Index := 0#32
  let c0_112 : Index := 0#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32 : BitVec 32 := 384#32
  let v131 : BitVec 32 := Scalar.muli v122 c384_i32
  let v132 : BitVec 32 := v131
  let v133 : Index := Scalar.indexCast v132
  let c0_113 : Index := 0#32
  ![0, 0, v133.toNat, 0]
def k0_off18 (i : grid0.Coords) (c0_i32_115 : BitVec 32) : Fin 4 → Nat :=
  let c0_116 : Index := 0#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let v138 : BitVec 32 := Scalar.addi v122 c0_i32_115
  let v139 : Index := Scalar.indexCast v138
  let c0_117 : Index := 0#32
  let c0_118 : Index := 0#32
  ![0, v139.toNat, 0, 0]
def k0_mult10 (i : grid0.Coords) : BitVec 32 :=
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32_123 : BitVec 32 := 384#32
  let v161 : BitVec 32 := Scalar.muli v122 c384_i32_123
  v161
def k0_off19 (i : grid0.Coords) : Fin 4 → Nat :=
  let c0_124 : Index := 0#32
  let c1_125 : Index := 1#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32_123 : BitVec 32 := 384#32
  let v161 : BitVec 32 := Scalar.muli v122 c384_i32_123
  let v162 : BitVec 32 := v161
  let v163 : Index := Scalar.indexCast v162
  let c0_126 : Index := 0#32
  ![0, 1, v163.toNat, 0]
def k0_off20 (i : grid0.Coords) (c0_i32_128 : BitVec 32) : Fin 4 → Nat :=
  let c1_129 : Index := 1#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let v168 : BitVec 32 := Scalar.addi v122 c0_i32_128
  let v169 : Index := Scalar.indexCast v168
  let c0_130 : Index := 0#32
  let c0_131 : Index := 0#32
  ![1, v169.toNat, 0, 0]
def k0_mult11 (i : grid0.Coords) : BitVec 32 :=
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32_136 : BitVec 32 := 384#32
  let v191 : BitVec 32 := Scalar.muli v122 c384_i32_136
  v191
def k0_off21 (i : grid0.Coords) : Fin 4 → Nat :=
  let c0_137 : Index := 0#32
  let c2_138 : Index := 2#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32_136 : BitVec 32 := 384#32
  let v191 : BitVec 32 := Scalar.muli v122 c384_i32_136
  let v192 : BitVec 32 := v191
  let v193 : Index := Scalar.indexCast v192
  let c0_139 : Index := 0#32
  ![0, 2, v193.toNat, 0]
def k0_off22 (i : grid0.Coords) (c0_i32_141 : BitVec 32) : Fin 4 → Nat :=
  let c2_142 : Index := 2#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let v198 : BitVec 32 := Scalar.addi v122 c0_i32_141
  let v199 : Index := Scalar.indexCast v198
  let c0_143 : Index := 0#32
  let c0_144 : Index := 0#32
  ![2, v199.toNat, 0, 0]
def k0_mult12 (i : grid0.Coords) : BitVec 32 :=
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32_149 : BitVec 32 := 384#32
  let v221 : BitVec 32 := Scalar.muli v122 c384_i32_149
  v221
def k0_off23 (i : grid0.Coords) : Fin 4 → Nat :=
  let c0_150 : Index := 0#32
  let c3_151 : Index := 3#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let c384_i32_149 : BitVec 32 := 384#32
  let v221 : BitVec 32 := Scalar.muli v122 c384_i32_149
  let v222 : BitVec 32 := v221
  let v223 : Index := Scalar.indexCast v222
  let c0_152 : Index := 0#32
  ![0, 3, v223.toNat, 0]
def k0_off24 (i : grid0.Coords) (c0_i32_154 : BitVec 32) : Fin 4 → Nat :=
  let c3_155 : Index := 3#32
  let c4_i32 : BitVec 32 := 4#32
  let arg2 : BitVec 32 := BitVec.ofNat 32 (i 2).val
  let c2_i32 : BitVec 32 := 2#32
  let v10 : BitVec 32 := Scalar.shrui arg2 c2_i32
  let v122 : BitVec 32 := Scalar.muli c4_i32 v10
  let v228 : BitVec 32 := Scalar.addi v122 c0_i32_154
  let v229 : Index := Scalar.indexCast v228
  let c0_156 : Index := 0#32
  let c0_157 : Index := 0#32
  ![3, v229.toNat, 0, 0]
def k0_cond2 (i : grid0.Coords) : BitVec 1 :=
  let arg2 : BitVec 32 := BitVec.ofNat 32 (i 2).val
  let c1_i32 : BitVec 32 := 1#32
  let v8 : BitVec 32 := Scalar.andi arg2 c1_i32
  let c1_i32_12 : BitVec 32 := 1#32
  let v9 : BitVec 1 := Scalar.cmpi .eq v8 c1_i32_12
  let v41 : BitVec 32 := Scalar.extui v9
  let c0_i32_34 : BitVec 32 := 0#32
  let v42 : BitVec 1 := Scalar.cmpi .ne v41 c0_i32_34
  v42

def k0_mult13 (i : grid0.Coords) : BitVec 32 :=
  let arg2 : BitVec 32 := BitVec.ofNat 32 (i 2).val
  let c1_i32_99 : BitVec 32 := 1#32
  let v122 : BitVec 32 := Scalar.subi arg2 c1_i32_99
  let c384_i32 : BitVec 32 := 384#32
  let v123 : BitVec 32 := Scalar.muli v122 c384_i32
  v123
def k0_off25 (i : grid0.Coords) : Fin 4 → Nat :=
  let c0_100 : Index := 0#32
  let c0_101 : Index := 0#32
  let arg2 : BitVec 32 := BitVec.ofNat 32 (i 2).val
  let c1_i32_99 : BitVec 32 := 1#32
  let v122 : BitVec 32 := Scalar.subi arg2 c1_i32_99
  let c384_i32 : BitVec 32 := 384#32
  let v123 : BitVec 32 := Scalar.muli v122 c384_i32
  let v124 : BitVec 32 := v123
  let v125 : Index := Scalar.indexCast v124
  let c0_102 : Index := 0#32
  ![0, 0, v125.toNat, 0]
def k0_off26 (i : grid0.Coords) : Fin 4 → Nat :=
  let c0_106 : Index := 0#32
  let arg2 : BitVec 32 := BitVec.ofNat 32 (i 2).val
  let c1_i32_105 : BitVec 32 := 1#32
  let v133 : BitVec 32 := Scalar.subi arg2 c1_i32_105
  let v134 : Index := Scalar.indexCast v133
  let c0_107 : Index := 0#32
  let c0_108 : Index := 0#32
  ![0, v134.toNat, 0, 0]
def k0_off27 (i : grid0.Coords) : Fin 4 → Nat :=
  let c0_109 : Index := 0#32
  let arg2 : BitVec 32 := BitVec.ofNat 32 (i 2).val
  let v138 : Index := Scalar.indexCast arg2
  let c0_110 : Index := 0#32
  let c0_111 : Index := 0#32
  ![0, v138.toNat, 0, 0]
def k0_mult14 (i : grid0.Coords) : BitVec 32 :=
  let arg2 : BitVec 32 := BitVec.ofNat 32 (i 2).val
  let c1_i32_118 : BitVec 32 := 1#32
  let v159 : BitVec 32 := Scalar.subi arg2 c1_i32_118
  let c384_i32_119 : BitVec 32 := 384#32
  let v160 : BitVec 32 := Scalar.muli v159 c384_i32_119
  v160
def k0_off28 (i : grid0.Coords) : Fin 4 → Nat :=
  let c0_120 : Index := 0#32
  let c1_121 : Index := 1#32
  let arg2 : BitVec 32 := BitVec.ofNat 32 (i 2).val
  let c1_i32_118 : BitVec 32 := 1#32
  let v159 : BitVec 32 := Scalar.subi arg2 c1_i32_118
  let c384_i32_119 : BitVec 32 := 384#32
  let v160 : BitVec 32 := Scalar.muli v159 c384_i32_119
  let v161 : BitVec 32 := v160
  let v162 : Index := Scalar.indexCast v161
  let c0_122 : Index := 0#32
  ![0, 1, v162.toNat, 0]
def k0_off29 (i : grid0.Coords) : Fin 4 → Nat :=
  let c1_126 : Index := 1#32
  let arg2 : BitVec 32 := BitVec.ofNat 32 (i 2).val
  let c1_i32_125 : BitVec 32 := 1#32
  let v170 : BitVec 32 := Scalar.subi arg2 c1_i32_125
  let v171 : Index := Scalar.indexCast v170
  let c0_127 : Index := 0#32
  let c0_128 : Index := 0#32
  ![1, v171.toNat, 0, 0]
def k0_off30 (i : grid0.Coords) : Fin 4 → Nat :=
  let c1_129 : Index := 1#32
  let arg2 : BitVec 32 := BitVec.ofNat 32 (i 2).val
  let v175 : Index := Scalar.indexCast arg2
  let c0_130 : Index := 0#32
  let c0_131 : Index := 0#32
  ![1, v175.toNat, 0, 0]
def k0_mult15 (i : grid0.Coords) : BitVec 32 :=
  let arg2 : BitVec 32 := BitVec.ofNat 32 (i 2).val
  let c1_i32_138 : BitVec 32 := 1#32
  let v196 : BitVec 32 := Scalar.subi arg2 c1_i32_138
  let c384_i32_139 : BitVec 32 := 384#32
  let v197 : BitVec 32 := Scalar.muli v196 c384_i32_139
  v197
def k0_off31 (i : grid0.Coords) : Fin 4 → Nat :=
  let c0_140 : Index := 0#32
  let c2_141 : Index := 2#32
  let arg2 : BitVec 32 := BitVec.ofNat 32 (i 2).val
  let c1_i32_138 : BitVec 32 := 1#32
  let v196 : BitVec 32 := Scalar.subi arg2 c1_i32_138
  let c384_i32_139 : BitVec 32 := 384#32
  let v197 : BitVec 32 := Scalar.muli v196 c384_i32_139
  let v198 : BitVec 32 := v197
  let v199 : Index := Scalar.indexCast v198
  let c0_142 : Index := 0#32
  ![0, 2, v199.toNat, 0]
def k0_off32 (i : grid0.Coords) : Fin 4 → Nat :=
  let c2_146 : Index := 2#32
  let arg2 : BitVec 32 := BitVec.ofNat 32 (i 2).val
  let c1_i32_145 : BitVec 32 := 1#32
  let v207 : BitVec 32 := Scalar.subi arg2 c1_i32_145
  let v208 : Index := Scalar.indexCast v207
  let c0_147 : Index := 0#32
  let c0_148 : Index := 0#32
  ![2, v208.toNat, 0, 0]
def k0_off33 (i : grid0.Coords) : Fin 4 → Nat :=
  let c2_149 : Index := 2#32
  let arg2 : BitVec 32 := BitVec.ofNat 32 (i 2).val
  let v212 : Index := Scalar.indexCast arg2
  let c0_150 : Index := 0#32
  let c0_151 : Index := 0#32
  ![2, v212.toNat, 0, 0]
def k0_mult16 (i : grid0.Coords) : BitVec 32 :=
  let arg2 : BitVec 32 := BitVec.ofNat 32 (i 2).val
  let c1_i32_158 : BitVec 32 := 1#32
  let v233 : BitVec 32 := Scalar.subi arg2 c1_i32_158
  let c384_i32_159 : BitVec 32 := 384#32
  let v234 : BitVec 32 := Scalar.muli v233 c384_i32_159
  v234
def k0_off34 (i : grid0.Coords) : Fin 4 → Nat :=
  let c0_160 : Index := 0#32
  let c3_161 : Index := 3#32
  let arg2 : BitVec 32 := BitVec.ofNat 32 (i 2).val
  let c1_i32_158 : BitVec 32 := 1#32
  let v233 : BitVec 32 := Scalar.subi arg2 c1_i32_158
  let c384_i32_159 : BitVec 32 := 384#32
  let v234 : BitVec 32 := Scalar.muli v233 c384_i32_159
  let v235 : BitVec 32 := v234
  let v236 : Index := Scalar.indexCast v235
  let c0_162 : Index := 0#32
  ![0, 3, v236.toNat, 0]
def k0_off35 (i : grid0.Coords) : Fin 4 → Nat :=
  let c3_166 : Index := 3#32
  let arg2 : BitVec 32 := BitVec.ofNat 32 (i 2).val
  let c1_i32_165 : BitVec 32 := 1#32
  let v244 : BitVec 32 := Scalar.subi arg2 c1_i32_165
  let v245 : Index := Scalar.indexCast v244
  let c0_167 : Index := 0#32
  let c0_168 : Index := 0#32
  ![3, v245.toNat, 0, 0]
def k0_off36 (i : grid0.Coords) : Fin 4 → Nat :=
  let c3_169 : Index := 3#32
  let arg2 : BitVec 32 := BitVec.ofNat 32 (i 2).val
  let v249 : Index := Scalar.indexCast arg2
  let c0_170 : Index := 0#32
  let c0_171 : Index := 0#32
  ![3, v249.toNat, 0, 0]
def k0_cond3 (i : grid0.Coords) : BitVec 1 :=
  let arg2 : BitVec 32 := BitVec.ofNat 32 (i 2).val
  let c1_i32 : BitVec 32 := 1#32
  let v8 : BitVec 32 := Scalar.andi arg2 c1_i32
  let c1_i32_12 : BitVec 32 := 1#32
  let v9 : BitVec 1 := Scalar.cmpi .eq v8 c1_i32_12
  let v_true : BitVec 1 := 1#1
  let v43 : BitVec 1 := Scalar.xori v9 v_true
  let v44 : BitVec 32 := Scalar.extui v43
  let c0_i32_35 : BitVec 32 := 0#32
  let v45 : BitVec 1 := Scalar.cmpi .ne v44 c0_i32_35
  v45

def k0_mult17 (i : grid0.Coords) : BitVec 32 :=
  let arg2 : BitVec 32 := BitVec.ofNat 32 (i 2).val
  let c384_i32 : BitVec 32 := 384#32
  let v122 : BitVec 32 := Scalar.muli arg2 c384_i32
  v122
def k0_off37 (i : grid0.Coords) : Fin 4 → Nat :=
  let c0_99 : Index := 0#32
  let c0_100 : Index := 0#32
  let arg2 : BitVec 32 := BitVec.ofNat 32 (i 2).val
  let c384_i32 : BitVec 32 := 384#32
  let v122 : BitVec 32 := Scalar.muli arg2 c384_i32
  let v123 : BitVec 32 := v122
  let v124 : Index := Scalar.indexCast v123
  let c0_101 : Index := 0#32
  ![0, 0, v124.toNat, 0]
def k0_off38 (i : grid0.Coords) : Fin 4 → Nat :=
  let c0_104 : Index := 0#32
  let arg2 : BitVec 32 := BitVec.ofNat 32 (i 2).val
  let v130 : Index := Scalar.indexCast arg2
  let c0_105 : Index := 0#32
  let c0_106 : Index := 0#32
  ![0, v130.toNat, 0, 0]
def k0_mult18 (i : grid0.Coords) : BitVec 32 :=
  let arg2 : BitVec 32 := BitVec.ofNat 32 (i 2).val
  let c384_i32_113 : BitVec 32 := 384#32
  let v145 : BitVec 32 := Scalar.muli arg2 c384_i32_113
  v145
def k0_off39 (i : grid0.Coords) : Fin 4 → Nat :=
  let c0_114 : Index := 0#32
  let c1_115 : Index := 1#32
  let arg2 : BitVec 32 := BitVec.ofNat 32 (i 2).val
  let c384_i32_113 : BitVec 32 := 384#32
  let v145 : BitVec 32 := Scalar.muli arg2 c384_i32_113
  let v146 : BitVec 32 := v145
  let v147 : Index := Scalar.indexCast v146
  let c0_116 : Index := 0#32
  ![0, 1, v147.toNat, 0]
def k0_off40 (i : grid0.Coords) : Fin 4 → Nat :=
  let c1_119 : Index := 1#32
  let arg2 : BitVec 32 := BitVec.ofNat 32 (i 2).val
  let v153 : Index := Scalar.indexCast arg2
  let c0_120 : Index := 0#32
  let c0_121 : Index := 0#32
  ![1, v153.toNat, 0, 0]
def k0_mult19 (i : grid0.Coords) : BitVec 32 :=
  let arg2 : BitVec 32 := BitVec.ofNat 32 (i 2).val
  let c384_i32_128 : BitVec 32 := 384#32
  let v168 : BitVec 32 := Scalar.muli arg2 c384_i32_128
  v168
def k0_off41 (i : grid0.Coords) : Fin 4 → Nat :=
  let c0_129 : Index := 0#32
  let c2_130 : Index := 2#32
  let arg2 : BitVec 32 := BitVec.ofNat 32 (i 2).val
  let c384_i32_128 : BitVec 32 := 384#32
  let v168 : BitVec 32 := Scalar.muli arg2 c384_i32_128
  let v169 : BitVec 32 := v168
  let v170 : Index := Scalar.indexCast v169
  let c0_131 : Index := 0#32
  ![0, 2, v170.toNat, 0]
def k0_off42 (i : grid0.Coords) : Fin 4 → Nat :=
  let c2_134 : Index := 2#32
  let arg2 : BitVec 32 := BitVec.ofNat 32 (i 2).val
  let v176 : Index := Scalar.indexCast arg2
  let c0_135 : Index := 0#32
  let c0_136 : Index := 0#32
  ![2, v176.toNat, 0, 0]
def k0_mult20 (i : grid0.Coords) : BitVec 32 :=
  let arg2 : BitVec 32 := BitVec.ofNat 32 (i 2).val
  let c384_i32_143 : BitVec 32 := 384#32
  let v191 : BitVec 32 := Scalar.muli arg2 c384_i32_143
  v191
def k0_off43 (i : grid0.Coords) : Fin 4 → Nat :=
  let c0_144 : Index := 0#32
  let c3_145 : Index := 3#32
  let arg2 : BitVec 32 := BitVec.ofNat 32 (i 2).val
  let c384_i32_143 : BitVec 32 := 384#32
  let v191 : BitVec 32 := Scalar.muli arg2 c384_i32_143
  let v192 : BitVec 32 := v191
  let v193 : Index := Scalar.indexCast v192
  let c0_146 : Index := 0#32
  ![0, 3, v193.toNat, 0]
def k0_off44 (i : grid0.Coords) : Fin 4 → Nat :=
  let c3_149 : Index := 3#32
  let arg2 : BitVec 32 := BitVec.ofNat 32 (i 2).val
  let v199 : Index := Scalar.indexCast arg2
  let c0_150 : Index := 0#32
  let c0_151 : Index := 0#32
  ![3, v199.toNat, 0, 0]
@[reducible] def k0_t3_loop (i : grid0.Coords) : Scf.Loop 32 :=
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_60 : BitVec 32 := 1#32
  ⟨c0_i32_58, v72, c1_i32_60⟩
def k0_off45 (i : grid0.Coords) (k0_t3 : Fin (k0_t3_loop i).trips) (c0_i32_99 : BitVec 32) : Fin 4 → Nat :=
  let c0_100 : Index := 0#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let v123 : BitVec 32 := Scalar.addi v122 c0_i32_99
  let v124 : Index := Scalar.indexCast v123
  let c0_101 : Index := 0#32
  let c0_102 : Index := 0#32
  ![0, v124.toNat, 0, 0]
def k0_mult21 (i : grid0.Coords) (k0_t3 : Fin (k0_t3_loop i).trips) : BitVec 32 :=
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32 : BitVec 32 := 384#32
  let v144 : BitVec 32 := Scalar.muli v122 c384_i32
  v144
def k0_off46 (i : grid0.Coords) (k0_t3 : Fin (k0_t3_loop i).trips) : Fin 4 → Nat :=
  let c0_114 : Index := 0#32
  let c0_115 : Index := 0#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32 : BitVec 32 := 384#32
  let v144 : BitVec 32 := Scalar.muli v122 c384_i32
  let v145 : BitVec 32 := v144
  let v146 : Index := Scalar.indexCast v145
  let c0_116 : Index := 0#32
  ![0, 0, v146.toNat, 0]
def k0_off47 (i : grid0.Coords) (k0_t3 : Fin (k0_t3_loop i).trips) (c0_i32_118 : BitVec 32) : Fin 4 → Nat :=
  let c1_119 : Index := 1#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let v150 : BitVec 32 := Scalar.addi v122 c0_i32_118
  let v151 : Index := Scalar.indexCast v150
  let c0_120 : Index := 0#32
  let c0_121 : Index := 0#32
  ![1, v151.toNat, 0, 0]
def k0_mult22 (i : grid0.Coords) (k0_t3 : Fin (k0_t3_loop i).trips) : BitVec 32 :=
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32_134 : BitVec 32 := 384#32
  let v171 : BitVec 32 := Scalar.muli v122 c384_i32_134
  v171
def k0_off48 (i : grid0.Coords) (k0_t3 : Fin (k0_t3_loop i).trips) : Fin 4 → Nat :=
  let c0_135 : Index := 0#32
  let c1_136 : Index := 1#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32_134 : BitVec 32 := 384#32
  let v171 : BitVec 32 := Scalar.muli v122 c384_i32_134
  let v172 : BitVec 32 := v171
  let v173 : Index := Scalar.indexCast v172
  let c0_137 : Index := 0#32
  ![0, 1, v173.toNat, 0]
def k0_off49 (i : grid0.Coords) (k0_t3 : Fin (k0_t3_loop i).trips) (c0_i32_139 : BitVec 32) : Fin 4 → Nat :=
  let c2_140 : Index := 2#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let v177 : BitVec 32 := Scalar.addi v122 c0_i32_139
  let v178 : Index := Scalar.indexCast v177
  let c0_141 : Index := 0#32
  let c0_142 : Index := 0#32
  ![2, v178.toNat, 0, 0]
def k0_mult23 (i : grid0.Coords) (k0_t3 : Fin (k0_t3_loop i).trips) : BitVec 32 :=
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32_155 : BitVec 32 := 384#32
  let v198 : BitVec 32 := Scalar.muli v122 c384_i32_155
  v198
def k0_off50 (i : grid0.Coords) (k0_t3 : Fin (k0_t3_loop i).trips) : Fin 4 → Nat :=
  let c0_156 : Index := 0#32
  let c2_157 : Index := 2#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32_155 : BitVec 32 := 384#32
  let v198 : BitVec 32 := Scalar.muli v122 c384_i32_155
  let v199 : BitVec 32 := v198
  let v200 : Index := Scalar.indexCast v199
  let c0_158 : Index := 0#32
  ![0, 2, v200.toNat, 0]
def k0_off51 (i : grid0.Coords) (k0_t3 : Fin (k0_t3_loop i).trips) (c0_i32_160 : BitVec 32) : Fin 4 → Nat :=
  let c3_161 : Index := 3#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let v204 : BitVec 32 := Scalar.addi v122 c0_i32_160
  let v205 : Index := Scalar.indexCast v204
  let c0_162 : Index := 0#32
  let c0_163 : Index := 0#32
  ![3, v205.toNat, 0, 0]
def k0_mult24 (i : grid0.Coords) (k0_t3 : Fin (k0_t3_loop i).trips) : BitVec 32 :=
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32_176 : BitVec 32 := 384#32
  let v225 : BitVec 32 := Scalar.muli v122 c384_i32_176
  v225
def k0_off52 (i : grid0.Coords) (k0_t3 : Fin (k0_t3_loop i).trips) : Fin 4 → Nat :=
  let c0_177 : Index := 0#32
  let c3_178 : Index := 3#32
  let c4_i32 : BitVec 32 := 4#32
  let c0_i32_58 : BitVec 32 := 0#32
  let c1_i32_60 : BitVec 32 := 1#32
  let arg10 : BitVec 32 := Scf.iv c0_i32_58 c1_i32_60 k0_t3
  let v122 : BitVec 32 := Scalar.muli c4_i32 arg10
  let c384_i32_176 : BitVec 32 := 384#32
  let v225 : BitVec 32 := Scalar.muli v122 c384_i32_176
  let v226 : BitVec 32 := v225
  let v227 : Index := Scalar.indexCast v226
  let c0_179 : Index := 0#32
  ![0, 3, v227.toNat, 0]
@[reducible] def k0_t4_loop (i : grid0.Coords) : Scf.Loop 32 :=
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let v69 : BitVec 32 := Scalar.addi c0_i32_58 v68
  let c1_i32_61 : BitVec 32 := 1#32
  ⟨v72, v69, c1_i32_61⟩
def k0_off53 (i : grid0.Coords) (k0_t4 : Fin (k0_t4_loop i).trips) (c0_i32_99 : BitVec 32) : Fin 4 → Nat :=
  let c0_100 : Index := 0#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let v123 : BitVec 32 := Scalar.addi v122 c0_i32_99
  let v124 : Index := Scalar.indexCast v123
  let c0_101 : Index := 0#32
  let c0_102 : Index := 0#32
  ![0, v124.toNat, 0, 0]
def k0_mult25 (i : grid0.Coords) (k0_t4 : Fin (k0_t4_loop i).trips) : BitVec 32 :=
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32 : BitVec 32 := 384#32
  let v144 : BitVec 32 := Scalar.muli v122 c384_i32
  v144
def k0_off54 (i : grid0.Coords) (k0_t4 : Fin (k0_t4_loop i).trips) : Fin 4 → Nat :=
  let c0_114 : Index := 0#32
  let c0_115 : Index := 0#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32 : BitVec 32 := 384#32
  let v144 : BitVec 32 := Scalar.muli v122 c384_i32
  let v145 : BitVec 32 := v144
  let v146 : Index := Scalar.indexCast v145
  let c0_116 : Index := 0#32
  ![0, 0, v146.toNat, 0]
def k0_off55 (i : grid0.Coords) (k0_t4 : Fin (k0_t4_loop i).trips) (c0_i32_118 : BitVec 32) : Fin 4 → Nat :=
  let c1_119 : Index := 1#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let v150 : BitVec 32 := Scalar.addi v122 c0_i32_118
  let v151 : Index := Scalar.indexCast v150
  let c0_120 : Index := 0#32
  let c0_121 : Index := 0#32
  ![1, v151.toNat, 0, 0]
def k0_mult26 (i : grid0.Coords) (k0_t4 : Fin (k0_t4_loop i).trips) : BitVec 32 :=
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32_134 : BitVec 32 := 384#32
  let v171 : BitVec 32 := Scalar.muli v122 c384_i32_134
  v171
def k0_off56 (i : grid0.Coords) (k0_t4 : Fin (k0_t4_loop i).trips) : Fin 4 → Nat :=
  let c0_135 : Index := 0#32
  let c1_136 : Index := 1#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32_134 : BitVec 32 := 384#32
  let v171 : BitVec 32 := Scalar.muli v122 c384_i32_134
  let v172 : BitVec 32 := v171
  let v173 : Index := Scalar.indexCast v172
  let c0_137 : Index := 0#32
  ![0, 1, v173.toNat, 0]
def k0_off57 (i : grid0.Coords) (k0_t4 : Fin (k0_t4_loop i).trips) (c0_i32_139 : BitVec 32) : Fin 4 → Nat :=
  let c2_140 : Index := 2#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let v177 : BitVec 32 := Scalar.addi v122 c0_i32_139
  let v178 : Index := Scalar.indexCast v177
  let c0_141 : Index := 0#32
  let c0_142 : Index := 0#32
  ![2, v178.toNat, 0, 0]
def k0_mult27 (i : grid0.Coords) (k0_t4 : Fin (k0_t4_loop i).trips) : BitVec 32 :=
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32_155 : BitVec 32 := 384#32
  let v198 : BitVec 32 := Scalar.muli v122 c384_i32_155
  v198
def k0_off58 (i : grid0.Coords) (k0_t4 : Fin (k0_t4_loop i).trips) : Fin 4 → Nat :=
  let c0_156 : Index := 0#32
  let c2_157 : Index := 2#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32_155 : BitVec 32 := 384#32
  let v198 : BitVec 32 := Scalar.muli v122 c384_i32_155
  let v199 : BitVec 32 := v198
  let v200 : Index := Scalar.indexCast v199
  let c0_158 : Index := 0#32
  ![0, 2, v200.toNat, 0]
def k0_off59 (i : grid0.Coords) (k0_t4 : Fin (k0_t4_loop i).trips) (c0_i32_160 : BitVec 32) : Fin 4 → Nat :=
  let c3_161 : Index := 3#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let v204 : BitVec 32 := Scalar.addi v122 c0_i32_160
  let v205 : Index := Scalar.indexCast v204
  let c0_162 : Index := 0#32
  let c0_163 : Index := 0#32
  ![3, v205.toNat, 0, 0]
def k0_mult28 (i : grid0.Coords) (k0_t4 : Fin (k0_t4_loop i).trips) : BitVec 32 :=
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32_176 : BitVec 32 := 384#32
  let v225 : BitVec 32 := Scalar.muli v122 c384_i32_176
  v225
def k0_off60 (i : grid0.Coords) (k0_t4 : Fin (k0_t4_loop i).trips) : Fin 4 → Nat :=
  let c0_177 : Index := 0#32
  let c3_178 : Index := 3#32
  let c4_i32 : BitVec 32 := 4#32
  let c0_i32_58 : BitVec 32 := 0#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v68 : BitVec 32 := Scalar.subi v63 c0_i32_58
  let c1_i32_59 : BitVec 32 := 1#32
  let v70 : BitVec 32 := Scalar.divsi v68 c1_i32_59
  let v71 : BitVec 32 := Scalar.muli v70 c1_i32_59
  let v72 : BitVec 32 := Scalar.addi c0_i32_58 v71
  let c1_i32_61 : BitVec 32 := 1#32
  let arg10 : BitVec 32 := Scf.iv v72 c1_i32_61 k0_t4
  let v122 : BitVec 32 := Scalar.muli c4_i32 arg10
  let c384_i32_176 : BitVec 32 := 384#32
  let v225 : BitVec 32 := Scalar.muli v122 c384_i32_176
  let v226 : BitVec 32 := v225
  let v227 : Index := Scalar.indexCast v226
  let c0_179 : Index := 0#32
  ![0, 3, v227.toNat, 0]
def k0_cond4 (i : grid0.Coords) : BitVec 1 :=
  let arg2 : BitVec 32 := BitVec.ofNat 32 (i 2).val
  let c1_i32_74 : BitVec 32 := 1#32
  let v87 : BitVec 32 := Scalar.addi arg2 c1_i32_74
  let c2_i32_75 : BitVec 32 := 2#32
  let v88 : BitVec 32 := Scalar.andi v87 c2_i32_75
  let c0_i32_76 : BitVec 32 := 0#32
  let v89 : BitVec 1 := Scalar.cmpi .ne v88 c0_i32_76
  let v90 : BitVec 32 := Scalar.extui v89
  let c0_i32_77 : BitVec 32 := 0#32
  let v91 : BitVec 1 := Scalar.cmpi .ne v90 c0_i32_77
  v91

def k0_off61 (i : grid0.Coords) (c0_i32_99 : BitVec 32) : Fin 4 → Nat :=
  let c0_100 : Index := 0#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let v123 : BitVec 32 := Scalar.addi v122 c0_i32_99
  let v124 : Index := Scalar.indexCast v123
  let c0_101 : Index := 0#32
  let c0_102 : Index := 0#32
  ![0, v124.toNat, 0, 0]
def k0_mult29 (i : grid0.Coords) : BitVec 32 :=
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32 : BitVec 32 := 384#32
  let v136 : BitVec 32 := Scalar.muli v122 c384_i32
  v136
def k0_off62 (i : grid0.Coords) : Fin 4 → Nat :=
  let c0_107 : Index := 0#32
  let c0_108 : Index := 0#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32 : BitVec 32 := 384#32
  let v136 : BitVec 32 := Scalar.muli v122 c384_i32
  let v137 : BitVec 32 := v136
  let v138 : Index := Scalar.indexCast v137
  let c0_109 : Index := 0#32
  ![0, 0, v138.toNat, 0]
def k0_off63 (i : grid0.Coords) (c0_i32_111 : BitVec 32) : Fin 4 → Nat :=
  let c1_112 : Index := 1#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let v142 : BitVec 32 := Scalar.addi v122 c0_i32_111
  let v143 : Index := Scalar.indexCast v142
  let c0_113 : Index := 0#32
  let c0_114 : Index := 0#32
  ![1, v143.toNat, 0, 0]
def k0_mult30 (i : grid0.Coords) : BitVec 32 :=
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32_119 : BitVec 32 := 384#32
  let v155 : BitVec 32 := Scalar.muli v122 c384_i32_119
  v155
def k0_off64 (i : grid0.Coords) : Fin 4 → Nat :=
  let c0_120 : Index := 0#32
  let c1_121 : Index := 1#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32_119 : BitVec 32 := 384#32
  let v155 : BitVec 32 := Scalar.muli v122 c384_i32_119
  let v156 : BitVec 32 := v155
  let v157 : Index := Scalar.indexCast v156
  let c0_122 : Index := 0#32
  ![0, 1, v157.toNat, 0]
def k0_off65 (i : grid0.Coords) (c0_i32_124 : BitVec 32) : Fin 4 → Nat :=
  let c2_125 : Index := 2#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let v161 : BitVec 32 := Scalar.addi v122 c0_i32_124
  let v162 : Index := Scalar.indexCast v161
  let c0_126 : Index := 0#32
  let c0_127 : Index := 0#32
  ![2, v162.toNat, 0, 0]
def k0_mult31 (i : grid0.Coords) : BitVec 32 :=
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32_132 : BitVec 32 := 384#32
  let v174 : BitVec 32 := Scalar.muli v122 c384_i32_132
  v174
def k0_off66 (i : grid0.Coords) : Fin 4 → Nat :=
  let c0_133 : Index := 0#32
  let c2_134 : Index := 2#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32_132 : BitVec 32 := 384#32
  let v174 : BitVec 32 := Scalar.muli v122 c384_i32_132
  let v175 : BitVec 32 := v174
  let v176 : Index := Scalar.indexCast v175
  let c0_135 : Index := 0#32
  ![0, 2, v176.toNat, 0]
def k0_off67 (i : grid0.Coords) (c0_i32_137 : BitVec 32) : Fin 4 → Nat :=
  let c3_138 : Index := 3#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let v180 : BitVec 32 := Scalar.addi v122 c0_i32_137
  let v181 : Index := Scalar.indexCast v180
  let c0_139 : Index := 0#32
  let c0_140 : Index := 0#32
  ![3, v181.toNat, 0, 0]
def k0_mult32 (i : grid0.Coords) : BitVec 32 :=
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32_145 : BitVec 32 := 384#32
  let v193 : BitVec 32 := Scalar.muli v122 c384_i32_145
  v193
def k0_off68 (i : grid0.Coords) : Fin 4 → Nat :=
  let c0_146 : Index := 0#32
  let c3_147 : Index := 3#32
  let c4_i32 : BitVec 32 := 4#32
  let arg2 : BitVec 32 := BitVec.ofNat 32 (i 2).val
  let c1_i32_52 : BitVec 32 := 1#32
  let v62 : BitVec 32 := Scalar.addi arg2 c1_i32_52
  let c2_i32_53 : BitVec 32 := 2#32
  let v63 : BitVec 32 := Scalar.shrui v62 c2_i32_53
  let v122 : BitVec 32 := Scalar.muli c4_i32 v63
  let c384_i32_145 : BitVec 32 := 384#32
  let v193 : BitVec 32 := Scalar.muli v122 c384_i32_145
  let v194 : BitVec 32 := v193
  let v195 : Index := Scalar.indexCast v194
  let c0_148 : Index := 0#32
  ![0, 3, v195.toNat, 0]
def k0_cond5 (i : grid0.Coords) : BitVec 1 :=
  let arg2 : BitVec 32 := BitVec.ofNat 32 (i 2).val
  let c1_i32 : BitVec 32 := 1#32
  let v8 : BitVec 32 := Scalar.andi arg2 c1_i32
  let c1_i32_12 : BitVec 32 := 1#32
  let v9 : BitVec 1 := Scalar.cmpi .eq v8 c1_i32_12
  let true_78 : BitVec 1 := 1#1
  let v92 : BitVec 1 := Scalar.xori v9 true_78
  let v93 : BitVec 32 := Scalar.extui v92
  let c0_i32_79 : BitVec 32 := 0#32
  let v94 : BitVec 1 := Scalar.cmpi .ne v93 c0_i32_79
  v94

def k0_off69 (i : grid0.Coords) : Fin 4 → Nat :=
  let c0_100 : Index := 0#32
  let arg2 : BitVec 32 := BitVec.ofNat 32 (i 2).val
  let c0_i32_99 : BitVec 32 := 0#32
  let v122 : BitVec 32 := Scalar.addi arg2 c0_i32_99
  let v123 : Index := Scalar.indexCast v122
  let c0_101 : Index := 0#32
  let c0_102 : Index := 0#32
  ![0, v123.toNat, 0, 0]
def k0_mult33 (i : grid0.Coords) : BitVec 32 :=
  let arg2 : BitVec 32 := BitVec.ofNat 32 (i 2).val
  let c384_i32 : BitVec 32 := 384#32
  let v130 : BitVec 32 := Scalar.muli arg2 c384_i32
  v130
def k0_off70 (i : grid0.Coords) : Fin 4 → Nat :=
  let c0_103 : Index := 0#32
  let c0_104 : Index := 0#32
  let arg2 : BitVec 32 := BitVec.ofNat 32 (i 2).val
  let c384_i32 : BitVec 32 := 384#32
  let v130 : BitVec 32 := Scalar.muli arg2 c384_i32
  let v131 : BitVec 32 := v130
  let v132 : Index := Scalar.indexCast v131
  let c0_105 : Index := 0#32
  ![0, 0, v132.toNat, 0]
def k0_off71 (i : grid0.Coords) : Fin 4 → Nat :=
  let c1_108 : Index := 1#32
  let arg2 : BitVec 32 := BitVec.ofNat 32 (i 2).val
  let c0_i32_107 : BitVec 32 := 0#32
  let v136 : BitVec 32 := Scalar.addi arg2 c0_i32_107
  let v137 : Index := Scalar.indexCast v136
  let c0_109 : Index := 0#32
  let c0_110 : Index := 0#32
  ![1, v137.toNat, 0, 0]
def k0_mult34 (i : grid0.Coords) : BitVec 32 :=
  let arg2 : BitVec 32 := BitVec.ofNat 32 (i 2).val
  let c384_i32_111 : BitVec 32 := 384#32
  let v144 : BitVec 32 := Scalar.muli arg2 c384_i32_111
  v144
def k0_off72 (i : grid0.Coords) : Fin 4 → Nat :=
  let c0_112 : Index := 0#32
  let c1_113 : Index := 1#32
  let arg2 : BitVec 32 := BitVec.ofNat 32 (i 2).val
  let c384_i32_111 : BitVec 32 := 384#32
  let v144 : BitVec 32 := Scalar.muli arg2 c384_i32_111
  let v145 : BitVec 32 := v144
  let v146 : Index := Scalar.indexCast v145
  let c0_114 : Index := 0#32
  ![0, 1, v146.toNat, 0]
def k0_off73 (i : grid0.Coords) : Fin 4 → Nat :=
  let c2_117 : Index := 2#32
  let arg2 : BitVec 32 := BitVec.ofNat 32 (i 2).val
  let c0_i32_116 : BitVec 32 := 0#32
  let v150 : BitVec 32 := Scalar.addi arg2 c0_i32_116
  let v151 : Index := Scalar.indexCast v150
  let c0_118 : Index := 0#32
  let c0_119 : Index := 0#32
  ![2, v151.toNat, 0, 0]
def k0_mult35 (i : grid0.Coords) : BitVec 32 :=
  let arg2 : BitVec 32 := BitVec.ofNat 32 (i 2).val
  let c384_i32_120 : BitVec 32 := 384#32
  let v158 : BitVec 32 := Scalar.muli arg2 c384_i32_120
  v158
def k0_off74 (i : grid0.Coords) : Fin 4 → Nat :=
  let c0_121 : Index := 0#32
  let c2_122 : Index := 2#32
  let arg2 : BitVec 32 := BitVec.ofNat 32 (i 2).val
  let c384_i32_120 : BitVec 32 := 384#32
  let v158 : BitVec 32 := Scalar.muli arg2 c384_i32_120
  let v159 : BitVec 32 := v158
  let v160 : Index := Scalar.indexCast v159
  let c0_123 : Index := 0#32
  ![0, 2, v160.toNat, 0]
def k0_off75 (i : grid0.Coords) : Fin 4 → Nat :=
  let c3_126 : Index := 3#32
  let arg2 : BitVec 32 := BitVec.ofNat 32 (i 2).val
  let c0_i32_125 : BitVec 32 := 0#32
  let v164 : BitVec 32 := Scalar.addi arg2 c0_i32_125
  let v165 : Index := Scalar.indexCast v164
  let c0_127 : Index := 0#32
  let c0_128 : Index := 0#32
  ![3, v165.toNat, 0, 0]
def k0_mult36 (i : grid0.Coords) : BitVec 32 :=
  let arg2 : BitVec 32 := BitVec.ofNat 32 (i 2).val
  let c384_i32_129 : BitVec 32 := 384#32
  let v172 : BitVec 32 := Scalar.muli arg2 c384_i32_129
  v172
def k0_off76 (i : grid0.Coords) : Fin 4 → Nat :=
  let c0_130 : Index := 0#32
  let c3_131 : Index := 3#32
  let arg2 : BitVec 32 := BitVec.ofNat 32 (i 2).val
  let c384_i32_129 : BitVec 32 := 384#32
  let v172 : BitVec 32 := Scalar.muli arg2 c384_i32_129
  let v173 : BitVec 32 := v172
  let v174 : Index := Scalar.indexCast v173
  let c0_132 : Index := 0#32
  ![0, 3, v174.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S8x4224x8x96 : Shape := ⟨4, ![8, 4224, 8, 96]⟩
abbrev S8x4224x8x64 : Shape := ⟨4, ![8, 4224, 8, 64]⟩
abbrev S8x8x4224x4224 : Shape := ⟨4, ![8, 8, 4224, 4224]⟩
abbrev S_ : Shape := ⟨0, ![]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S8x8x4224 : Shape := ⟨3, ![8, 8, 4224]⟩
abbrev S8x8x4224x1 : Shape := ⟨4, ![8, 8, 4224, 1]⟩
abbrev S8x8x64x4224 : Shape := ⟨4, ![8, 8, 64, 4224]⟩
abbrev S8x4224x512 : Shape := ⟨3, ![8, 4224, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x4224x8x96, .f32⟩
  | .hbm, ⟨1, _⟩ => ⟨S8x4224x8x96, .f32⟩
  | .hbm, ⟨2, _⟩ => ⟨S8x4224x8x64, .f32⟩
  | .hbm, ⟨3, _⟩ => ⟨S8x8x4224x4224, .f32⟩
  | .hbm, ⟨4, _⟩ => ⟨S_, .f32⟩
  | .hbm, ⟨5, _⟩ => ⟨S_, .f32⟩
  | .hbm, ⟨6, _⟩ => ⟨S8x8x4224x4224, .f32⟩
  | .hbm, ⟨7, _⟩ => ⟨S8x8x4224x4224, .f32⟩
  | .hbm, ⟨8, _⟩ => ⟨S4224, .i32⟩
  | .hbm, ⟨9, _⟩ => ⟨S1x4224, .i32⟩
  | .hbm, ⟨10, _⟩ => ⟨S4224x1, .i32⟩
  | .hbm, ⟨11, _⟩ => ⟨S4224x4224, .i32⟩
  | .hbm, ⟨12, _⟩ => ⟨S4224x4224, .i32⟩
  | .hbm, ⟨13, _⟩ => ⟨S4224x4224, .i1⟩
  | .hbm, ⟨14, _⟩ => ⟨S_, .f32⟩
  | .hbm, ⟨15, _⟩ => ⟨S_, .f32⟩
  | .hbm, ⟨16, _⟩ => ⟨S8x8x4224x4224, .i1⟩
  | .hbm, ⟨17, _⟩ => ⟨S8x8x4224x4224, .f32⟩
  | .hbm, ⟨18, _⟩ => ⟨S8x8x4224x4224, .f32⟩
  | .hbm, ⟨19, _⟩ => ⟨S_, .f32⟩
  | .hbm, ⟨20, _⟩ => ⟨S8x8x4224, .f32⟩
  | .hbm, ⟨21, _⟩ => ⟨S_, .f32⟩
  | .hbm, ⟨22, _⟩ => ⟨S8x8x4224, .f32⟩
  | .hbm, ⟨23, _⟩ => ⟨S8x8x4224, .f32⟩
  | .hbm, ⟨24, _⟩ => ⟨S8x8x4224x1, .f32⟩
  | .hbm, ⟨25, _⟩ => ⟨S8x8x4224x4224, .f32⟩
  | .hbm, ⟨26, _⟩ => ⟨S8x8x4224x4224, .f32⟩
  | .hbm, ⟨27, _⟩ => ⟨S8x8x4224x4224, .f32⟩
  | .hbm, ⟨28, _⟩ => ⟨S_, .f32⟩
  | .hbm, ⟨29, _⟩ => ⟨S8x8x4224, .f32⟩
  | .hbm, ⟨30, _⟩ => ⟨S8x8x4224x1, .f32⟩
  | .hbm, ⟨31, _⟩ => ⟨S8x8x4224x4224, .f32⟩
  | .hbm, ⟨32, _⟩ => ⟨S8x8x4224x4224, .f32⟩
  | .hbm, ⟨33, _⟩ => ⟨S8x8x64x4224, .f32⟩
  | .hbm, ⟨34, _⟩ => ⟨S8x4224x8x64, .f32⟩
  | .hbm, ⟨35, _⟩ => ⟨S8x4224x512, .f32⟩
  | .hbm, ⟨36, _⟩ => ⟨S8x4224x512, .bf16⟩
  | _, _ => ⟨S8x4224x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Math.lean ====
/-
  The mathematics both kernels are measured against: one row's root-mean-square norm, one row's feed-forward
  layer and one row's gated merge of the three branches, as plain sums over the extended reals; and the one
  regrouping a kernel makes, the hidden axis taken in four parts one after another.
-/
module

public import Idealize.ShloMosaic.PureOps.Ideal
public import Idealize.ShloMosaic.Lib.ValueIdx

@[expose] public section

noncomputable section

namespace Cert.Proof.Math

open Idealize.ShloMosaic

/-- The row divided by the root of its mean square plus epsilon, then scaled by `g`. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The hidden activation at `f`: the square of the positive part of the projected row. -/
def act (h : Fin 1024 → EReal) (W1 : Fin 1024 → Fin 4096 → EReal) (f : Fin 4096) : EReal :=
  max (∑ k : Fin 1024, h k * W1 k f) 0 * max (∑ k : Fin 1024, h k * W1 k f) 0

/-- The feed-forward layer of one row with its residual. -/
def ffn (x g : Fin 1024 → EReal) (W1 : Fin 1024 → Fin 4096 → EReal) (W2 : Fin 4096 → Fin 1024 → EReal) (j : Fin 1024) : EReal :=
  x j + ∑ f : Fin 4096, act (rms x g) W1 f * W2 f j

/-- The three branches of one row, each projected and weighted by its gate, added up. -/
def mixed (a b c : Fin 512 → EReal) (g : Fin 3 → Fin 1024 → EReal) (wa wb wc : Fin 512 → Fin 1024 → EReal) (k : Fin 1024) : EReal :=
  (∑ q : Fin 512, a q * wa q k) * g 0 k + (∑ q : Fin 512, b q * wb q k) * g 1 k + (∑ q : Fin 512, c q * wc q k) * g 2 k

/-- One row's residual and its projected mixture. -/
def merged (x h : Fin 1024 → EReal) (wo : Fin 1024 → Fin 1024 → EReal) (j : Fin 1024) : EReal :=
  x j + ∑ k : Fin 1024, h k * wo k j

/-- A sum over an axis of four equal parts is the parts' sums, added in order. -/
theorem sum_four {K N : Nat} (hN : N = 4 * K) (F : Fin N → EReal) (G : Fin 4 → Fin K → Fin N)
    (hG : ∀ p k, (G p k).val = K * p.val + k.val) (a : EReal) :
    a + ∑ f, F f = a + ∑ k, F (G 0 k) + ∑ k, F (G 1 k) + ∑ k, F (G 2 k) + ∑ k, F (G 3 k) := by
  subst hN
  have e : ∑ f, F f = ∑ q : Fin 4 × Fin K, F (finProdFinEquiv q) := (Equiv.sum_comp finProdFinEquiv F).symm
  have hp : ∀ (p : Fin 4) (k : Fin K), finProdFinEquiv (p, k) = G p k := fun p k =>
    Fin.ext (by rw [finProdFinEquiv_apply_val, hG]; exact Nat.add_comm _ _)
  rw [e, Fintype.sum_prod_type, Fin.sum_univ_four]
  simp only [hp]
  rw [← add_assoc, ← add_assoc, ← add_assoc]

/-- A sum over the hidden axis is its four parts' sums, added in order. -/
theorem sum_parts (F : Fin 4096 → EReal) (a : EReal) :
    a + ∑ f, F f = a + ∑ k : Fin 1024, F ⟨k.val, by have := k.isLt; omega⟩ + ∑ k : Fin 1024, F ⟨1024 + k.val, by have := k.isLt; omega⟩
      + ∑ k : Fin 1024, F ⟨2048 + k.val, by have := k.isLt; omega⟩ + ∑ k : Fin 1024, F ⟨3072 + k.val, by have := k.isLt; omega⟩ := by
  rw [sum_four (K := 1024) rfl F (fun p k => ⟨1024 * p.val + k.val, by have := k.isLt; have := p.isLt; omega⟩) (fun _ _ => rfl) a]
  have e : ∀ (p : Fin 4) (c : Nat) (hc : 1024 * p.val = c) (hp : ∀ k : Fin 1024, 1024 * p.val + k.val < 4096)
      (hq : ∀ k : Fin 1024, c + k.val < 4096),
      ∑ k : Fin 1024, F ⟨1024 * p.val + k.val, hp k⟩ = ∑ k : Fin 1024, F ⟨c + k.val, hq k⟩ := fun p c hc hp hq => by subst hc; rfl
  have e0 : ∀ (hp : ∀ k : Fin 1024, 1024 * (0 : Fin 4).val + k.val < 4096) (hq : ∀ k : Fin 1024, k.val < 4096),
      ∑ k : Fin 1024, F ⟨1024 * (0 : Fin 4).val + k.val, hp k⟩ = ∑ k : Fin 1024, F ⟨k.val, hq k⟩ := fun hp hq =>
    Finset.sum_congr rfl fun k _ => congrArg F (Fin.ext (Nat.zero_add _))
  rw [e0 _ (fun k => by have := k.isLt; omega), e 1 1024 rfl _ (fun k => by have := k.isLt; omega),
    e 2 2048 rfl _ (fun k => by have := k.isLt; omega), e 3 3072 rfl _ (fun k => by have := k.isLt; omega)]

end Cert.Proof.Math

end
-- ==== Proof.MergeBlock.lean ====
/-
  The first merge kernel's block: what one grid point leaves in its output buffer is, row by row, the gated merge of
  the branch rows it was handed onto the residual row, followed by the feed-forward layer (Proof/Math.lean `mixed`,
  `merged`, `ffn`). The residual row is put together in the kernel: the meta rows stand in front of the first tile,
  zero rows behind the last.
-/
module

public import proofs.«01_k».proof.Proof.Gen.KernelIdeal.Frame
public import proofs.«01_k».proof.Proof.Math
public import Idealize.ShloMosaic.Lib.Pipeline.Value
public import Idealize.ShloMosaic.Lib.Pointwise

@[expose] public section

noncomputable section

namespace Cert.Proof.Merge

open Idealize.ShloMosaic Idealize.SL.Sem Cert.KernelIdeal Cert.KernelIdeal.Gen

/-- A gate row from its two halves. -/
def pair (a b : Fin 512 → EReal) (k : Fin 1024) : EReal :=
  if h : k.val < 512 then a ⟨k.val, h⟩ else b ⟨k.val - 512, by have := k.isLt; omega⟩

/-- The residual row `r` of tile `j`: the meta rows in front at the first tile, zero rows behind at the last. -/
def resid (j : Nat) (x : Vec Ideal S352x1024 .f32) (p : Vec Ideal S16x1024 .f32) (r : Fin 352) (k : Fin 1024) : EReal :=
  if j = 0 then (if h : r.val < 16 then p (ix2 ⟨r.val, h⟩ k) else x (ix2 ⟨r.val - 16, by have := r.isLt; omega⟩ k))
  else if j = 11 then (if h : r.val < 240 then x (ix2 ⟨112 + r.val, by omega⟩ k) else 0)
  else x (ix2 r k)

theorem pay2_apply (i : grid0.Coords) (x : Vec Ideal S352x1024 .f32) (p : Vec Ideal S16x1024 .f32) (r : Fin 352) (k : Fin 1024) :
    k0_pay2 (F := Ideal) i x p (ix2 r k) = resid (i 1).val x p r k := by
  have hi : (i 1).val < 12 := (i 1).isLt
  have e0 : Scalar.cmpi .eq (BitVec.ofNat 32 (i 1).val) 0#32 = BitVec.ofBool (decide ((i 1).val = 0)) := by
    generalize (i 1).val = n at hi ⊢
    interval_cases n <;> rfl
  have e1 : Scalar.cmpi .eq (BitVec.ofNat 32 (i 1).val) 11#32 = BitVec.ofBool (decide ((i 1).val = 11)) := by
    generalize (i 1).val = n at hi ⊢
    interval_cases n <;> rfl
  unfold k0_pay2 resid
  simp only [e0, e1]
  have t1 : BitVec.ofBool true = 1#1 := rfl
  have t0 : BitVec.ofBool false = 0#1 := rfl
  by_cases h0 : (i 1).val = 0
  · rw [if_pos h0, decide_eq_true h0, t1, ValueIdx.select_one]
    pointwise
  · rw [if_neg h0, decide_eq_false h0, t0, ValueIdx.select_zero]
    by_cases h1 : (i 1).val = 11
    · rw [if_pos h1, decide_eq_true h1, t1, ValueIdx.select_one]
      pointwise
    · rw [if_neg h1, decide_eq_false h1, t0, ValueIdx.select_zero]
      pointwise

theorem pay3_apply (a : Vec Ideal S352x512 .bf16) (w : Vec Ideal S1x512x1024 .bf16) (g h : Vec Ideal S1x352x512 .bf16) (r : Fin 352) (k : Fin 1024) :
    k0_pay3 (F := Ideal) a w g h (ix2 r k)
      = (∑ q : Fin 512, a (ix2 r q) * w (ix3 0 q k)) * pair (fun q => g (ix3 0 r q)) (fun q => h (ix3 0 r q)) k := by
  unfold k0_pay3 pair
  pointwise

theorem pay4_apply (a : Vec Ideal S352x512 .bf16) (w : Vec Ideal S1x512x1024 .bf16) (r : Fin 352) (k : Fin 1024) :
    k0_pay4 (F := Ideal) a w (ix2 r k) = ∑ q : Fin 512, a (ix2 r q) * w (ix3 0 q k) := by
  unfold k0_pay4
  pointwise

theorem pay5_apply (x ya yb : FVec Ideal S352x1024 .f32) (g h : Vec Ideal S1x352x512 .bf16) (c : Vec Ideal S352x512 .bf16)
    (w : Vec Ideal S1x512x1024 .bf16) (g' h' : Vec Ideal S1x352x512 .bf16) (wo : Vec Ideal S1x1024x1024 .bf16) (r : Fin 352) (j : Fin 1024) :
    k0_pay5 (F := Ideal) x ya yb g h c w g' h' wo (ix2 r j)
      = x (ix2 r j) + ∑ k : Fin 1024, (ya (ix2 r k) + yb (ix2 r k) * pair (fun q => g (ix3 0 r q)) (fun q => h (ix3 0 r q)) k
          + (∑ q : Fin 512, c (ix2 r q) * w (ix3 0 q k)) * pair (fun q => g' (ix3 0 r q)) (fun q => h' (ix3 0 r q)) k) * wo (ix3 0 k j) := by
  unfold k0_pay5 pair
  pointwise

theorem pay6_apply (x ya yb : FVec Ideal S352x1024 .f32) (g h : Vec Ideal S1x352x512 .bf16) (c : Vec Ideal S352x512 .bf16)
    (w : Vec Ideal S1x512x1024 .bf16) (g' h' : Vec Ideal S1x352x512 .bf16) (wo : Vec Ideal S1x1024x1024 .bf16) (n : Vec Ideal S1x1024 .f32)
    (r : Fin 352) (k : Fin 1024) :
    k0_pay7 (F := Ideal) (k0_pay6 (F := Ideal) x ya yb g h c w g' h' wo) n (ix2 r k)
      = Math.rms (fun j => k0_pay5 (F := Ideal) x ya yb g h c w g' h' wo (ix2 r j)) (fun j => n (ix2 0 j)) k := by
  unfold k0_pay7 k0_pay6
  generalize k0_pay5 (F := Ideal) x ya yb g h c w g' h' wo = y
  pointwise
  rfl

theorem pay8_apply (y z : FVec Ideal S352x1024 .f32) (n : Vec Ideal S1x1024 .f32) (w v w' v' : Vec Ideal S1x1024x1024 .bf16) (r : Fin 352) (j : Fin 1024) :
    k0_pay8 (F := Ideal) y z n w v w' v' (ix2 r j) = y (ix2 r j)
      + ∑ f : Fin 1024, (max (∑ k : Fin 1024, k0_pay7 (F := Ideal) z n (ix2 r k) * w (ix3 0 k f)) 0
        * max (∑ k : Fin 1024, k0_pay7 (F := Ideal) z n (ix2 r k) * w (ix3 0 k f)) 0) * v (ix3 0 f j)
      + ∑ f : Fin 1024, (max (∑ k : Fin 1024, k0_pay7 (F := Ideal) z n (ix2 r k) * w' (ix3 0 k f)) 0
        * max (∑ k : Fin 1024, k0_pay7 (F := Ideal) z n (ix2 r k) * w' (ix3 0 k f)) 0) * v' (ix3 0 f j) := by
  unfold k0_pay8
  generalize k0_pay7 (F := Ideal) z n = u
  pointwise

theorem pay9_apply (z : FVec Ideal S352x1024 .f32) (n : Vec Ideal S1x1024 .f32) (w : Vec Ideal S1x1024x1024 .bf16) (r : Fin 352) (f : Fin 1024) :
    k0_pay9 (F := Ideal) z n w (ix2 r f) = max (∑ k : Fin 1024, k0_pay7 (F := Ideal) z n (ix2 r k) * w (ix3 0 k f)) 0
        * max (∑ k : Fin 1024, k0_pay7 (F := Ideal) z n (ix2 r k) * w (ix3 0 k f)) 0 := by
  unfold k0_pay9
  generalize k0_pay7 (F := Ideal) z n = u
  pointwise

theorem pay1_apply (u : FVec Ideal S352x1024 .bf16) (y : FVec Ideal S352x1024 .f32) (a : FVec Ideal S352x1024 .bf16)
    (v w v' : Vec Ideal S1x1024x1024 .bf16) (r : Fin 352) (j : Fin 1024) :
    k0_pay1 (F := Ideal) u y a v w v' (ix2 r j) = y (ix2 r j) + ∑ f : Fin 1024, a (ix2 r f) * v (ix3 0 f j)
      + ∑ f : Fin 1024, (max (∑ k : Fin 1024, u (ix2 r k) * w (ix3 0 k f)) 0 * max (∑ k : Fin 1024, u (ix2 r k) * w (ix3 0 k f)) 0) * v' (ix3 0 f j) := by
  unfold k0_pay1
  pointwise

/-- What a point leaves in its output buffer, at row `r` and column `j`. -/
theorem out_apply (i : grid0.Coords) (x0 x1 x2 : Vec Ideal S352x512 .bf16) (x3 : Vec Ideal S6x352x512 .bf16) (x4 : Vec Ideal S352x1024 .f32)
    (x5 : Vec Ideal S16x1024 .f32) (x6 x7 x8 : Vec Ideal S1x512x1024 .bf16) (x9 : Vec Ideal S1x1024x1024 .bf16) (x10 : Vec Ideal S1x1024 .f32)
    (x11 : Vec Ideal S1x1024x4096 .bf16) (x12 : Vec Ideal S1x4096x1024 .bf16) (r : Fin 352) (j : Fin 1024) :
    out0_13 (F := Ideal) i x0 x1 x2 x3 x4 x5 x6 x7 x8 x9 x10 x11 x12 (ix2 r j)
      = Math.ffn (Math.merged (resid (i 1).val x4 x5 r)
          (Math.mixed (fun q => x0 (ix2 r q)) (fun q => x1 (ix2 r q)) (fun q => x2 (ix2 r q))
            ![pair (fun q => x3 (ix3 0 r q)) (fun q => x3 (ix3 1 r q)), pair (fun q => x3 (ix3 2 r q)) (fun q => x3 (ix3 3 r q)),
              pair (fun q => x3 (ix3 4 r q)) (fun q => x3 (ix3 5 r q))]
            (fun q k => x6 (ix3 0 q k)) (fun q k => x7 (ix3 0 q k)) (fun q k => x8 (ix3 0 q k)))
          (fun k j => x9 (ix3 0 k j)))
        (fun k => x10 (ix2 0 k)) (fun k f => x11 (ix3 0 k f)) (fun f k => x12 (ix3 0 f k)) j := by
  have hz0 : (![0, 0] : Fin S352x1024.rank → Nat) = fun _ => 0 := funext fun a => by fin_cases a <;> rfl
  have hz1 : (![0, 0] : Fin S16x1024.rank → Nat) = fun _ => 0 := funext fun a => by fin_cases a <;> rfl
  have hz2 : (![0, 0] : Fin S352x512.rank → Nat) = fun _ => 0 := funext fun a => by fin_cases a <;> rfl
  have hz3 : (![0, 0, 0] : Fin S1x512x1024.rank → Nat) = fun _ => 0 := funext fun a => by fin_cases a <;> rfl
  have hz4 : (![0, 0, 0] : Fin S1x1024x1024.rank → Nat) = fun _ => 0 := funext fun a => by fin_cases a <;> rfl
  have hz5 : (![0, 0] : Fin S1x1024.rank → Nat) = fun _ => 0 := funext fun a => by fin_cases a <;> rfl
  have g0 : ∀ q : Fin 512, View.ld x3 r0_4 (ix3 0 r q) = x3 (ix3 0 r q) := fun q => by pointwise
  have g1 : ∀ q : Fin 512, View.ld x3 r0_5 (ix3 0 r q) = x3 (ix3 1 r q) := fun q => by pointwise
  have g2 : ∀ q : Fin 512, View.ld x3 r0_6 (ix3 0 r q) = x3 (ix3 2 r q) := fun q => by pointwise
  have g3 : ∀ q : Fin 512, View.ld x3 r0_7 (ix3 0 r q) = x3 (ix3 3 r q) := fun q => by pointwise
  have g4 : ∀ q : Fin 512, View.ld x3 r0_8 (ix3 0 r q) = x3 (ix3 4 r q) := fun q => by pointwise
  have g5 : ∀ q : Fin 512, View.ld x3 r0_9 (ix3 0 r q) = x3 (ix3 5 r q) := fun q => by pointwise
  unfold out0_13
  rw [View.canon_unit_zero hz0, pay1_apply, pay8_apply]
  simp only [pay9_apply]
  unfold k0_pay13
  simp only [pay6_apply]
  unfold k0_pay10 k0_pay11 k0_pay12
  simp only [View.ld_unit_zero (S := S352x1024) hz0, View.ld_unit_zero (S := S16x1024) hz1, View.ld_unit_zero (S := S352x512) hz2,
    View.ld_unit_zero (S := S1x512x1024) hz3, View.ld_unit_zero (S := S1x1024x1024) hz4, View.ld_unit_zero (S := S1x1024) hz5]
  simp only [pay5_apply, pay2_apply, pay3_apply, pay4_apply, g0, g1, g2, g3, g4, g5]
  have e : ∀ j : Fin 1024, resid (i 1).val x4 x5 r j + ∑ k : Fin 1024, ((∑ q : Fin 512, x0 (ix2 r q) * x6 (ix3 0 q k)) * pair (fun q => x3 (ix3 0 r q)) (fun q => x3 (ix3 1 r q)) k
        + (∑ q : Fin 512, x1 (ix2 r q) * x7 (ix3 0 q k)) * pair (fun q => x3 (ix3 2 r q)) (fun q => x3 (ix3 3 r q)) k
        + (∑ q : Fin 512, x2 (ix2 r q) * x8 (ix3 0 q k)) * pair (fun q => x3 (ix3 4 r q)) (fun q => x3 (ix3 5 r q)) k) * x9 (ix3 0 k j)
      = Math.merged (resid (i 1).val x4 x5 r)
          (Math.mixed (fun q => x0 (ix2 r q)) (fun q => x1 (ix2 r q)) (fun q => x2 (ix2 r q))
            ![pair (fun q => x3 (ix3 0 r q)) (fun q => x3 (ix3 1 r q)), pair (fun q => x3 (ix3 2 r q)) (fun q => x3 (ix3 3 r q)),
              pair (fun q => x3 (ix3 4 r q)) (fun q => x3 (ix3 5 r q))]
            (fun q k => x6 (ix3 0 q k)) (fun q k => x7 (ix3 0 q k)) (fun q k => x8 (ix3 0 q k)))
          (fun k j => x9 (ix3 0 k j)) j := fun _ => rfl
  simp only [e]
  generalize Math.merged _ _ _ = y
  unfold Math.ffn
  rw [Math.sum_parts]
  unfold Math.act
  pointwise

end Cert.Proof.Merge

end
-- ==== Proof.MergeArray.lean ====
/-
  The first merge kernel's result array. A grid point's residual rows are read at a row offset given in rows, not in
  blocks (the window of a tile starts 16 rows above the tile's rows, moved inside the array at the first and last tile);
  the host's layout steps in front of the call are read back to the arguments, and the blocks put together are the
  layer of every padded row.
-/
module

public import proofs.«01_k».proof.Proof.Gen.KernelIdeal.Value
public import proofs.«01_k».proof.Proof.MergeBlock
public import Idealize.ShloMosaic.Lib.Pipeline.ValueKit

@[expose] public section

noncomputable section

namespace Cert.Proof.Merge

open Idealize.ShloMosaic Idealize.SL.Sem Cert.KernelIdeal Cert.KernelIdeal.Gen Idealize.ShloMosaic.TcCoe
open Idealize.ShloMosaic.Pipeline (Dat)

variable (m : (ℓ : Loc nD τ sig) → Buf (Elt Ideal) ℓ)

/-- Row `l` of the padded sequence: 16 meta rows, the 4096 rows of the batch element, zero rows. -/
def row (x : Vec Ideal S8x4096x1024 .f32) (p : Vec Ideal S16x1024 .f32) (b : Fin 8) (l : Fin 4224) (k : Fin 1024) : EReal :=
  if h : l.val < 16 then p (ix2 ⟨l.val, h⟩ k)
  else if h' : l.val < 4112 then x (ix3 b ⟨l.val - 16, by omega⟩ k)
  else 0

/-- The first layer's merge and feed-forward at padded row `l`. -/
def layer (ha ob oc : Vec Ideal S8x4224x512 .bf16) (gt : Vec Ideal S8x4224x3x1024 .bf16) (x : Vec Ideal S8x4096x1024 .f32)
    (p : Vec Ideal S16x1024 .f32) (wa wb wc : Vec Ideal S2x512x1024 .f32) (wo : Vec Ideal S2x1024x1024 .f32) (g : Vec Ideal S2x1024 .f32)
    (w1 : Vec Ideal S2x1024x4096 .f32) (w2 : Vec Ideal S2x4096x1024 .f32) (b : Fin 8) (l : Fin 4224) (j : Fin 1024) : EReal :=
  Math.ffn (Math.merged (row x p b l)
      (Math.mixed (fun q => ha (ix3 b l q)) (fun q => ob (ix3 b l q)) (fun q => oc (ix3 b l q)) (fun n k => gt (ix4 b l n k))
        (fun q k => wa (ix3 0 q k)) (fun q k => wb (ix3 0 q k)) (fun q k => wc (ix3 0 q k)))
      (fun k j => wo (ix3 0 k j)))
    (fun k => g (ix2 0 k)) (fun k f => w1 (ix3 0 k f)) (fun f k => w2 (ix3 0 f k)) j

/-- Where each window's block starts: the residual window in rows, the others in blocks. -/
theorem idx0 : ∀ t : Fin cfg0.N, win0_0.index t = ![(grid0.coords t 0).val * 12 + (grid0.coords t 1).val, 0] :=
  (by decide +kernel : ∀ t : Fin grid0.N, _)
theorem idx1 : ∀ t : Fin cfg0.N, win0_1.index t = ![(grid0.coords t 0).val * 12 + (grid0.coords t 1).val, 0] :=
  (by decide +kernel : ∀ t : Fin grid0.N, _)
theorem idx2 : ∀ t : Fin cfg0.N, win0_2.index t = ![(grid0.coords t 0).val * 12 + (grid0.coords t 1).val, 0] :=
  (by decide +kernel : ∀ t : Fin grid0.N, _)
theorem idx3 : ∀ t : Fin cfg0.N, win0_3.index t = ![0, (grid0.coords t 0).val * 12 + (grid0.coords t 1).val, 0] :=
  (by decide +kernel : ∀ t : Fin grid0.N, _)
theorem idx4 : ∀ t : Fin cfg0.N, win0_4.index t = ![(grid0.coords t 0).val * 4096 + min 3744 ((grid0.coords t 1).val * 352 - 16), 0] :=
  (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![(grid0.coords t 0).val * 12 + (grid0.coords t 1).val, 0] :=
  (by decide +kernel : ∀ t : Fin grid0.N, _)

/-! The arrays as the call finds them, read back to the arguments. -/

theorem V_ha (c : Dev nD) : V m c main_v8 = shapeCast S33792x512 (m ((c : Thread nD τ).loc main_arg0)) shapeCasts_S8x4224x512_S33792x512 := by
  unfold_abbrev_sides
  after_results <;> rfl
theorem V_ob (c : Dev nD) : V m c main_v9 = shapeCast S33792x512 (m ((c : Thread nD τ).loc main_arg1)) shapeCasts_S8x4224x512_S33792x512 := by
  unfold_abbrev_sides
  after_results <;> rfl
theorem V_oc (c : Dev nD) : V m c main_v10 = shapeCast S33792x512 (m ((c : Thread nD τ).loc main_arg2)) shapeCasts_S8x4224x512_S33792x512 := by
  unfold_abbrev_sides
  after_results <;> rfl
theorem V_gates (c : Dev nD) : V m c main_v11 = shapeCast S6x33792x512 (transpose S6x8x4224x512 [2, 0, 1, 3]
    (shapeCast S8x4224x6x512 (m ((c : Thread nD τ).loc main_arg3)) shapeCasts_S8x4224x3x1024_S8x4224x6x512)
    transposes_S8x4224x6x512_S6x8x4224x512_2_0_1_3) shapeCasts_S6x8x4224x512_S6x33792x512 := by
  unfold_abbrev_sides
  after_results <;> rfl
theorem V_x (c : Dev nD) : V m c main_v15 = shapeCast S32768x1024 (m ((c : Thread nD τ).loc main_arg4)) shapeCasts_S8x4096x1024_S32768x1024 := by
  unfold_abbrev_sides
  after_results <;> rfl
theorem V_meta (c : Dev nD) : V m c main_arg5 = m ((c : Thread nD τ).loc main_arg5) := by
  unfold_abbrev_sides
  after_results <;> rfl
theorem V_wa (c : Dev nD) : V m c main_v0 = m ((c : Thread nD τ).loc main_arg6) := by
  unfold_abbrev_sides
  after_results <;> rfl
theorem V_wb (c : Dev nD) : V m c main_v1 = m ((c : Thread nD τ).loc main_arg7) := by
  unfold_abbrev_sides
  after_results <;> rfl
theorem V_wc (c : Dev nD) : V m c main_v2 = m ((c : Thread nD τ).loc main_arg8) := by
  unfold_abbrev_sides
  after_results <;> rfl
theorem V_wo (c : Dev nD) : V m c main_v3 = m ((c : Thread nD τ).loc main_arg9) := by
  unfold_abbrev_sides
  after_results <;> rfl
theorem V_norm (c : Dev nD) (k : Fin 1024) : V m c main_v14 (ix2 0 k) = m ((c : Thread nD τ).loc main_arg10) (ix2 0 k) := by
  have e : V m c main_v14 = shapeCast S1x1024 (shapeCast S1024 (extractStridedSlice S1x1024 ![0, 0] (m ((c : Thread nD τ).loc main_arg10)) slices_S2x1024_S1x1024_0_0) shapeCasts_S1x1024_S1024) shapeCasts_S1024_S1x1024 := by
    unfold_abbrev_sides
    after_results <;> rfl
  rw [e]
  pointwise
theorem V_w1 (c : Dev nD) : V m c main_v4 = m ((c : Thread nD τ).loc main_arg11) := by
  unfold_abbrev_sides
  after_results <;> rfl
theorem V_w2 (c : Dev nD) : V m c main_v5 = m ((c : Thread nD τ).loc main_arg12) := by
  unfold_abbrev_sides
  after_results <;> rfl

/-- Padded row `l` of batch element `b`, in the run-together rows. -/
theorem flat (c0 c1 r b l : Nat) (hb : b = c0) (hl : l = c1 * 352 + r) : (c0 * 12 + c1) * 352 + r = b * 4224 + l := by
  subst hb; subst hl; omega

theorem blk0_apply (c : Dev nD) (t : Fin cfg0.N) (r : Fin 352) (q : Fin 512) (b : Fin 8) (l : Fin 4224)
    (hb : b.val = (grid0.coords t 0).val) (hl : l.val = (grid0.coords t 1).val * 352 + r.val) :
    iblk m c 0 t (ix2 r q) = m ((c : Thread nD τ).loc main_arg0) (ix3 b l q) := by
  show V m c main_v8 ((win0_0.rect t).emb (ix2 r q)) = _
  rw [V_ha]
  refine shapeCast_apply _ _ _ (ix3 b l q) ?_
  have e0 := Pipeline.Window.rect_emb_val win0_0 t (ix2 r q) 0
  have e1 := Pipeline.Window.rect_emb_val win0_0 t (ix2 r q) 1
  rw [idx0] at e0 e1
  rw [Shape.rowMajor_val_three, Shape.rowMajor_val_two, e0, e1]
  show (b.val * 4224 + l.val) * 512 + q.val = (((grid0.coords t 0).val * 12 + (grid0.coords t 1).val) * 352 + r.val) * 512 + (0 * 512 + q.val)
  rw [flat _ _ _ _ _ hb hl]; omega

theorem blk1_apply (c : Dev nD) (t : Fin cfg0.N) (r : Fin 352) (q : Fin 512) (b : Fin 8) (l : Fin 4224)
    (hb : b.val = (grid0.coords t 0).val) (hl : l.val = (grid0.coords t 1).val * 352 + r.val) :
    iblk m c 1 t (ix2 r q) = m ((c : Thread nD τ).loc main_arg1) (ix3 b l q) := by
  show V m c main_v9 ((win0_1.rect t).emb (ix2 r q)) = _
  rw [V_ob]
  refine shapeCast_apply _ _ _ (ix3 b l q) ?_
  have e0 := Pipeline.Window.rect_emb_val win0_1 t (ix2 r q) 0
  have e1 := Pipeline.Window.rect_emb_val win0_1 t (ix2 r q) 1
  rw [idx1] at e0 e1
  rw [Shape.rowMajor_val_three, Shape.rowMajor_val_two, e0, e1]
  show (b.val * 4224 + l.val) * 512 + q.val = (((grid0.coords t 0).val * 12 + (grid0.coords t 1).val) * 352 + r.val) * 512 + (0 * 512 + q.val)
  rw [flat _ _ _ _ _ hb hl]; omega

theorem blk2_apply (c : Dev nD) (t : Fin cfg0.N) (r : Fin 352) (q : Fin 512) (b : Fin 8) (l : Fin 4224)
    (hb : b.val = (grid0.coords t 0).val) (hl : l.val = (grid0.coords t 1).val * 352 + r.val) :
    iblk m c 2 t (ix2 r q) = m ((c : Thread nD τ).loc main_arg2) (ix3 b l q) := by
  show V m c main_v10 ((win0_2.rect t).emb (ix2 r q)) = _
  rw [V_oc]
  refine shapeCast_apply _ _ _ (ix3 b l q) ?_
  have e0 := Pipeline.Window.rect_emb_val win0_2 t (ix2 r q) 0
  have e1 := Pipeline.Window.rect_emb_val win0_2 t (ix2 r q) 1
  rw [idx2] at e0 e1
  rw [Shape.rowMajor_val_three, Shape.rowMajor_val_two, e0, e1]
  show (b.val * 4224 + l.val) * 512 + q.val = (((grid0.coords t 0).val * 12 + (grid0.coords t 1).val) * 352 + r.val) * 512 + (0 * 512 + q.val)
  rw [flat _ _ _ _ _ hb hl]; omega

/-- A gate chunk: half a gate row, its row and column read back through the chunk layout. -/
theorem blk3_apply (c : Dev nD) (t : Fin cfg0.N) (p : Fin 6) (r : Fin 352) (q : Fin 512) (b : Fin 8) (l : Fin 4224) (n : Fin 3) (k : Fin 1024)
    (hb : b.val = (grid0.coords t 0).val) (hl : l.val = (grid0.coords t 1).val * 352 + r.val) (hk : n.val * 1024 + k.val = p.val * 512 + q.val) :
    iblk m c 3 t (ix3 p r q) = m ((c : Thread nD τ).loc main_arg3) (ix4 b l n k) := by
  show V m c main_v11 ((win0_3.rect t).emb (ix3 p r q)) = _
  rw [V_gates]
  refine (shapeCast_apply _ _ _ (ix4 p b l q) ?_).trans ?_
  · have e0 := Pipeline.Window.rect_emb_val win0_3 t (ix3 p r q) 0
    have e1 := Pipeline.Window.rect_emb_val win0_3 t (ix3 p r q) 1
    have e2 := Pipeline.Window.rect_emb_val win0_3 t (ix3 p r q) 2
    rw [idx3] at e0 e1 e2
    rw [Shape.rowMajor_val_four, Shape.rowMajor_val_three, e0, e1, e2]
    show ((p.val * 8 + b.val) * 4224 + l.val) * 512 + q.val
      = ((0 * 6 + p.val) * 33792 + (((grid0.coords t 0).val * 12 + (grid0.coords t 1).val) * 352 + r.val)) * 512 + (0 * 512 + q.val)
    rw [flat _ _ _ _ _ hb hl]; omega
  · have eT : ∀ x : Vec Ideal S8x4224x6x512 .bf16, transpose S6x8x4224x512 [2, 0, 1, 3] x transposes_S8x4224x6x512_S6x8x4224x512_2_0_1_3 (ix4 p b l q) = x (ix4 b l p q) := fun x => by
      pointwise
    refine (eT _).trans (shapeCast_apply _ _ _ (ix4 b l n k) ?_)
    rw [Shape.rowMajor_val_four, Shape.rowMajor_val_four]
    show ((b.val * 4224 + l.val) * 3 + n.val) * 1024 + k.val = ((b.val * 4224 + l.val) * 6 + p.val) * 512 + q.val
    omega

/-- Two neighbouring gate chunks are one gate's row. -/
theorem gate_apply (c : Dev nD) (t : Fin cfg0.N) (p p' : Fin 6) (r : Fin 352) (b : Fin 8) (l : Fin 4224) (n : Fin 3)
    (hb : b.val = (grid0.coords t 0).val) (hl : l.val = (grid0.coords t 1).val * 352 + r.val) (hp : p.val = 2 * n.val) (hp' : p'.val = 2 * n.val + 1) :
    pair (fun q => iblk m c 3 t (ix3 p r q)) (fun q => iblk m c 3 t (ix3 p' r q)) = fun k => m ((c : Thread nD τ).loc main_arg3) (ix4 b l n k) := by
  funext k
  unfold pair
  split
  · exact blk3_apply m c t p r _ b l n k hb hl (by show _ = p.val * 512 + k.val; omega)
  · exact blk3_apply m c t p' r _ b l n k hb hl (by show _ = p'.val * 512 + (k.val - 512); omega)

/-- A point's residual block, read at its row `r`: 16 rows above the tile's row, moved inside the array. -/
theorem blk4_apply (c : Dev nD) (t : Fin cfg0.N) (r : Fin 352) (k : Fin 1024) (b : Fin 8) (l : Fin 4096)
    (hb : b.val = (grid0.coords t 0).val) (hl : l.val = min 3744 ((grid0.coords t 1).val * 352 - 16) + r.val) :
    iblk m c 4 t (ix2 r k) = m ((c : Thread nD τ).loc main_arg4) (ix3 b l k) := by
  show V m c main_v15 ((win0_4.rect t).emb (ix2 r k)) = _
  rw [V_x]
  refine shapeCast_apply _ _ _ (ix3 b l k) ?_
  have e0 := Pipeline.Window.rect_emb_val_off win0_4 t (ix2 r k) 0
  have e1 := Pipeline.Window.rect_emb_val_off win0_4 t (ix2 r k) 1
  rw [idx4] at e0 e1
  rw [Shape.rowMajor_val_three, Shape.rowMajor_val_two, e0, e1]
  show (b.val * 4096 + l.val) * 1024 + k.val
    = ((grid0.coords t 0).val * 4096 + min 3744 ((grid0.coords t 1).val * 352 - 16) + r.val) * 1024 + (0 + k.val)
  rw [hb, hl]; omega

theorem blk5_apply (c : Dev nD) (t : Fin cfg0.N) (r : Fin 16) (k : Fin 1024) :
    iblk m c 5 t (ix2 r k) = m ((c : Thread nD τ).loc main_arg5) (ix2 r k) := by
  rw [← V_meta m c]
  blk_ext! [iblk, idx5 t]

/-- The residual row the kernel puts together is the padded sequence's row. -/
theorem resid_apply (c : Dev nD) (t : Fin cfg0.N) (r : Fin 352) (b : Fin 8) (l : Fin 4224)
    (hb : b.val = (grid0.coords t 0).val) (hl : l.val = (grid0.coords t 1).val * 352 + r.val) :
    resid (grid0.coords t 1).val (iblk m c 4 t) (iblk m c 5 t) r
      = row (m ((c : Thread nD τ).loc main_arg4)) (m ((c : Thread nD τ).loc main_arg5)) b l := by
  have hr := r.isLt
  have hc : (grid0.coords t 1).val < 12 := (grid0.coords t 1).isLt
  funext k
  unfold resid row
  by_cases h0 : (grid0.coords t 1).val = 0
  · rw [if_pos h0]
    by_cases h : r.val < 16
    · rw [dif_pos h, dif_pos (by omega), blk5_apply m c t]
      exact congrArg _ (congrArg (fun a : Fin 16 => ix2 a k) (Fin.ext (by show r.val = l.val; omega)))
    · rw [dif_neg h, dif_neg (by omega), dif_pos (by omega)]
      exact blk4_apply m c t _ k b _ hb (by show l.val - 16 = _ + (r.val - 16); omega)
  · rw [if_neg h0]
    by_cases h1 : (grid0.coords t 1).val = 11
    · rw [if_pos h1]
      by_cases h : r.val < 240
      · rw [dif_pos h, dif_neg (by omega), dif_pos (by omega)]
        exact blk4_apply m c t _ k b _ hb (by show l.val - 16 = _ + (112 + r.val); omega)
      · rw [dif_neg h, dif_neg (by omega), dif_neg (by omega)]
    · rw [if_neg h1, dif_neg (by omega), dif_pos (by omega)]
      exact blk4_apply m c t _ k b _ hb (by show l.val - 16 = _ + r.val; omega)

theorem blk6_apply (c : Dev nD) (t : Fin cfg0.N) (q : Fin 512) (k : Fin 1024) :
    iblk m c 6 t (ix3 0 q k) = m ((c : Thread nD τ).loc main_arg6) (ix3 0 q k) := by
  rw [← V_wa m c]
  blk_ext! [iblk, idx6 t]

theorem blk7_apply (c : Dev nD) (t : Fin cfg0.N) (q : Fin 512) (k : Fin 1024) :
    iblk m c 7 t (ix3 0 q k) = m ((c : Thread nD τ).loc main_arg7) (ix3 0 q k) := by
  rw [← V_wb m c]
  blk_ext! [iblk, idx7 t]

theorem blk8_apply (c : Dev nD) (t : Fin cfg0.N) (q : Fin 512) (k : Fin 1024) :
    iblk m c 8 t (ix3 0 q k) = m ((c : Thread nD τ).loc main_arg8) (ix3 0 q k) := by
  rw [← V_wc m c]
  blk_ext! [iblk, idx8 t]

theorem blk9_apply (c : Dev nD) (t : Fin cfg0.N) (k : Fin 1024) (j : Fin 1024) :
    iblk m c 9 t (ix3 0 k j) = m ((c : Thread nD τ).loc main_arg9) (ix3 0 k j) := by
  rw [← V_wo m c]
  blk_ext! [iblk, idx9 t]

theorem blk11_apply (c : Dev nD) (t : Fin cfg0.N) (k : Fin 1024) (f : Fin 4096) :
    iblk m c 11 t (ix3 0 k f) = m ((c : Thread nD τ).loc main_arg11) (ix3 0 k f) := by
  rw [← V_w1 m c]
  blk_ext! [iblk, idx11 t]

theorem blk12_apply (c : Dev nD) (t : Fin cfg0.N) (f : Fin 4096) (k : Fin 1024) :
    iblk m c 12 t (ix3 0 f k) = m ((c : Thread nD τ).loc main_arg12) (ix3 0 f k) := by
  rw [← V_w2 m c]
  blk_ext! [iblk, idx12 t]

theorem blk10_apply (c : Dev nD) (t : Fin cfg0.N) (k : Fin 1024) :
    iblk m c 10 t (ix2 0 k) = m ((c : Thread nD τ).loc main_arg10) (ix2 0 k) := by
  rw [← V_norm m c]
  blk_ext! [iblk, idx10 t]

/-- The layer with the arguments' names put in. -/
def layerAt (c : Dev nD) (b : Fin 8) (l : Fin 4224) (j : Fin 1024) : EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) b l j

/-- What a point leaves at row `r` of its buffer is the layer of its padded row. -/
theorem point (c : Dev nD) (t : Fin cfg0.N) (r : Fin 352) (j : Fin 1024) (b : Fin 8) (l : Fin 4224)
    (hb : b.val = (grid0.coords t 0).val) (hl : l.val = (grid0.coords t 1).val * 352 + r.val) :
    out0_13 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 r j) = layerAt m c b l j := by
  rw [out_apply, resid_apply m c t r b l hb hl, gate_apply m c t 0 1 r b l 0 hb hl rfl rfl, gate_apply m c t 2 3 r b l 1 hb hl rfl rfl,
    gate_apply m c t 4 5 r b l 2 hb hl rfl rfl, funext fun q => blk0_apply m c t r q b l hb hl, funext fun q => blk1_apply m c t r q b l hb hl,
    funext fun q => blk2_apply m c t r q b l hb hl, funext fun q => funext fun k => blk6_apply m c t q k,
    funext fun q => funext fun k => blk7_apply m c t q k, funext fun q => funext fun k => blk8_apply m c t q k,
    funext fun q => funext fun k => blk9_apply m c t q k, funext fun k => blk10_apply m c t k,
    funext fun q => funext fun k => blk11_apply m c t q k, funext fun q => funext fun k => blk12_apply m c t q k]
  unfold layerAt layer
  congr 3
  funext n
  fin_cases n <;> rfl

/-- The result array after the run. -/
theorem final (c : Dev nD) : (dats m 0 c).arrAt 13 cfg0.N = fun i : S33792x1024.Idx =>
    layerAt m c ⟨(i 0).val / 4224, by have h : (i 0).val < 33792 := (i 0).isLt; omega⟩ ⟨(i 0).val % 4224, Nat.mod_lt _ (by decide)⟩ (i 1) := by
  refine (dats m 0 c).arrAt_eq_of_covers 13 _ (by decide +kernel) fun t hf y => ?_
  blk_simp
  rw [after0_13]
  have hy : y = ix2 (n0 := 352) (n1 := 1024) (y 0) (y 1) := eq_ix2 (n0 := 352) (n1 := 1024) y
  have hj : (win0_13.blk t).view.emb y 1 = y 1 := Fin.ext (by blk_simp [idx13 t])
  have h0 : win0_13.index t 0 = (grid0.coords t 0).val * 12 + (grid0.coords t 1).val := by rw [idx13]; rfl
  have hr : (y 0).val < 352 := (y 0).isLt
  have hc : (grid0.coords t 1).val < 12 := (grid0.coords t 1).isLt
  rw [hj]
  have d0 : (win0_13.index t 0 * 352 + (y 0).val) / 4224 = (grid0.coords t 0).val := by rw [h0]; omega
  have d1 : (win0_13.index t 0 * 352 + (y 0).val) % 4224 = (grid0.coords t 1).val * 352 + (y 0).val := by rw [h0]; omega
  exact (congrArg _ hy).trans (point m c t (y 0) (y 1) _ _ d0 d1)

end Cert.Proof.Merge

end
-- ==== Proof.MergeReference.lean ====
/-
  The first reference's result, index by index: the first layer's merge and feed-forward at the padded row; and the
  equation of the first merge kernel with it.
-/
module

public import proofs.«01_k».proof.Defs
public import proofs.«01_k».proof.Proof.Gen.ReferenceIdeal.Run
public import proofs.«01_k».proof.Proof.Gen.ReferenceIdeal.Read
public import proofs.«01_k».proof.Proof.MergeArray
public import Idealize.ShloMosaic.Lib.Claim

@[expose] public section

noncomputable section

namespace Cert.Proof.MergeRef

open Idealize.ShloMosaic Idealize.SL.Sem Cert.ReferenceIdeal Cert.ReferenceIdeal.Gen Cert.ReferenceIdeal.Read Idealize.ShloMosaic.TcCoe

variable (ha ob oc : Vec Ideal S8x4224x512 .bf16) (gt : Vec Ideal S8x4224x3x1024 .bf16) (x : Vec Ideal S8x4096x1024 .f32)
  (p : Vec Ideal S16x1024 .f32) (wa wb wc : Vec Ideal S2x512x1024 .f32) (wo : Vec Ideal S2x1024x1024 .f32) (g : Vec Ideal S2x1024 .f32)
  (w1 : Vec Ideal S2x1024x4096 .f32) (w2 : Vec Ideal S2x4096x1024 .f32)

/-- The padded rows. -/
theorem row_apply (b : Fin 8) (l : Fin 4224) (k : Fin 1024) :
    val_main_v7 (F := Ideal) x p (ix3 b l k) = Merge.row x p b l k := by
  unfold Merge.row
  pointwise [val_main_v7, val_main_v6, val_main_v5, val_main_v4, val_main_cst]
  have hl := l.isLt
  split
  · rfl
  · split
    · rw [dif_pos (by omega)]
    · rw [dif_neg (by omega)]

/-- The gated sum of the branches. -/
theorem mixed_apply (b : Fin 8) (l : Fin 4224) (k : Fin 1024) :
    val_main_v27 (F := Ideal) ha ob oc gt wa wb wc (ix3 b l k)
      = Math.mixed (fun q => ha (ix3 b l q)) (fun q => ob (ix3 b l q)) (fun q => oc (ix3 b l q)) (fun n k => gt (ix4 b l n k))
        (fun q k => wa (ix3 0 q k)) (fun q k => wb (ix3 0 q k)) (fun q k => wc (ix3 0 q k)) k := by
  unfold Math.mixed
  rw [mul_comm _ (gt (ix4 b l 0 k)), mul_comm _ (gt (ix4 b l 1 k)), mul_comm _ (gt (ix4 b l 2 k))]
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v3, val_main_v2, val_main_v1, val_main_v0]

/-- The merged rows. -/
theorem merged_apply (b : Fin 8) (l : Fin 4224) (j : Fin 1024) :
    val_main_v31 (F := Ideal) ha ob oc gt x p wa wb wc wo (ix3 b l j)
      = Math.merged (fun k => val_main_v7 (F := Ideal) x p (ix3 b l k)) (fun k => val_main_v27 (F := Ideal) ha ob oc gt wa wb wc (ix3 b l k))
        (fun k j => wo (ix3 0 k j)) j := by
  unfold Math.merged
  pointwise [val_main_v31, val_main_v30, val_main_v29, val_main_v28]

/-- The normalised rows. -/
theorem norm_apply (b : Fin 8) (l : Fin 4224) (k : Fin 1024) :
    val_main_v46 (F := Ideal) ha ob oc gt x p wa wb wc wo g (ix3 b l k)
      = Math.rms (fun j => val_main_v31 (F := Ideal) ha ob oc gt x p wa wb wc wo (ix3 b l j)) (fun j => g (ix2 0 j)) k := by
  pointwise [val_main_v46, val_main_v45, val_main_v44, val_main_v43, val_main_v42, val_main_v41, val_main_v40, val_main_v39,
    val_main_v38, val_main_v37, val_main_v36, val_main_v35, val_main_v34, val_main_v33, val_main_v32, val_main_cst_0, val_main_cst_1, val_main_cst_2]
  rfl

/-- The squared activations. -/
theorem act_apply (b : Fin 8) (l : Fin 4224) (f : Fin 4096) :
    val_main_v51 (F := Ideal) ha ob oc gt x p wa wb wc wo g w1 (ix3 b l f)
      = Math.act (fun k => val_main_v46 (F := Ideal) ha ob oc gt x p wa wb wc wo g (ix3 b l k)) (fun k f => w1 (ix3 0 k f)) f := by
  pointwise [val_main_v51, val_main_v50, val_main_v49, val_main_v48, val_main_v47, val_main_call0_v0, val_main_call0_cst]
  rfl

/-- The layer's rows. -/
theorem layer_at (b : Fin 8) (l : Fin 4224) (j : Fin 1024) :
    val_main_v55 (F := Ideal) ha ob oc gt x p wa wb wc wo g w1 w2 (ix3 b l j) = Merge.layer ha ob oc gt x p wa wb wc wo g w1 w2 b l j := by
  have e : val_main_v55 (F := Ideal) ha ob oc gt x p wa wb wc wo g w1 w2 (ix3 b l j) = val_main_v31 (F := Ideal) ha ob oc gt x p wa wb wc wo (ix3 b l j)
      + ∑ f : Fin 4096, val_main_v51 (F := Ideal) ha ob oc gt x p wa wb wc wo g w1 (ix3 b l f) * w2 (ix3 0 f j) := by
    pointwise [val_main_v55, val_main_v54, val_main_v53, val_main_v52]
  rw [e]
  simp only [act_apply, norm_apply, merged_apply, mixed_apply, row_apply]
  rfl

/-- The result, its batch and row axes run together. -/
theorem result_apply (i : S33792x1024.Idx) :
    val_main_v56 (F := Ideal) ha ob oc gt x p wa wb wc wo g w1 w2 i = Merge.layer ha ob oc gt x p wa wb wc wo g w1 w2
      ⟨(i 0).val / 4224, by have h : (i 0).val < 33792 := (i 0).isLt; omega⟩ ⟨(i 0).val % 4224, Nat.mod_lt _ (by decide)⟩ (i 1) := by
  refine Eq.trans ?_ (layer_at ha ob oc gt x p wa wb wc wo g w1 w2 _ _ _)
  unfold val_main_v56
  refine shapeCast_apply _ _ _ _ ?_
  rw [Shape.rowMajor_val_three, Shape.rowMajor_val_two]
  show ((i 0).val / 4224 * 4224 + (i 0).val % 4224) * 1024 + (i 1).val = (i 0).val * 1024 + (i 1).val
  omega

end Cert.Proof.MergeRef

namespace Cert.Proof

open Idealize.ShloMosaic Idealize.SL.Sem Idealize.ShloMosaic.TcCoe

/-- The first merge kernel and the first reference end with equal results. -/
theorem algebraic_merge : Cert.algebraic_KernelIdeal_ReferenceIdeal := by
  pair_intro
  · run_from Cert.KernelIdeal.Value.run_blocks m g
  · run_from Cert.ReferenceIdeal.Value.run m' g'
    rw [Merge.final m c]
    rw [ReferenceIdeal.Read.val_main_v56_eq]
    obtain ⟨h0, h1, h2, h3, h4, h5, h6, h7, h8, h9, h10, h11, h12⟩ := hagree c
    rw [h0, h1, h2, h3, h4, h5, h6, h7, h8, h9, h10, h11, h12]
    funext j
    exact MergeRef.result_apply _ _ _ _ _ _ _ _ _ _ _ _ _ j

end Cert.Proof

end
-- ==== Proof.FinalBlock.lean ====
/-
  The last feed-forward kernel's block: what one grid point leaves in its output buffer is, row by row, the
  feed-forward layer of the rows it was handed (Proof/Math.lean `ffn`).
-/
module

public import proofs.«01_k».proof.Proof.Gen.Kernel2Ideal.Frame
public import proofs.«01_k».proof.Proof.Math
public import Idealize.ShloMosaic.Lib.Pipeline.Value
public import Idealize.ShloMosaic.Lib.Pointwise

@[expose] public section

noncomputable section

namespace Cert.Proof.Final

open Idealize.ShloMosaic Idealize.SL.Sem Cert.Kernel2Ideal Cert.Kernel2Ideal.Gen

/-- The normalised rows. -/
theorem pay3_apply (x : Vec Ideal S1024x1024 .f32) (g : Vec Ideal S1x1024 .f32) (r k : Fin 1024) :
    k0_pay3 (F := Ideal) x g (ix2 r k) = Math.rms (fun j => x (ix2 r j)) (fun j => g (ix2 0 j)) k := by
  unfold k0_pay3 k0_pay2
  pointwise
  rfl

/-- The first part of the hidden axis, added onto the rows. -/
theorem pay4_apply (x : Vec Ideal S1024x1024 .f32) (g : Vec Ideal S1x1024 .f32) (w v : Vec Ideal S1x1024x1024 .bf16) (r j : Fin 1024) :
    k0_pay4 (F := Ideal) x g w v (ix2 r j) = x (ix2 r j) + ∑ f : Fin 1024,
      (max (∑ k : Fin 1024, k0_pay3 (F := Ideal) x g (ix2 r k) * w (ix3 0 k f)) 0
        * max (∑ k : Fin 1024, k0_pay3 (F := Ideal) x g (ix2 r k) * w (ix3 0 k f)) 0) * v (ix3 0 f j) := by
  unfold k0_pay4 k0_pay2
  pointwise

/-- The second part's activations. -/
theorem pay5_apply (x : Vec Ideal S1024x1024 .f32) (g : Vec Ideal S1x1024 .f32) (w : Vec Ideal S1x1024x1024 .bf16) (r f : Fin 1024) :
    k0_pay5 (F := Ideal) x g w (ix2 r f) = max (∑ k : Fin 1024, k0_pay3 (F := Ideal) x g (ix2 r k) * w (ix3 0 k f)) 0
        * max (∑ k : Fin 1024, k0_pay3 (F := Ideal) x g (ix2 r k) * w (ix3 0 k f)) 0 := by
  unfold k0_pay5
  pointwise

/-- The remaining parts, added in order. -/
theorem pay1_apply (h : FVec Ideal S1024x1024 .bf16) (a : FVec Ideal S1024x1024 .f32) (b : FVec Ideal S1024x1024 .bf16)
    (v1 w2 v2 w3 v3 : Vec Ideal S1x1024x1024 .bf16) (r j : Fin 1024) :
    k0_pay1 (F := Ideal) h a b v1 w2 v2 w3 v3 (ix3 0 r j) = a (ix2 r j) + ∑ f : Fin 1024, b (ix2 r f) * v1 (ix3 0 f j)
      + ∑ f : Fin 1024, (max (∑ k : Fin 1024, h (ix2 r k) * w2 (ix3 0 k f)) 0 * max (∑ k : Fin 1024, h (ix2 r k) * w2 (ix3 0 k f)) 0) * v2 (ix3 0 f j)
      + ∑ f : Fin 1024, (max (∑ k : Fin 1024, h (ix2 r k) * w3 (ix3 0 k f)) 0 * max (∑ k : Fin 1024, h (ix2 r k) * w3 (ix3 0 k f)) 0) * v3 (ix3 0 f j) := by
  unfold k0_pay1
  pointwise

/-- What a point leaves in its output buffer, at row `r` and column `j`. -/
theorem out_apply (x0 : Vec Ideal S1024x1024 .f32) (x1 : Vec Ideal S1x1024 .f32) (x2 : Vec Ideal S1x1024x4096 .bf16)
    (x3 : Vec Ideal S1x4096x1024 .bf16) (r j : Fin 1024) :
    out0_4 (F := Ideal) x0 x1 x2 x3 (ix3 0 r j) = Math.ffn (fun k => x0 (ix2 r k)) (fun k => x1 (ix2 0 k))
      (fun k f => x2 (ix3 0 k f)) (fun f k => x3 (ix3 0 f k)) j := by
  have hz3 : (![0, 0, 0] : Fin S1x1024x1024.rank → Nat) = fun _ => 0 := funext fun a => by fin_cases a <;> rfl
  have hz0 : (![0, 0] : Fin S1024x1024.rank → Nat) = fun _ => 0 := funext fun a => by fin_cases a <;> rfl
  have hz1 : (![0, 0] : Fin S1x1024.rank → Nat) = fun _ => 0 := funext fun a => by fin_cases a <;> rfl
  unfold out0_4
  rw [View.canon_unit_zero hz3, View.ld_unit_zero hz0, View.ld_unit_zero hz1]
  rw [pay1_apply, pay4_apply]
  simp only [pay5_apply, pay3_apply]
  unfold Math.ffn
  rw [Math.sum_parts]
  unfold Math.act
  pointwise

end Cert.Proof.Final

end
-- ==== Proof.FinalArray.lean ====
/-
  The last feed-forward kernel's result array. A grid point's rows are read at a row offset given in rows, not in
  blocks (the window starts 16 rows into each batch element); the host's layout steps in front of the call are read
  back to the arguments, and the blocks put together are the layer of every row the result keeps.
-/
module

public import proofs.«01_k».proof.Proof.Gen.Kernel2Ideal.Value
public import proofs.«01_k».proof.Proof.FinalBlock
public import Idealize.ShloMosaic.Lib.Pipeline.ValueKit

@[expose] public section

noncomputable section

namespace Cert.Proof.Final

open Idealize.ShloMosaic Idealize.SL.Sem Cert.Kernel2Ideal Cert.Kernel2Ideal.Gen Idealize.ShloMosaic.TcCoe
open Idealize.ShloMosaic.Pipeline (Dat)

variable (m : (ℓ : Loc nD τ sig) → Buf (Elt Ideal) ℓ)

/-- The layer of the row 16 below result row `i 1`, with the second layer's weights. -/
def layer (x : Vec Ideal S8x4224x1024 .f32) (g : Vec Ideal S2x1024 .f32) (w1 : Vec Ideal S2x1024x4096 .f32)
    (w2 : Vec Ideal S2x4096x1024 .f32) (b : Fin 8) (l : Fin 4096) (j : Fin 1024) : EReal :=
  Math.ffn (fun k => x (ix3 b ⟨16 + l.val, by have := l.isLt; omega⟩ k)) (fun k => g (ix2 1 k))
    (fun k f => w1 (ix3 1 k f)) (fun f k => w2 (ix3 1 f k)) j

/-- Where each window's block starts: the row window in rows, the others in blocks. -/
theorem idx0 : ∀ t : Fin cfg0.N, win0_0.index t = ![(grid0.coords t 0).val * 4224 + 16 + (grid0.coords t 1).val * 1024, 0] :=
  (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![1, 0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![(grid0.coords t 0).val, (grid0.coords t 1).val, 0] :=
  (by decide +kernel : ∀ t : Fin grid0.N, _)

/-- The rows as the call finds them: the argument's batch and row axes run together. -/
theorem V_rows (c : Dev nD) : V m c main_v2 = shapeCast S33792x1024 (m ((c : Thread nD τ).loc main_arg0)) shapeCasts_S8x4224x1024_S33792x1024 := by
  unfold_abbrev_sides
  after_results <;> rfl
theorem V_norm (c : Dev nD) (k : Fin 1024) : V m c main_v5 (ix2 0 k) = m ((c : Thread nD τ).loc main_arg1) (ix2 1 k) := by
  have e : V m c main_v5 = shapeCast S1x1024 (shapeCast S1024 (extractStridedSlice S1x1024 ![1, 0] (m ((c : Thread nD τ).loc main_arg1)) slices_S2x1024_S1x1024_1_0) shapeCasts_S1x1024_S1024) shapeCasts_S1024_S1x1024 := by
    unfold_abbrev_sides
    after_results <;> rfl
  rw [e]
  pointwise
theorem V_w1 (c : Dev nD) : V m c main_v0 = m ((c : Thread nD τ).loc main_arg2) := by
  unfold_abbrev_sides
  after_results <;> rfl
theorem V_w2 (c : Dev nD) : V m c main_v1 = m ((c : Thread nD τ).loc main_arg3) := by
  unfold_abbrev_sides
  after_results <;> rfl

/-- A point's row block, read at its row `r`: the argument's row 16 + 1024·tile + r of the point's batch element. -/
theorem blk0_apply (c : Dev nD) (t : Fin cfg0.N) (r k : Fin 1024) (b : Fin 8) (l : Fin 4224)
    (hb : b.val = (grid0.coords t 0).val) (hl : l.val = 16 + ((grid0.coords t 1).val * 1024 + r.val)) :
    iblk m c 0 t (ix2 r k) = m ((c : Thread nD τ).loc main_arg0) (ix3 b l k) := by
  show V m c main_v2 ((win0_0.rect t).emb (ix2 r k)) = _
  rw [V_rows]
  refine shapeCast_apply _ _ _ (ix3 b l k) ?_
  have e0 := Pipeline.Window.rect_emb_val_off win0_0 t (ix2 r k) 0
  have e1 := Pipeline.Window.rect_emb_val_off win0_0 t (ix2 r k) 1
  rw [idx0] at e0 e1
  rw [Shape.rowMajor_val_three, Shape.rowMajor_val_two, e0, e1]
  show (b.val * 4224 + l.val) * 1024 + k.val = ((grid0.coords t 0).val * 4224 + 16 + (grid0.coords t 1).val * 1024 + r.val) * 1024 + (0 + k.val)
  rw [hb, hl]; omega

theorem blk1_apply (c : Dev nD) (t : Fin cfg0.N) (k : Fin 1024) :
    iblk m c 1 t (ix2 0 k) = m ((c : Thread nD τ).loc main_arg1) (ix2 1 k) := by
  rw [← V_norm m c]
  blk_ext! [iblk, idx1 t]

theorem blk2_apply (c : Dev nD) (t : Fin cfg0.N) (k : Fin 1024) (f : Fin 4096) :
    iblk m c 2 t (ix3 0 k f) = m ((c : Thread nD τ).loc main_arg2) (ix3 1 k f) := by
  rw [← V_w1 m c]
  blk_ext! [iblk, idx2 t]

theorem blk3_apply (c : Dev nD) (t : Fin cfg0.N) (f : Fin 4096) (k : Fin 1024) :
    iblk m c 3 t (ix3 0 f k) = m ((c : Thread nD τ).loc main_arg3) (ix3 1 f k) := by
  rw [← V_w2 m c]
  blk_ext! [iblk, idx3 t]

/-- What a point leaves at row `r` of its buffer is the layer of its row of the result. -/
theorem point (c : Dev nD) (t : Fin cfg0.N) (r j : Fin 1024) (b : Fin 8) (l : Fin 4096)
    (hb : b.val = (grid0.coords t 0).val) (hl : l.val = (grid0.coords t 1).val * 1024 + r.val) :
    out0_4 (iblk m c 0 t) (iblk m c 1 t) (iblk m c 2 t) (iblk m c 3 t) (ix3 0 r j)
      = layer (m ((c : Thread nD τ).loc main_arg0)) (m ((c : Thread nD τ).loc main_arg1)) (m ((c : Thread nD τ).loc main_arg2))
        (m ((c : Thread nD τ).loc main_arg3)) b l j := by
  rw [out_apply]
  unfold layer
  rw [funext fun k => blk0_apply m c t r k b ⟨16 + l.val, by have := l.isLt; omega⟩ hb (by rw [← hl]),
    funext fun k => blk1_apply m c t k, funext fun k => funext fun f => blk2_apply m c t k f,
    funext fun f => funext fun k => blk3_apply m c t f k]

/-- The result array after the run. -/
theorem final (c : Dev nD) : (dats m 0 c).arrAt 4 cfg0.N = fun i : S8x4096x1024.Idx =>
    layer (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 4 _ (by decide +kernel) fun t hf y => ?_
  blk_simp
  rw [after0_4]
  have h0 : (y 0).val < 1 := (y 0).isLt
  have hy : y = ix3 (n0 := 1) (n1 := 1024) (n2 := 1024) 0 (y 1) (y 2) :=
    (eq_ix3 (n0 := 1) (n1 := 1024) (n2 := 1024) y).trans
      (congrArg (fun a : Fin 1 => ix3 (n0 := 1) (n1 := 1024) (n2 := 1024) a (y 1) (y 2)) (Fin.ext (by show (y 0).val = 0; omega)))
  have hj : (win0_4.blk t).view.emb y 2 = y 2 := Fin.ext (by blk_simp [idx4 t])
  rw [hj]
  exact (congrArg _ hy).trans (point m c t (y 1) (y 2) _ _ (by blk_simp [idx4 t]) (by blk_simp [idx4 t]))

end Cert.Proof.Final

end
-- ==== Proof.FinalReference.lean ====
/-
  The second reference's result, index by index: the layer of the row 16 below the result row, with the second
  layer's weights; and the equation of the last feed-forward kernel with it.
-/
module

public import proofs.«01_k».proof.Defs
public import proofs.«01_k».proof.Proof.Gen.Reference2Ideal.Run
public import proofs.«01_k».proof.Proof.Gen.Reference2Ideal.Read
public import proofs.«01_k».proof.Proof.FinalArray
public import Idealize.ShloMosaic.Lib.Claim

@[expose] public section

noncomputable section

namespace Cert.Proof.FinalRef

open Idealize.ShloMosaic Idealize.SL.Sem Cert.Reference2Ideal Cert.Reference2Ideal.Gen Cert.Reference2Ideal.Read Idealize.ShloMosaic.TcCoe

variable (x : Vec Ideal S8x4224x1024 .f32) (g : Vec Ideal S2x1024 .f32) (w1 : Vec Ideal S2x1024x4096 .f32) (w2 : Vec Ideal S2x4096x1024 .f32)

/-- The normalised rows. -/
theorem norm_apply (b : Fin 8) (l : Fin 4112) (k : Fin 1024) :
    val_main_v15 (F := Ideal) x g (ix3 b l k)
      = Math.rms (fun j => x (ix3 b ⟨l.val, by have := l.isLt; omega⟩ j)) (fun j => g (ix2 1 j)) k := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  rfl

/-- The squared activations. -/
theorem act_apply (b : Fin 8) (l : Fin 4112) (f : Fin 4096) :
    val_main_v20 (F := Ideal) x g w1 (ix3 b l f)
      = Math.act (fun k => val_main_v15 (F := Ideal) x g (ix3 b l k)) (fun k f => w1 (ix3 1 k f)) f := by
  pointwise [val_main_v20, val_main_v19, val_main_v18, val_main_v17, val_main_v16, val_main_call0_v0, val_main_call0_cst]
  rfl

/-- The result at coordinates. -/
theorem result_at (b : Fin 8) (l : Fin 4096) (j : Fin 1024) :
    val_main_v25 (F := Ideal) x g w1 w2 (ix3 b l j) = Final.layer x g w1 w2 b l j := by
  have e : val_main_v25 (F := Ideal) x g w1 w2 (ix3 b l j) = x (ix3 b ⟨16 + l.val, by have := l.isLt; omega⟩ j)
      + ∑ f : Fin 4096, val_main_v20 (F := Ideal) x g w1 (ix3 b ⟨16 + l.val, by have := l.isLt; omega⟩ f) * w2 (ix3 1 f j) := by
    pointwise [val_main_v25, val_main_v24, val_main_v23, val_main_v22, val_main_v21, val_main_v0]
  rw [e]
  simp only [act_apply, norm_apply]
  rfl

/-- The result. -/
theorem result_apply (i : S8x4096x1024.Idx) :
    val_main_v25 (F := Ideal) x g w1 w2 i = Final.layer x g w1 w2 (i 0) (i 1) (i 2) :=
  (congrArg _ (eq_ix3 (n0 := 8) (n1 := 4096) (n2 := 1024) i)).trans (result_at x g w1 w2 (i 0) (i 1) (i 2))

end Cert.Proof.FinalRef

namespace Cert.Proof

open Idealize.ShloMosaic Idealize.SL.Sem Idealize.ShloMosaic.TcCoe

/-- The last feed-forward kernel and the second reference end with equal results. -/
theorem algebraic_final : Cert.algebraic_Kernel2Ideal_Reference2Ideal := by
  pair_intro
  · run_from Cert.Kernel2Ideal.Value.run_blocks m g
  · run_from Cert.Reference2Ideal.Value.run m' g'
    rw [Final.final m c]
    funext j
    exact FinalRef.result_apply _ _ _ _ j

end Cert.Proof

end
-- ==== Proof.AttnBitsLoop.lean ====
/-
  The loops of the attention body in the machine's own arithmetic, for its run only: what a loop leaves untouched, and
  that it owns the score buffer before and after every trip. No value is named here.
-/
module

public import proofs.«01_k».proof.Proof.AttnBitsOffsets
public import Idealize.ShloMosaic.Lib.LoopRemainder

@[expose] public section

set_option maxRecDepth 8192
set_option maxHeartbeats 4000000

noncomputable section

namespace Cert.Proof.AttnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3 Cert.Kernel3.Gen

variable {F : FTy → Type} [FloatOps F]
local notation "𝕄G" => MT nD τ sig Unit (Elt F) ℕ (UR sig nD τ) ℕ

/-- The four carried row maxima, one for each head. -/
abbrev Acc4 (F : FTy → Type) [FloatOps F] : Type := FVec F S384x128 .f32 × FVec F S384x128 .f32 × FVec F S384x128 .f32 × FVec F S384x128 .f32

set_option warn.classDefReducibility false in
/-- The first scores loop by its invariant: the keys untouched, the score buffer owned. -/
@[sl_loop] def loopInv1 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole) (v0 v2 v4 v6 : Vec F S1x1x384x128 .bf16)
    (X4 : BufTy.Contents (Elt F) arg4.view.ty) (init : Acc4 F) :
    LoopInvTy_k0_t1 (F := F) Unit ℕ (UR sig nD τ) ℕ 𝒱 c bd E i arg3 harg3 arg4 harg4 arg5 harg5 arg6 harg6 arg7 harg7 arg8 harg8 arg9 harg9 v0 v2 v4 v6 init where
  inv _ _ := iprop((arg4.view.loc (c : Thread nD τ) ↦[arg4.view.set]{fullShare} X4) ∗ (∃ f, (arg7.view.loc (c : Thread nD τ) ↦[arg7.view.set]{fullShare} f)))
  step k acc := by
    iintro ⟨H4, ⟨%f, H7⟩⟩
    obtain ⟨a0, a1, a2, a3⟩ := acc
    unfold k0_t1_body
    sl_exec
    sl_step
    isplitl [H4]; · iexact H4
    iexists _
    iexact H7

set_option warn.classDefReducibility false in
/-- The loop over the values by its invariant: values and scores untouched. -/
@[sl_loop] def loopInv3 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole) (arg2 : BitVec 32) (v49 v53 : FVec F S384x1 .f32) (v54 v58 : Vec F S1x384x128 .f32)
    (X5 : BufTy.Contents (Elt F) arg5.view.ty) (X7 : BufTy.Contents (Elt F) arg7.view.ty) (init : Acc4 F) :
    LoopInvTy_k0_t3 (F := F) Unit ℕ (UR sig nD τ) ℕ 𝒱 c bd E i arg3 harg3 arg4 harg4 arg5 harg5 arg6 harg6 arg7 harg7 arg8 harg8 arg9 harg9 arg2 v49 v53 v54 v58 init where
  inv _ _ := iprop((arg5.view.loc (c : Thread nD τ) ↦[arg5.view.set]{fullShare} X5) ∗ (arg7.view.loc (c : Thread nD τ) ↦[arg7.view.set]{fullShare} X7))
  step k acc := by
    iintro ⟨H5, H7⟩
    obtain ⟨a0, a1, a2, a3⟩ := acc
    unfold k0_t3_body
    sl_exec
    sl_step
    isplitl [H5]; · iexact H5
    iexact H7

set_option warn.classDefReducibility false in
/-- The loop behind the loop over the values makes no trip. -/
@[sl_loop] def loopInv4 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole) (arg2 : BitVec 32) (v49 v53 : FVec F S384x1 .f32) (v54 v58 : Vec F S1x384x128 .f32) (v72 : BitVec 32) (init : Acc4 F) :
    LoopInvTy_k0_t4 (F := F) Unit ℕ (UR sig nD τ) ℕ 𝒱 c bd E i arg3 harg3 arg4 harg4 arg5 harg5 arg6 harg6 arg7 harg7 arg8 harg8 arg9 harg9 arg2 v49 v53 v54 v58 v72 init where
  inv _ acc := iprop(⌜acc = init⌝)
  step k _ := (Scf.rem_no_trip _ _ k).elim

end Cert.Proof.AttnBits
end
-- ==== Proof.AttnBitsRun.lean ====
/-
  The attention body's run in the machine's own arithmetic, for each of the four kinds of query block: it terminates,
  reads only its three input blocks and leaves them as they were.
-/
module

public import proofs.«01_k».proof.Proof.AttnBitsLoop

@[expose] public section

set_option maxRecDepth 8192
set_option maxHeartbeats 4000000

noncomputable section

namespace Cert.Proof.AttnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3 Cert.Kernel3.Gen

variable {F : FTy → Type} [FloatOps F]
local notation "𝕄G" => MT nD τ sig Unit (Elt F) ℕ (UR sig nD τ) ℕ

/-- The body's run for blocks that are 0 modulo 4. -/
theorem run0 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : ¬ k0_cond1 i = 1#1) (h2 : ¬ k0_cond2 i = 1#1) (h3 : k0_cond3 i = 1#1) (h4 : ¬ k0_cond4 i = 1#1) (h5 : k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6)) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

/-- The body's run for blocks that are 1 modulo 4. -/
theorem run1 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : ¬ k0_cond1 i = 1#1) (h2 : k0_cond2 i = 1#1) (h3 : ¬ k0_cond3 i = 1#1) (h4 : k0_cond4 i = 1#1) (h5 : ¬ k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6)) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

/-- The body's run for blocks that are 2 modulo 4. -/
theorem run2 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : k0_cond1 i = 1#1) (h2 : ¬ k0_cond2 i = 1#1) (h3 : k0_cond3 i = 1#1) (h4 : k0_cond4 i = 1#1) (h5 : k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6)) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

/-- The body's run for blocks that are 3 modulo 4. -/
theorem run3 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : k0_cond1 i = 1#1) (h2 : k0_cond2 i = 1#1) (h3 : ¬ k0_cond3 i = 1#1) (h4 : ¬ k0_cond4 i = 1#1) (h5 : ¬ k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6)) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

end Cert.Proof.AttnBits
end
-- ==== Proof.AttnBitsFrame.lean ====
/-
  The attention call from launch to end, in the machine's own arithmetic: every grid point's body runs and gives its
  buffers back, so the run ends with the argument arrays as launched; nothing is said of the output.
-/
module

public import proofs.«01_k».proof.Proof.AttnBitsRun
public import proofs.«01_k».proof.Proof.Gen.Kernel3.Frame

@[expose] public section

set_option maxRecDepth 16384
set_option maxHeartbeats 1000000

noncomputable section

namespace Cert.Proof.AttnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3 Cert.Kernel3.Gen

variable {F : FTy → Type} [FloatOps F]
local notation "𝕄" => MT nD τ sig Unit (Elt F) ℕ (UR sig nD τ) ℕ

/-! ## Which branches a block takes -/

theorem br0_1 : ∀ i : grid0.Coords, (i 2).val % 4 = 0 → ¬ k0_cond1 i = 1#1 := by decide +kernel
theorem br0_2 : ∀ i : grid0.Coords, (i 2).val % 4 = 0 → ¬ k0_cond2 i = 1#1 := by decide +kernel
theorem br0_3 : ∀ i : grid0.Coords, (i 2).val % 4 = 0 → k0_cond3 i = 1#1 := by decide +kernel
theorem br0_4 : ∀ i : grid0.Coords, (i 2).val % 4 = 0 → ¬ k0_cond4 i = 1#1 := by decide +kernel
theorem br0_5 : ∀ i : grid0.Coords, (i 2).val % 4 = 0 → k0_cond5 i = 1#1 := by decide +kernel
theorem br1_1 : ∀ i : grid0.Coords, (i 2).val % 4 = 1 → ¬ k0_cond1 i = 1#1 := by decide +kernel
theorem br1_2 : ∀ i : grid0.Coords, (i 2).val % 4 = 1 → k0_cond2 i = 1#1 := by decide +kernel
theorem br1_3 : ∀ i : grid0.Coords, (i 2).val % 4 = 1 → ¬ k0_cond3 i = 1#1 := by decide +kernel
theorem br1_4 : ∀ i : grid0.Coords, (i 2).val % 4 = 1 → k0_cond4 i = 1#1 := by decide +kernel
theorem br1_5 : ∀ i : grid0.Coords, (i 2).val % 4 = 1 → ¬ k0_cond5 i = 1#1 := by decide +kernel
theorem br2_1 : ∀ i : grid0.Coords, (i 2).val % 4 = 2 → k0_cond1 i = 1#1 := by decide +kernel
theorem br2_2 : ∀ i : grid0.Coords, (i 2).val % 4 = 2 → ¬ k0_cond2 i = 1#1 := by decide +kernel
theorem br2_3 : ∀ i : grid0.Coords, (i 2).val % 4 = 2 → k0_cond3 i = 1#1 := by decide +kernel
theorem br2_4 : ∀ i : grid0.Coords, (i 2).val % 4 = 2 → k0_cond4 i = 1#1 := by decide +kernel
theorem br2_5 : ∀ i : grid0.Coords, (i 2).val % 4 = 2 → k0_cond5 i = 1#1 := by decide +kernel
theorem br3_1 : ∀ i : grid0.Coords, (i 2).val % 4 = 3 → k0_cond1 i = 1#1 := by decide +kernel
theorem br3_2 : ∀ i : grid0.Coords, (i 2).val % 4 = 3 → k0_cond2 i = 1#1 := by decide +kernel
theorem br3_3 : ∀ i : grid0.Coords, (i 2).val % 4 = 3 → ¬ k0_cond3 i = 1#1 := by decide +kernel
theorem br3_4 : ∀ i : grid0.Coords, (i 2).val % 4 = 3 → ¬ k0_cond4 i = 1#1 := by decide +kernel
theorem br3_5 : ∀ i : grid0.Coords, (i 2).val % 4 = 3 → ¬ k0_cond5 i = 1#1 := by decide +kernel

/-- The body at any grid point: every buffer comes back. -/
theorem body_any (c : Dev nD) (i : grid0.Coords) (arg3 : Memref sig .tc .vmem S1x4x384x128 .bf16) (harg3 : arg3.IsWhole) (arg4 : Memref sig .tc .vmem S1x4x4224x128 .bf16) (harg4 : arg4.IsWhole)
    (arg5 : Memref sig .tc .vmem S1x4x4224x128 .bf16) (harg5 : arg5.IsWhole) (arg6 : Memref sig .tc .vmem S1x384x256 .bf16) (harg6 : arg6.IsWhole)
    (arg7 : Memref sig .tc .vmem S4x11x384x384 .f32) (harg7 : arg7.IsWhole) (arg8 : Memref sig .tc .vmem S4x384x128 .f32) (harg8 : arg8.IsWhole)
    (arg9 : Memref sig .tc .vmem S4x384x128 .f32) (harg9 : arg9.IsWhole)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
    ⊢ wp frame (wpE (defs₀ (F := F)) Variants.none (c : Thread nD τ) none) Set.univ (cc0__attn_kernel (F := F) i arg3 harg3 arg4 harg4 arg5 harg5 arg6 harg6 arg7 harg7 arg8 harg8 arg9 harg9)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6))
          ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  have hlt : (i 2).val % 4 < 4 := Nat.mod_lt _ (by decide)
  obtain h | h | h | h : (i 2).val % 4 = 0 ∨ (i 2).val % 4 = 1 ∨ (i 2).val % 4 = 2 ∨ (i 2).val % 4 = 3 := by omega
  · exact run0 (F := F) Variants.none c none Set.univ i arg3 harg3 arg4 harg4 arg5 harg5 arg6 harg6 arg7 harg7 arg8 harg8 arg9 harg9 (br0_1 i h) (br0_2 i h) (br0_3 i h) (br0_4 i h) (br0_5 i h) X3 X4 X5 f6 f7 f8 f9
  · exact run1 (F := F) Variants.none c none Set.univ i arg3 harg3 arg4 harg4 arg5 harg5 arg6 harg6 arg7 harg7 arg8 harg8 arg9 harg9 (br1_1 i h) (br1_2 i h) (br1_3 i h) (br1_4 i h) (br1_5 i h) X3 X4 X5 f6 f7 f8 f9
  · exact run2 (F := F) Variants.none c none Set.univ i arg3 harg3 arg4 harg4 arg5 harg5 arg6 harg6 arg7 harg7 arg8 harg8 arg9 harg9 (br2_1 i h) (br2_2 i h) (br2_3 i h) (br2_4 i h) (br2_5 i h) X3 X4 X5 f6 f7 f8 f9
  · exact run3 (F := F) Variants.none c none Set.univ i arg3 harg3 arg4 harg4 arg5 harg5 arg6 harg6 arg7 harg7 arg8 harg8 arg9 harg9 (br3_1 i h) (br3_2 i h) (br3_3 i h) (br3_4 i h) (br3_5 i h) X3 X4 X5 f6 f7 f8 f9

/-! ## The pipeline's data and the body's obligation -/

variable (m : (ℓ : Loc nD τ sig) → Buf (Elt F) ℓ) (ρ : Dev nD → PrngReg)

/-- The arrays as the call finds them; after a point's body every input's buffer holds its block (the output's entry is never read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d

/-- What a point's body is given. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem scratch0_eq (c : Dev nD) (f : Buf (Elt F) ((c : Thread nD τ).loc cc0_scratch0)) :
    ((Memref.whole cc0_scratch0).view.loc (c : Thread nD τ) ↦[(Memref.whole cc0_scratch0).view.set]{fullShare} f : sProp 𝕄)
      = (((c : Thread nD τ).loc cc0_scratch0) ↦{fullShare} f : sProp 𝕄) := by
  rw [show (Memref.whole cc0_scratch0).view.set = Finset.univ from View.set_whole _]
theorem scratch1_eq (c : Dev nD) (f : Buf (Elt F) ((c : Thread nD τ).loc cc0_scratch1)) :
    ((Memref.whole cc0_scratch1).view.loc (c : Thread nD τ) ↦[(Memref.whole cc0_scratch1).view.set]{fullShare} f : sProp 𝕄)
      = (((c : Thread nD τ).loc cc0_scratch1) ↦{fullShare} f : sProp 𝕄) := by
  rw [show (Memref.whole cc0_scratch1).view.set = Finset.univ from View.set_whole _]
theorem scratch2_eq (c : Dev nD) (f : Buf (Elt F) ((c : Thread nD τ).loc cc0_scratch2)) :
    ((Memref.whole cc0_scratch2).view.loc (c : Thread nD τ) ↦[(Memref.whole cc0_scratch2).view.set]{fullShare} f : sProp 𝕄)
      = (((c : Thread nD τ).loc cc0_scratch2) ↦{fullShare} f : sProp 𝕄) := by
  rw [show (Memref.whole cc0_scratch2).view.set = Finset.univ from View.set_whole _]

/-- A point's body runs from what it is given to what it gives back: the scratch is taken out of the invariant and put back. -/
theorem point_body (c : Dev nD) (t : Fin cfg0.N) :
    given m c t ⊢ wp frame (wpE (defs₀ (F := F)) Variants.none (c : Thread nD τ) none) Set.univ (bodyAt0 t) (fun _ => returned m c t) := by
  unfold given returned bodyAt0
  simp only [dats_before0, dats_before1, dats_before2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    dats_after0, dats_after1, dats_after2]
  unfold Pipeline.ΦA
  rw [scopedRest0_eq]
  simp only [← scratch0_eq, ← scratch1_eq, ← scratch2_eq]
  generalize (dats m 0 c).owesAt () t.castSucc = W

  unfold owns
  iintro ⟨⟨⟨⟨%f7, H7⟩, ⟨%f8, H8⟩, ⟨%f9, H9⟩⟩, Hr⟩, Ho, ⟨%d0, %f0, %hf0, H0⟩, ⟨%d1, %f1, %hf1, H1⟩, ⟨%d2, %f2, %hf2, H2⟩, ⟨%d3, %f3, -, H3⟩⟩
  rw [← hf0, ← hf1, ← hf2]
  iapply (wp_wand_r frame (wpE (defs₀ (F := F)) Variants.none (c : Thread nD τ) none) Set.univ)
  isplitl [H0 H1 H2 H3 H7 H8 H9]
  · iapply (body_any c (grid0.coords t) _ _ _ _ _ _ _ _ _ _ _ _ _ _ f0 f1 f2 f3 f7 f8 f9)
    isplitl [H0]; · iexact H0
    isplitl [H1]; · iexact H1
    isplitl [H2]; · iexact H2
    isplitl [H3]; · iexact H3
    isplitl [H7]; · iexact H7
    isplitl [H8]; · iexact H8
    iexact H9
  · iintro %_ ⟨H0, H1, H2, ⟨%g3, H3⟩, ⟨%g7, H7⟩, ⟨%g8, H8⟩, ⟨%g9, H9⟩⟩
    isplitl [H7 H8 H9 Hr]
    · isplitl [H7 H8 H9]
      · isplitl [H7]; · iexists g7; iexact H7
        isplitl [H8]; · iexists g8; iexact H8
        iexists g9; iexact H9
      iexact Hr
    isplitl [Ho]; · iexact Ho
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists ((st0_3 t).view.read (Elt F) g3); iexists g3; isplitr; · ipureintro; rfl
    iexact H3

theorem row_eq (t : Fin cfg0.N) : defs₀ (F := F) .tc cfg0.body (cfg0.bodyArgs t (cfg0.slots t)) = bodyAt0 t := by
  unfold defs₀; rw [Defs.onTc_tc]

/-- Only the output is forgotten. -/
def fgt (w : Fin cfg0.W) : Bool := w = 3

theorem obligation (c : Dev nD) : BodyObligationLoose (dats m 0 c) (defs₀ (F := F)) Variants.none () Set.univ fgt := fun t => by
  rw [bigSep_W0, bigSep_W0, row_eq]
  exact triple_restated (point_body m c t) rfl .rfl fun _ => .rfl

/-! ## The run -/

set_option backward.isDefEq.respectTransparency.types false in
/-- The call ends, every counter at zero and every array but its output's as found. -/
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := obligation m) (hshare := fun c => (dats m 0 c).share_full fun _ => rfl)
    (howed := fun _ _ => rfl) (V := V m) (hmain := hmain m Variants.none) (hA := dats_A m) (hΦ := fun _ _ => rfl)

/-- The argument arrays end as launched, every counter at zero. -/
theorem frame_attn : θ_run defs (onTc (τ := τ) (main (F := F))) (s₀ m ρ) (fun r => r.2.sem = (fun _ => 0) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => ⟨h.2, fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩⟩)
    (run_main_quiescent m ρ)

end Cert.Proof.AttnBits

end
-- ==== Proof.AttnOffsets.lean ====
/-
  The attention kernel's offsets: where each load and store of a tile lies, as a plain expression in the grid point and
  the trip.
-/
module

public import proofs.«01_k».proof.Proof.Gen.Kernel3Ideal.Loops
public import Idealize.ShloMosaic.Lib.LoopRemainder

@[expose] public section

noncomputable section

namespace Cert.Proof.Attn

open Idealize.ShloMosaic Idealize.SL.Sem Cert.Kernel3Ideal Cert.Kernel3Ideal.Gen

theorem off1 : ∀ (i : grid0.Coords) (k : Fin (k0_t1_loop i).trips), k0_off1 i k = ![0, 0, 1536 * k.val, 0] := by decide +kernel
instance (i : grid0.Coords) (k : Fin (k0_t1_loop i).trips) : ClosedOff (k0_off1 i k) := ⟨_, off1 i k⟩

theorem off2 : ∀ (i : grid0.Coords) (k : Fin (k0_t1_loop i).trips) (c : Fin 4), k0_off2 i k (BitVec.ofNat 32 c.val) = ![0, 4 * k.val + c.val, 0, 0] := by decide +kernel
instance (i : grid0.Coords) (k : Fin (k0_t1_loop i).trips) : ClosedOff (k0_off2 i k 0#32) := ⟨![0, 4 * k.val + 0, 0, 0], off2 i k 0⟩
instance (i : grid0.Coords) (k : Fin (k0_t1_loop i).trips) : ClosedOff (k0_off2 i k 1#32) := ⟨![0, 4 * k.val + 1, 0, 0], off2 i k 1⟩
instance (i : grid0.Coords) (k : Fin (k0_t1_loop i).trips) : ClosedOff (k0_off2 i k 2#32) := ⟨![0, 4 * k.val + 2, 0, 0], off2 i k 2⟩
instance (i : grid0.Coords) (k : Fin (k0_t1_loop i).trips) : ClosedOff (k0_off2 i k 3#32) := ⟨![0, 4 * k.val + 3, 0, 0], off2 i k 3⟩

theorem off17 : ∀ (i : grid0.Coords), k0_off17 i = ![0, 0, 1536 * ((i 2).val / 4), 0] := by decide +kernel
instance (i : grid0.Coords) : ClosedOff (k0_off17 i) := ⟨_, off17 i⟩

theorem off18 : ∀ (i : grid0.Coords) (c : Fin 2), k0_off18 i (BitVec.ofNat 32 c.val) = ![0, 4 * ((i 2).val / 4) + c.val, 0, 0] := by decide +kernel
instance (i : grid0.Coords) : ClosedOff (k0_off18 i 0#32) := ⟨![0, 4 * ((i 2).val / 4) + 0, 0, 0], off18 i 0⟩
instance (i : grid0.Coords) : ClosedOff (k0_off18 i 1#32) := ⟨![0, 4 * ((i 2).val / 4) + 1, 0, 0], off18 i 1⟩

theorem off25 : ∀ (i : grid0.Coords), k0_off25 i = ![0, 0, ((((i 2).val + 4294967295) % 4294967296) * 384) % 4294967296, 0] := by decide +kernel
instance (i : grid0.Coords) : ClosedOff (k0_off25 i) := ⟨_, off25 i⟩

theorem off26 : ∀ (i : grid0.Coords), k0_off26 i = ![0, (((i 2).val + 4294967295) % 4294967296), 0, 0] := by decide +kernel
instance (i : grid0.Coords) : ClosedOff (k0_off26 i) := ⟨_, off26 i⟩

theorem off27 : ∀ (i : grid0.Coords), k0_off27 i = ![0, (i 2).val, 0, 0] := by decide +kernel
instance (i : grid0.Coords) : ClosedOff (k0_off27 i) := ⟨_, off27 i⟩

theorem off37 : ∀ (i : grid0.Coords), k0_off37 i = ![0, 0, 384 * (i 2).val, 0] := by decide +kernel
instance (i : grid0.Coords) : ClosedOff (k0_off37 i) := ⟨_, off37 i⟩

theorem off38 : ∀ (i : grid0.Coords), k0_off38 i = ![0, (i 2).val, 0, 0] := by decide +kernel
instance (i : grid0.Coords) : ClosedOff (k0_off38 i) := ⟨_, off38 i⟩

theorem off46 : ∀ (i : grid0.Coords) (k : Fin (k0_t3_loop i).trips), k0_off46 i k = ![0, 0, 1536 * k.val, 0] := by decide +kernel
instance (i : grid0.Coords) (k : Fin (k0_t3_loop i).trips) : ClosedOff (k0_off46 i k) := ⟨_, off46 i k⟩

theorem off45 : ∀ (i : grid0.Coords) (k : Fin (k0_t3_loop i).trips) (c : Fin 4), k0_off45 i k (BitVec.ofNat 32 c.val) = ![0, 4 * k.val + c.val, 0, 0] := by decide +kernel
instance (i : grid0.Coords) (k : Fin (k0_t3_loop i).trips) : ClosedOff (k0_off45 i k 0#32) := ⟨![0, 4 * k.val + 0, 0, 0], off45 i k 0⟩
instance (i : grid0.Coords) (k : Fin (k0_t3_loop i).trips) : ClosedOff (k0_off45 i k 1#32) := ⟨![0, 4 * k.val + 1, 0, 0], off45 i k 1⟩
instance (i : grid0.Coords) (k : Fin (k0_t3_loop i).trips) : ClosedOff (k0_off45 i k 2#32) := ⟨![0, 4 * k.val + 2, 0, 0], off45 i k 2⟩
instance (i : grid0.Coords) (k : Fin (k0_t3_loop i).trips) : ClosedOff (k0_off45 i k 3#32) := ⟨![0, 4 * k.val + 3, 0, 0], off45 i k 3⟩

theorem off62 : ∀ (i : grid0.Coords), k0_off62 i = ![0, 0, 1536 * (((i 2).val + 1) / 4), 0] := by decide +kernel
instance (i : grid0.Coords) : ClosedOff (k0_off62 i) := ⟨_, off62 i⟩

theorem off61 : ∀ (i : grid0.Coords) (c : Fin 2), k0_off61 i (BitVec.ofNat 32 c.val) = ![0, 4 * (((i 2).val + 1) / 4) + c.val, 0, 0] := by decide +kernel
instance (i : grid0.Coords) : ClosedOff (k0_off61 i 0#32) := ⟨![0, 4 * (((i 2).val + 1) / 4) + 0, 0, 0], off61 i 0⟩
instance (i : grid0.Coords) : ClosedOff (k0_off61 i 1#32) := ⟨![0, 4 * (((i 2).val + 1) / 4) + 1, 0, 0], off61 i 1⟩

theorem off70 : ∀ (i : grid0.Coords), k0_off70 i = ![0, 0, 384 * (i 2).val, 0] := by decide +kernel
instance (i : grid0.Coords) : ClosedOff (k0_off70 i) := ⟨_, off70 i⟩

theorem off69 : ∀ (i : grid0.Coords), k0_off69 i = ![0, (i 2).val, 0, 0] := by decide +kernel
instance (i : grid0.Coords) : ClosedOff (k0_off69 i) := ⟨_, off69 i⟩

theorem off3 : ∀ (i : grid0.Coords) (k : Fin (k0_t1_loop i).trips), k0_off3 i k = ![0, 1, 1536 * k.val, 0] := by decide +kernel
instance (i : grid0.Coords) (k : Fin (k0_t1_loop i).trips) : ClosedOff (k0_off3 i k) := ⟨_, off3 i k⟩

theorem off4 : ∀ (i : grid0.Coords) (k : Fin (k0_t1_loop i).trips) (c : Fin 4), k0_off4 i k (BitVec.ofNat 32 c.val) = ![1, 4 * k.val + c.val, 0, 0] := by decide +kernel
instance (i : grid0.Coords) (k : Fin (k0_t1_loop i).trips) : ClosedOff (k0_off4 i k 0#32) := ⟨![1, 4 * k.val + 0, 0, 0], off4 i k 0⟩
instance (i : grid0.Coords) (k : Fin (k0_t1_loop i).trips) : ClosedOff (k0_off4 i k 1#32) := ⟨![1, 4 * k.val + 1, 0, 0], off4 i k 1⟩
instance (i : grid0.Coords) (k : Fin (k0_t1_loop i).trips) : ClosedOff (k0_off4 i k 2#32) := ⟨![1, 4 * k.val + 2, 0, 0], off4 i k 2⟩
instance (i : grid0.Coords) (k : Fin (k0_t1_loop i).trips) : ClosedOff (k0_off4 i k 3#32) := ⟨![1, 4 * k.val + 3, 0, 0], off4 i k 3⟩

theorem off19 : ∀ (i : grid0.Coords), k0_off19 i = ![0, 1, 1536 * ((i 2).val / 4), 0] := by decide +kernel
instance (i : grid0.Coords) : ClosedOff (k0_off19 i) := ⟨_, off19 i⟩

theorem off20 : ∀ (i : grid0.Coords) (c : Fin 2), k0_off20 i (BitVec.ofNat 32 c.val) = ![1, 4 * ((i 2).val / 4) + c.val, 0, 0] := by decide +kernel
instance (i : grid0.Coords) : ClosedOff (k0_off20 i 0#32) := ⟨![1, 4 * ((i 2).val / 4) + 0, 0, 0], off20 i 0⟩
instance (i : grid0.Coords) : ClosedOff (k0_off20 i 1#32) := ⟨![1, 4 * ((i 2).val / 4) + 1, 0, 0], off20 i 1⟩

theorem off28 : ∀ (i : grid0.Coords), k0_off28 i = ![0, 1, ((((i 2).val + 4294967295) % 4294967296) * 384) % 4294967296, 0] := by decide +kernel
instance (i : grid0.Coords) : ClosedOff (k0_off28 i) := ⟨_, off28 i⟩

theorem off29 : ∀ (i : grid0.Coords), k0_off29 i = ![1, (((i 2).val + 4294967295) % 4294967296), 0, 0] := by decide +kernel
instance (i : grid0.Coords) : ClosedOff (k0_off29 i) := ⟨_, off29 i⟩

theorem off30 : ∀ (i : grid0.Coords), k0_off30 i = ![1, (i 2).val, 0, 0] := by decide +kernel
instance (i : grid0.Coords) : ClosedOff (k0_off30 i) := ⟨_, off30 i⟩

theorem off39 : ∀ (i : grid0.Coords), k0_off39 i = ![0, 1, 384 * (i 2).val, 0] := by decide +kernel
instance (i : grid0.Coords) : ClosedOff (k0_off39 i) := ⟨_, off39 i⟩

theorem off40 : ∀ (i : grid0.Coords), k0_off40 i = ![1, (i 2).val, 0, 0] := by decide +kernel
instance (i : grid0.Coords) : ClosedOff (k0_off40 i) := ⟨_, off40 i⟩

theorem off48 : ∀ (i : grid0.Coords) (k : Fin (k0_t3_loop i).trips), k0_off48 i k = ![0, 1, 1536 * k.val, 0] := by decide +kernel
instance (i : grid0.Coords) (k : Fin (k0_t3_loop i).trips) : ClosedOff (k0_off48 i k) := ⟨_, off48 i k⟩

theorem off47 : ∀ (i : grid0.Coords) (k : Fin (k0_t3_loop i).trips) (c : Fin 4), k0_off47 i k (BitVec.ofNat 32 c.val) = ![1, 4 * k.val + c.val, 0, 0] := by decide +kernel
instance (i : grid0.Coords) (k : Fin (k0_t3_loop i).trips) : ClosedOff (k0_off47 i k 0#32) := ⟨![1, 4 * k.val + 0, 0, 0], off47 i k 0⟩
instance (i : grid0.Coords) (k : Fin (k0_t3_loop i).trips) : ClosedOff (k0_off47 i k 1#32) := ⟨![1, 4 * k.val + 1, 0, 0], off47 i k 1⟩
instance (i : grid0.Coords) (k : Fin (k0_t3_loop i).trips) : ClosedOff (k0_off47 i k 2#32) := ⟨![1, 4 * k.val + 2, 0, 0], off47 i k 2⟩
instance (i : grid0.Coords) (k : Fin (k0_t3_loop i).trips) : ClosedOff (k0_off47 i k 3#32) := ⟨![1, 4 * k.val + 3, 0, 0], off47 i k 3⟩

theorem off64 : ∀ (i : grid0.Coords), k0_off64 i = ![0, 1, 1536 * (((i 2).val + 1) / 4), 0] := by decide +kernel
instance (i : grid0.Coords) : ClosedOff (k0_off64 i) := ⟨_, off64 i⟩

theorem off63 : ∀ (i : grid0.Coords) (c : Fin 2), k0_off63 i (BitVec.ofNat 32 c.val) = ![1, 4 * (((i 2).val + 1) / 4) + c.val, 0, 0] := by decide +kernel
instance (i : grid0.Coords) : ClosedOff (k0_off63 i 0#32) := ⟨![1, 4 * (((i 2).val + 1) / 4) + 0, 0, 0], off63 i 0⟩
instance (i : grid0.Coords) : ClosedOff (k0_off63 i 1#32) := ⟨![1, 4 * (((i 2).val + 1) / 4) + 1, 0, 0], off63 i 1⟩

theorem off72 : ∀ (i : grid0.Coords), k0_off72 i = ![0, 1, 384 * (i 2).val, 0] := by decide +kernel
instance (i : grid0.Coords) : ClosedOff (k0_off72 i) := ⟨_, off72 i⟩

theorem off71 : ∀ (i : grid0.Coords), k0_off71 i = ![1, (i 2).val, 0, 0] := by decide +kernel
instance (i : grid0.Coords) : ClosedOff (k0_off71 i) := ⟨_, off71 i⟩

theorem off5 : ∀ (i : grid0.Coords) (k : Fin (k0_t1_loop i).trips), k0_off5 i k = ![0, 2, 1536 * k.val, 0] := by decide +kernel
instance (i : grid0.Coords) (k : Fin (k0_t1_loop i).trips) : ClosedOff (k0_off5 i k) := ⟨_, off5 i k⟩

theorem off6 : ∀ (i : grid0.Coords) (k : Fin (k0_t1_loop i).trips) (c : Fin 4), k0_off6 i k (BitVec.ofNat 32 c.val) = ![2, 4 * k.val + c.val, 0, 0] := by decide +kernel
instance (i : grid0.Coords) (k : Fin (k0_t1_loop i).trips) : ClosedOff (k0_off6 i k 0#32) := ⟨![2, 4 * k.val + 0, 0, 0], off6 i k 0⟩
instance (i : grid0.Coords) (k : Fin (k0_t1_loop i).trips) : ClosedOff (k0_off6 i k 1#32) := ⟨![2, 4 * k.val + 1, 0, 0], off6 i k 1⟩
instance (i : grid0.Coords) (k : Fin (k0_t1_loop i).trips) : ClosedOff (k0_off6 i k 2#32) := ⟨![2, 4 * k.val + 2, 0, 0], off6 i k 2⟩
instance (i : grid0.Coords) (k : Fin (k0_t1_loop i).trips) : ClosedOff (k0_off6 i k 3#32) := ⟨![2, 4 * k.val + 3, 0, 0], off6 i k 3⟩

theorem off21 : ∀ (i : grid0.Coords), k0_off21 i = ![0, 2, 1536 * ((i 2).val / 4), 0] := by decide +kernel
instance (i : grid0.Coords) : ClosedOff (k0_off21 i) := ⟨_, off21 i⟩

theorem off22 : ∀ (i : grid0.Coords) (c : Fin 2), k0_off22 i (BitVec.ofNat 32 c.val) = ![2, 4 * ((i 2).val / 4) + c.val, 0, 0] := by decide +kernel
instance (i : grid0.Coords) : ClosedOff (k0_off22 i 0#32) := ⟨![2, 4 * ((i 2).val / 4) + 0, 0, 0], off22 i 0⟩
instance (i : grid0.Coords) : ClosedOff (k0_off22 i 1#32) := ⟨![2, 4 * ((i 2).val / 4) + 1, 0, 0], off22 i 1⟩

theorem off31 : ∀ (i : grid0.Coords), k0_off31 i = ![0, 2, ((((i 2).val + 4294967295) % 4294967296) * 384) % 4294967296, 0] := by decide +kernel
instance (i : grid0.Coords) : ClosedOff (k0_off31 i) := ⟨_, off31 i⟩

theorem off32 : ∀ (i : grid0.Coords), k0_off32 i = ![2, (((i 2).val + 4294967295) % 4294967296), 0, 0] := by decide +kernel
instance (i : grid0.Coords) : ClosedOff (k0_off32 i) := ⟨_, off32 i⟩

theorem off33 : ∀ (i : grid0.Coords), k0_off33 i = ![2, (i 2).val, 0, 0] := by decide +kernel
instance (i : grid0.Coords) : ClosedOff (k0_off33 i) := ⟨_, off33 i⟩

theorem off41 : ∀ (i : grid0.Coords), k0_off41 i = ![0, 2, 384 * (i 2).val, 0] := by decide +kernel
instance (i : grid0.Coords) : ClosedOff (k0_off41 i) := ⟨_, off41 i⟩

theorem off42 : ∀ (i : grid0.Coords), k0_off42 i = ![2, (i 2).val, 0, 0] := by decide +kernel
instance (i : grid0.Coords) : ClosedOff (k0_off42 i) := ⟨_, off42 i⟩

theorem off50 : ∀ (i : grid0.Coords) (k : Fin (k0_t3_loop i).trips), k0_off50 i k = ![0, 2, 1536 * k.val, 0] := by decide +kernel
instance (i : grid0.Coords) (k : Fin (k0_t3_loop i).trips) : ClosedOff (k0_off50 i k) := ⟨_, off50 i k⟩

theorem off49 : ∀ (i : grid0.Coords) (k : Fin (k0_t3_loop i).trips) (c : Fin 4), k0_off49 i k (BitVec.ofNat 32 c.val) = ![2, 4 * k.val + c.val, 0, 0] := by decide +kernel
instance (i : grid0.Coords) (k : Fin (k0_t3_loop i).trips) : ClosedOff (k0_off49 i k 0#32) := ⟨![2, 4 * k.val + 0, 0, 0], off49 i k 0⟩
instance (i : grid0.Coords) (k : Fin (k0_t3_loop i).trips) : ClosedOff (k0_off49 i k 1#32) := ⟨![2, 4 * k.val + 1, 0, 0], off49 i k 1⟩
instance (i : grid0.Coords) (k : Fin (k0_t3_loop i).trips) : ClosedOff (k0_off49 i k 2#32) := ⟨![2, 4 * k.val + 2, 0, 0], off49 i k 2⟩
instance (i : grid0.Coords) (k : Fin (k0_t3_loop i).trips) : ClosedOff (k0_off49 i k 3#32) := ⟨![2, 4 * k.val + 3, 0, 0], off49 i k 3⟩

theorem off66 : ∀ (i : grid0.Coords), k0_off66 i = ![0, 2, 1536 * (((i 2).val + 1) / 4), 0] := by decide +kernel
instance (i : grid0.Coords) : ClosedOff (k0_off66 i) := ⟨_, off66 i⟩

theorem off65 : ∀ (i : grid0.Coords) (c : Fin 2), k0_off65 i (BitVec.ofNat 32 c.val) = ![2, 4 * (((i 2).val + 1) / 4) + c.val, 0, 0] := by decide +kernel
instance (i : grid0.Coords) : ClosedOff (k0_off65 i 0#32) := ⟨![2, 4 * (((i 2).val + 1) / 4) + 0, 0, 0], off65 i 0⟩
instance (i : grid0.Coords) : ClosedOff (k0_off65 i 1#32) := ⟨![2, 4 * (((i 2).val + 1) / 4) + 1, 0, 0], off65 i 1⟩

theorem off74 : ∀ (i : grid0.Coords), k0_off74 i = ![0, 2, 384 * (i 2).val, 0] := by decide +kernel
instance (i : grid0.Coords) : ClosedOff (k0_off74 i) := ⟨_, off74 i⟩

theorem off73 : ∀ (i : grid0.Coords), k0_off73 i = ![2, (i 2).val, 0, 0] := by decide +kernel
instance (i : grid0.Coords) : ClosedOff (k0_off73 i) := ⟨_, off73 i⟩

theorem off7 : ∀ (i : grid0.Coords) (k : Fin (k0_t1_loop i).trips), k0_off7 i k = ![0, 3, 1536 * k.val, 0] := by decide +kernel
instance (i : grid0.Coords) (k : Fin (k0_t1_loop i).trips) : ClosedOff (k0_off7 i k) := ⟨_, off7 i k⟩

theorem off8 : ∀ (i : grid0.Coords) (k : Fin (k0_t1_loop i).trips) (c : Fin 4), k0_off8 i k (BitVec.ofNat 32 c.val) = ![3, 4 * k.val + c.val, 0, 0] := by decide +kernel
instance (i : grid0.Coords) (k : Fin (k0_t1_loop i).trips) : ClosedOff (k0_off8 i k 0#32) := ⟨![3, 4 * k.val + 0, 0, 0], off8 i k 0⟩
instance (i : grid0.Coords) (k : Fin (k0_t1_loop i).trips) : ClosedOff (k0_off8 i k 1#32) := ⟨![3, 4 * k.val + 1, 0, 0], off8 i k 1⟩
instance (i : grid0.Coords) (k : Fin (k0_t1_loop i).trips) : ClosedOff (k0_off8 i k 2#32) := ⟨![3, 4 * k.val + 2, 0, 0], off8 i k 2⟩
instance (i : grid0.Coords) (k : Fin (k0_t1_loop i).trips) : ClosedOff (k0_off8 i k 3#32) := ⟨![3, 4 * k.val + 3, 0, 0], off8 i k 3⟩

theorem off23 : ∀ (i : grid0.Coords), k0_off23 i = ![0, 3, 1536 * ((i 2).val / 4), 0] := by decide +kernel
instance (i : grid0.Coords) : ClosedOff (k0_off23 i) := ⟨_, off23 i⟩

theorem off24 : ∀ (i : grid0.Coords) (c : Fin 2), k0_off24 i (BitVec.ofNat 32 c.val) = ![3, 4 * ((i 2).val / 4) + c.val, 0, 0] := by decide +kernel
instance (i : grid0.Coords) : ClosedOff (k0_off24 i 0#32) := ⟨![3, 4 * ((i 2).val / 4) + 0, 0, 0], off24 i 0⟩
instance (i : grid0.Coords) : ClosedOff (k0_off24 i 1#32) := ⟨![3, 4 * ((i 2).val / 4) + 1, 0, 0], off24 i 1⟩

theorem off34 : ∀ (i : grid0.Coords), k0_off34 i = ![0, 3, ((((i 2).val + 4294967295) % 4294967296) * 384) % 4294967296, 0] := by decide +kernel
instance (i : grid0.Coords) : ClosedOff (k0_off34 i) := ⟨_, off34 i⟩

theorem off35 : ∀ (i : grid0.Coords), k0_off35 i = ![3, (((i 2).val + 4294967295) % 4294967296), 0, 0] := by decide +kernel
instance (i : grid0.Coords) : ClosedOff (k0_off35 i) := ⟨_, off35 i⟩

theorem off36 : ∀ (i : grid0.Coords), k0_off36 i = ![3, (i 2).val, 0, 0] := by decide +kernel
instance (i : grid0.Coords) : ClosedOff (k0_off36 i) := ⟨_, off36 i⟩

theorem off43 : ∀ (i : grid0.Coords), k0_off43 i = ![0, 3, 384 * (i 2).val, 0] := by decide +kernel
instance (i : grid0.Coords) : ClosedOff (k0_off43 i) := ⟨_, off43 i⟩

theorem off44 : ∀ (i : grid0.Coords), k0_off44 i = ![3, (i 2).val, 0, 0] := by decide +kernel
instance (i : grid0.Coords) : ClosedOff (k0_off44 i) := ⟨_, off44 i⟩

theorem off52 : ∀ (i : grid0.Coords) (k : Fin (k0_t3_loop i).trips), k0_off52 i k = ![0, 3, 1536 * k.val, 0] := by decide +kernel
instance (i : grid0.Coords) (k : Fin (k0_t3_loop i).trips) : ClosedOff (k0_off52 i k) := ⟨_, off52 i k⟩

theorem off51 : ∀ (i : grid0.Coords) (k : Fin (k0_t3_loop i).trips) (c : Fin 4), k0_off51 i k (BitVec.ofNat 32 c.val) = ![3, 4 * k.val + c.val, 0, 0] := by decide +kernel
instance (i : grid0.Coords) (k : Fin (k0_t3_loop i).trips) : ClosedOff (k0_off51 i k 0#32) := ⟨![3, 4 * k.val + 0, 0, 0], off51 i k 0⟩
instance (i : grid0.Coords) (k : Fin (k0_t3_loop i).trips) : ClosedOff (k0_off51 i k 1#32) := ⟨![3, 4 * k.val + 1, 0, 0], off51 i k 1⟩
instance (i : grid0.Coords) (k : Fin (k0_t3_loop i).trips) : ClosedOff (k0_off51 i k 2#32) := ⟨![3, 4 * k.val + 2, 0, 0], off51 i k 2⟩
instance (i : grid0.Coords) (k : Fin (k0_t3_loop i).trips) : ClosedOff (k0_off51 i k 3#32) := ⟨![3, 4 * k.val + 3, 0, 0], off51 i k 3⟩

theorem off68 : ∀ (i : grid0.Coords), k0_off68 i = ![0, 3, 1536 * (((i 2).val + 1) / 4), 0] := by decide +kernel
instance (i : grid0.Coords) : ClosedOff (k0_off68 i) := ⟨_, off68 i⟩

theorem off67 : ∀ (i : grid0.Coords) (c : Fin 2), k0_off67 i (BitVec.ofNat 32 c.val) = ![3, 4 * (((i 2).val + 1) / 4) + c.val, 0, 0] := by decide +kernel
instance (i : grid0.Coords) : ClosedOff (k0_off67 i 0#32) := ⟨![3, 4 * (((i 2).val + 1) / 4) + 0, 0, 0], off67 i 0⟩
instance (i : grid0.Coords) : ClosedOff (k0_off67 i 1#32) := ⟨![3, 4 * (((i 2).val + 1) / 4) + 1, 0, 0], off67 i 1⟩

theorem off76 : ∀ (i : grid0.Coords), k0_off76 i = ![0, 3, 384 * (i 2).val, 0] := by decide +kernel
instance (i : grid0.Coords) : ClosedOff (k0_off76 i) := ⟨_, off76 i⟩

theorem off75 : ∀ (i : grid0.Coords), k0_off75 i = ![3, (i 2).val, 0, 0] := by decide +kernel
instance (i : grid0.Coords) : ClosedOff (k0_off75 i) := ⟨_, off75 i⟩

end Cert.Proof.Attn

end
-- ==== Proof.AttnLoop.lean ====
module

public import proofs.«01_k».proof.Proof.AttnOffsets
public import Idealize.ShloMosaic.Lib.LoopRemainder

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- The four carried row maxima, one for each head. -/
abbrev Acc4 (F : FTy → Type) [FloatOps F] : Type := FVec F S384x128 .f32 × FVec F S384x128 .f32 × FVec F S384x128 .f32 × FVec F S384x128 .f32

/-- The scores of one head's query block against four key tiles. -/
abbrev quad (q : Vec F S1x1x384x128 .bf16) (kt : Vec F S1x1x1536x128 .bf16) : FVec F S384x1536 .f32 := k0_pay2 (k0_pay141 q) kt

/-- The four score tiles of such a span, each in the shape in which it is stored. -/
abbrev tileW0 (s : FVec F S384x1536 .f32) : Vec F S1x1x384x384 .f32 := k0_pay19 (extractStridedSlice S384x384 ![0, 0] s slices_S384x1536_o0_0_S384x384)
@[inherit_doc tileW0] abbrev tileW1 (s : FVec F S384x1536 .f32) : Vec F S1x1x384x384 .f32 := k0_pay20 s
@[inherit_doc tileW0] abbrev tileW2 (s : FVec F S384x1536 .f32) : Vec F S1x1x384x384 .f32 := k0_pay21 s
@[inherit_doc tileW0] abbrev tileW3 (s : FVec F S384x1536 .f32) : Vec F S1x1x384x384 .f32 := k0_pay22 s

/-- What trip `k` of the first scores loop stores: four tiles for each head, the last store first. -/
def t1Pieces (i : grid0.Coords) (arg4 : Memref sig .tc .vmem S1x4x4224x128 .bf16) (q0 q1 q2 q3 : Vec F S1x1x384x128 .bf16) (X4 : BufTy.Contents (Elt F) arg4.view.ty) (k : Fin (k0_t1_loop i).trips) : List (View.Piece (Elt F) S4x11x384x384 .f32) :=
  [⟨Rect.unit (s := S4x11x384x384) (k0_off8 i k 3#32) S1x1x384x384.size (k0_off8_inb i k 3), tileW3 (quad q3 (View.readAt (Elt F) arg4.view (Rect.unit (s := S1x4x4224x128) (k0_off7 i k) S1x1x1536x128.size (k0_off7_inb i k)).toLoadRect X4))⟩,
   ⟨Rect.unit (s := S4x11x384x384) (k0_off8 i k 2#32) S1x1x384x384.size (k0_off8_inb i k 2), tileW2 (quad q3 (View.readAt (Elt F) arg4.view (Rect.unit (s := S1x4x4224x128) (k0_off7 i k) S1x1x1536x128.size (k0_off7_inb i k)).toLoadRect X4))⟩,
   ⟨Rect.unit (s := S4x11x384x384) (k0_off8 i k 1#32) S1x1x384x384.size (k0_off8_inb i k 1), tileW1 (quad q3 (View.readAt (Elt F) arg4.view (Rect.unit (s := S1x4x4224x128) (k0_off7 i k) S1x1x1536x128.size (k0_off7_inb i k)).toLoadRect X4))⟩,
   ⟨Rect.unit (s := S4x11x384x384) (k0_off8 i k 0#32) S1x1x384x384.size (k0_off8_inb i k 0), tileW0 (quad q3 (View.readAt (Elt F) arg4.view (Rect.unit (s := S1x4x4224x128) (k0_off7 i k) S1x1x1536x128.size (k0_off7_inb i k)).toLoadRect X4))⟩,
   ⟨Rect.unit (s := S4x11x384x384) (k0_off6 i k 3#32) S1x1x384x384.size (k0_off6_inb i k 3), tileW3 (quad q2 (View.readAt (Elt F) arg4.view (Rect.unit (s := S1x4x4224x128) (k0_off5 i k) S1x1x1536x128.size (k0_off5_inb i k)).toLoadRect X4))⟩,
   ⟨Rect.unit (s := S4x11x384x384) (k0_off6 i k 2#32) S1x1x384x384.size (k0_off6_inb i k 2), tileW2 (quad q2 (View.readAt (Elt F) arg4.view (Rect.unit (s := S1x4x4224x128) (k0_off5 i k) S1x1x1536x128.size (k0_off5_inb i k)).toLoadRect X4))⟩,
   ⟨Rect.unit (s := S4x11x384x384) (k0_off6 i k 1#32) S1x1x384x384.size (k0_off6_inb i k 1), tileW1 (quad q2 (View.readAt (Elt F) arg4.view (Rect.unit (s := S1x4x4224x128) (k0_off5 i k) S1x1x1536x128.size (k0_off5_inb i k)).toLoadRect X4))⟩,
   ⟨Rect.unit (s := S4x11x384x384) (k0_off6 i k 0#32) S1x1x384x384.size (k0_off6_inb i k 0), tileW0 (quad q2 (View.readAt (Elt F) arg4.view (Rect.unit (s := S1x4x4224x128) (k0_off5 i k) S1x1x1536x128.size (k0_off5_inb i k)).toLoadRect X4))⟩,
   ⟨Rect.unit (s := S4x11x384x384) (k0_off4 i k 3#32) S1x1x384x384.size (k0_off4_inb i k 3), tileW3 (quad q1 (View.readAt (Elt F) arg4.view (Rect.unit (s := S1x4x4224x128) (k0_off3 i k) S1x1x1536x128.size (k0_off3_inb i k)).toLoadRect X4))⟩,
   ⟨Rect.unit (s := S4x11x384x384) (k0_off4 i k 2#32) S1x1x384x384.size (k0_off4_inb i k 2), tileW2 (quad q1 (View.readAt (Elt F) arg4.view (Rect.unit (s := S1x4x4224x128) (k0_off3 i k) S1x1x1536x128.size (k0_off3_inb i k)).toLoadRect X4))⟩,
   ⟨Rect.unit (s := S4x11x384x384) (k0_off4 i k 1#32) S1x1x384x384.size (k0_off4_inb i k 1), tileW1 (quad q1 (View.readAt (Elt F) arg4.view (Rect.unit (s := S1x4x4224x128) (k0_off3 i k) S1x1x1536x128.size (k0_off3_inb i k)).toLoadRect X4))⟩,
   ⟨Rect.unit (s := S4x11x384x384) (k0_off4 i k 0#32) S1x1x384x384.size (k0_off4_inb i k 0), tileW0 (quad q1 (View.readAt (Elt F) arg4.view (Rect.unit (s := S1x4x4224x128) (k0_off3 i k) S1x1x1536x128.size (k0_off3_inb i k)).toLoadRect X4))⟩,
   ⟨Rect.unit (s := S4x11x384x384) (k0_off2 i k 3#32) S1x1x384x384.size (k0_off2_inb i k 3), tileW3 (quad q0 (View.readAt (Elt F) arg4.view (Rect.unit (s := S1x4x4224x128) (k0_off1 i k) S1x1x1536x128.size (k0_off1_inb i k)).toLoadRect X4))⟩,
   ⟨Rect.unit (s := S4x11x384x384) (k0_off2 i k 2#32) S1x1x384x384.size (k0_off2_inb i k 2), tileW2 (quad q0 (View.readAt (Elt F) arg4.view (Rect.unit (s := S1x4x4224x128) (k0_off1 i k) S1x1x1536x128.size (k0_off1_inb i k)).toLoadRect X4))⟩,
   ⟨Rect.unit (s := S4x11x384x384) (k0_off2 i k 1#32) S1x1x384x384.size (k0_off2_inb i k 1), tileW1 (quad q0 (View.readAt (Elt F) arg4.view (Rect.unit (s := S1x4x4224x128) (k0_off1 i k) S1x1x1536x128.size (k0_off1_inb i k)).toLoadRect X4))⟩,
   ⟨Rect.unit (s := S4x11x384x384) (k0_off2 i k 0#32) S1x1x384x384.size (k0_off2_inb i k 0), tileW0 (quad q0 (View.readAt (Elt F) arg4.view (Rect.unit (s := S1x4x4224x128) (k0_off1 i k) S1x1x1536x128.size (k0_off1_inb i k)).toLoadRect X4))⟩]

/-- What trip `k` carries on: the old row maxima against those of the four new tiles. -/
def t1Yield (i : grid0.Coords) (arg4 : Memref sig .tc .vmem S1x4x4224x128 .bf16) (q0 q1 q2 q3 : Vec F S1x1x384x128 .bf16) (X4 : BufTy.Contents (Elt F) arg4.view.ty) (k : Fin (k0_t1_loop i).trips) (acc : Acc4 F) : Acc4 F :=
  (k0_pay23 acc.1 (quad q0 (View.readAt (Elt F) arg4.view (Rect.unit (s := S1x4x4224x128) (k0_off1 i k) S1x1x1536x128.size (k0_off1_inb i k)).toLoadRect X4)), k0_pay23 acc.2.1 (quad q1 (View.readAt (Elt F) arg4.view (Rect.unit (s := S1x4x4224x128) (k0_off3 i k) S1x1x1536x128.size (k0_off3_inb i k)).toLoadRect X4)), k0_pay23 acc.2.2.1 (quad q2 (View.readAt (Elt F) arg4.view (Rect.unit (s := S1x4x4224x128) (k0_off5 i k) S1x1x1536x128.size (k0_off5_inb i k)).toLoadRect X4)), k0_pay23 acc.2.2.2 (quad q3 (View.readAt (Elt F) arg4.view (Rect.unit (s := S1x4x4224x128) (k0_off7 i k) S1x1x1536x128.size (k0_off7_inb i k)).toLoadRect X4)))

/-- The score buffer before trip `k`. -/
def t1C (i : grid0.Coords) (arg4 : Memref sig .tc .vmem S1x4x4224x128 .bf16) (arg7 : Memref sig .tc .vmem S4x11x384x384 .f32) (q0 q1 q2 q3 : Vec F S1x1x384x128 .bf16) (X4 : BufTy.Contents (Elt F) arg4.view.ty) (f0 : BufTy.Contents (Elt F) arg7.view.ty) : ℕ → BufTy.Contents (Elt F) arg7.view.ty
  | 0 => f0
  | k + 1 => if h : k < (k0_t1_loop i).trips then arg7.view.writes (Elt F) (t1C i arg4 arg7 q0 q1 q2 q3 X4 f0 k) (t1Pieces i arg4 q0 q1 q2 q3 X4 ⟨k, h⟩) else f0

/-- The carried row maxima before trip `k`. -/
def t1A (i : grid0.Coords) (arg4 : Memref sig .tc .vmem S1x4x4224x128 .bf16) (q0 q1 q2 q3 : Vec F S1x1x384x128 .bf16) (X4 : BufTy.Contents (Elt F) arg4.view.ty) (init : Acc4 F) : ℕ → Acc4 F
  | 0 => init
  | k + 1 => if h : k < (k0_t1_loop i).trips then t1Yield i arg4 q0 q1 q2 q3 X4 ⟨k, h⟩ (t1A i arg4 q0 q1 q2 q3 X4 init k) else init

theorem t1C_succ (i : grid0.Coords) (arg4 : Memref sig .tc .vmem S1x4x4224x128 .bf16) (arg7 : Memref sig .tc .vmem S4x11x384x384 .f32) (q0 q1 q2 q3 : Vec F S1x1x384x128 .bf16) (X4 : BufTy.Contents (Elt F) arg4.view.ty) (f0 : BufTy.Contents (Elt F) arg7.view.ty) (k : Fin (k0_t1_loop i).trips) :
    t1C i arg4 arg7 q0 q1 q2 q3 X4 f0 (k.val + 1) = arg7.view.writes (Elt F) (t1C i arg4 arg7 q0 q1 q2 q3 X4 f0 k.val) (t1Pieces i arg4 q0 q1 q2 q3 X4 k) := by
  rw [t1C.eq_2]; exact dif_pos k.isLt

theorem t1A_succ (i : grid0.Coords) (arg4 : Memref sig .tc .vmem S1x4x4224x128 .bf16) (q0 q1 q2 q3 : Vec F S1x1x384x128 .bf16) (X4 : BufTy.Contents (Elt F) arg4.view.ty) (init : Acc4 F) (k : Fin (k0_t1_loop i).trips) :
    t1A i arg4 q0 q1 q2 q3 X4 init (k.val + 1) = t1Yield i arg4 q0 q1 q2 q3 X4 k (t1A i arg4 q0 q1 q2 q3 X4 init k.val) := by
  rw [t1A.eq_2]; exact dif_pos k.isLt

set_option warn.classDefReducibility false in
/-- The first scores loop by its invariant: the keys untouched, the score buffer and the carried maxima at their recursions. -/
@[sl_loop] def loopInv1 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole) (v0 v2 v4 v6 : Vec F S1x1x384x128 .bf16)
    (X4 : BufTy.Contents (Elt F) arg4.view.ty) (f0 : BufTy.Contents (Elt F) arg7.view.ty) (init : Acc4 F) :
    LoopInvTy_k0_t1 (F := F) Unit ℕ (UR sig nD τ) ℕ 𝒱 c bd E i arg3 harg3 arg4 harg4 arg5 harg5 arg6 harg6 arg7 harg7 arg8 harg8 arg9 harg9 v0 v2 v4 v6 init where
  inv k acc := iprop((arg4.view.loc (c : Thread nD τ) ↦[arg4.view.set]{fullShare} X4) ∗ (∃ f, (arg7.view.loc (c : Thread nD τ) ↦[arg7.view.set]{fullShare} f) ∗ ⌜f = t1C i arg4 arg7 v0 v2 v4 v6 X4 f0 k⌝) ∗ ⌜acc = t1A i arg4 v0 v2 v4 v6 X4 init k⌝)
  step k acc := by
    iintro ⟨H4, ⟨%f, H7, %hf⟩, %hacc⟩
    subst hf hacc
    rw [t1C_succ, t1A_succ]
    generalize t1A i arg4 v0 v2 v4 v6 X4 init k.val = a
    obtain ⟨a0, a1, a2, a3⟩ := a
    unfold k0_t1_body
    sl_exec
    sl_step
    isplitl [H4]; · iexact H4
    isplitl [H7]
    · iexists _
      isplitl [H7]; · iexact H7
      ipureintro
      unfold t1Pieces
      refine congrArg (arg7.view.writes (Elt F) _) ?_
      iterate 16 (refine congrArg₂ List.cons (congrArg (fun w => (⟨_, w⟩ : View.Piece (Elt F) S4x11x384x384 .f32)) (by rfl)) ?_)
      rfl
    ipureintro
    unfold t1Yield
    refine Prod.ext (rfl) (Prod.ext ?_ (Prod.ext ?_ ?_)) <;> rfl

end Cert.Proof.Attn
end
-- ==== Proof.AttnLoopB.lean ====
module

public import Idealize.ShloMosaic.Lib.LoopRemainder
public import proofs.«01_k».proof.Proof.AttnLoop

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- What trip `k` of the loop over the values carries on: each head's sum, with the weighted values of four tiles added. -/
def t3Yield (i : grid0.Coords) (arg5 : Memref sig .tc .vmem S1x4x4224x128 .bf16) (arg7 : Memref sig .tc .vmem S4x11x384x384 .f32) (M0 M1 M2 M3 : FVec F S384x1 .f32) (X5 : BufTy.Contents (Elt F) arg5.view.ty) (X7 : BufTy.Contents (Elt F) arg7.view.ty) (k : Fin (k0_t3_loop i).trips) (acc : Acc4 F) : Acc4 F :=
  (k0_pay172 acc.1 (k0_pay111 M0 (View.readAt (Elt F) arg7.view (Rect.unit (s := S4x11x384x384) (k0_off45 i k 0#32) S1x1x384x384.size (k0_off45_inb i k 0)).toLoadRect X7) (View.readAt (Elt F) arg7.view (Rect.unit (s := S4x11x384x384) (k0_off45 i k 1#32) S1x1x384x384.size (k0_off45_inb i k 1)).toLoadRect X7) (View.readAt (Elt F) arg7.view (Rect.unit (s := S4x11x384x384) (k0_off45 i k 2#32) S1x1x384x384.size (k0_off45_inb i k 2)).toLoadRect X7) (View.readAt (Elt F) arg7.view (Rect.unit (s := S4x11x384x384) (k0_off45 i k 3#32) S1x1x384x384.size (k0_off45_inb i k 3)).toLoadRect X7) (View.readAt (Elt F) arg5.view (Rect.unit (s := S1x4x4224x128) (k0_off46 i k) S1x1x1536x128.size (k0_off46_inb i k)).toLoadRect X5)),
   k0_pay172 acc.2.1 (k0_pay111 M1 (View.readAt (Elt F) arg7.view (Rect.unit (s := S4x11x384x384) (k0_off47 i k 0#32) S1x1x384x384.size (k0_off47_inb i k 0)).toLoadRect X7) (View.readAt (Elt F) arg7.view (Rect.unit (s := S4x11x384x384) (k0_off47 i k 1#32) S1x1x384x384.size (k0_off47_inb i k 1)).toLoadRect X7) (View.readAt (Elt F) arg7.view (Rect.unit (s := S4x11x384x384) (k0_off47 i k 2#32) S1x1x384x384.size (k0_off47_inb i k 2)).toLoadRect X7) (View.readAt (Elt F) arg7.view (Rect.unit (s := S4x11x384x384) (k0_off47 i k 3#32) S1x1x384x384.size (k0_off47_inb i k 3)).toLoadRect X7) (View.readAt (Elt F) arg5.view (Rect.unit (s := S1x4x4224x128) (k0_off48 i k) S1x1x1536x128.size (k0_off48_inb i k)).toLoadRect X5)),
   k0_pay172 acc.2.2.1 (k0_pay111 M2 (View.readAt (Elt F) arg7.view (Rect.unit (s := S4x11x384x384) (k0_off49 i k 0#32) S1x1x384x384.size (k0_off49_inb i k 0)).toLoadRect X7) (View.readAt (Elt F) arg7.view (Rect.unit (s := S4x11x384x384) (k0_off49 i k 1#32) S1x1x384x384.size (k0_off49_inb i k 1)).toLoadRect X7) (View.readAt (Elt F) arg7.view (Rect.unit (s := S4x11x384x384) (k0_off49 i k 2#32) S1x1x384x384.size (k0_off49_inb i k 2)).toLoadRect X7) (View.readAt (Elt F) arg7.view (Rect.unit (s := S4x11x384x384) (k0_off49 i k 3#32) S1x1x384x384.size (k0_off49_inb i k 3)).toLoadRect X7) (View.readAt (Elt F) arg5.view (Rect.unit (s := S1x4x4224x128) (k0_off50 i k) S1x1x1536x128.size (k0_off50_inb i k)).toLoadRect X5)),
   k0_pay172 acc.2.2.2 (k0_pay111 M3 (View.readAt (Elt F) arg7.view (Rect.unit (s := S4x11x384x384) (k0_off51 i k 0#32) S1x1x384x384.size (k0_off51_inb i k 0)).toLoadRect X7) (View.readAt (Elt F) arg7.view (Rect.unit (s := S4x11x384x384) (k0_off51 i k 1#32) S1x1x384x384.size (k0_off51_inb i k 1)).toLoadRect X7) (View.readAt (Elt F) arg7.view (Rect.unit (s := S4x11x384x384) (k0_off51 i k 2#32) S1x1x384x384.size (k0_off51_inb i k 2)).toLoadRect X7) (View.readAt (Elt F) arg7.view (Rect.unit (s := S4x11x384x384) (k0_off51 i k 3#32) S1x1x384x384.size (k0_off51_inb i k 3)).toLoadRect X7) (View.readAt (Elt F) arg5.view (Rect.unit (s := S1x4x4224x128) (k0_off52 i k) S1x1x1536x128.size (k0_off52_inb i k)).toLoadRect X5)))

/-- The carried sums before trip `k`. -/
def t3A (i : grid0.Coords) (arg5 : Memref sig .tc .vmem S1x4x4224x128 .bf16) (arg7 : Memref sig .tc .vmem S4x11x384x384 .f32) (M0 M1 M2 M3 : FVec F S384x1 .f32) (X5 : BufTy.Contents (Elt F) arg5.view.ty) (X7 : BufTy.Contents (Elt F) arg7.view.ty) (init : Acc4 F) : ℕ → Acc4 F
  | 0 => init
  | k + 1 => if h : k < (k0_t3_loop i).trips then t3Yield i arg5 arg7 M0 M1 M2 M3 X5 X7 ⟨k, h⟩ (t3A i arg5 arg7 M0 M1 M2 M3 X5 X7 init k) else init

theorem t3A_succ (i : grid0.Coords) (arg5 : Memref sig .tc .vmem S1x4x4224x128 .bf16) (arg7 : Memref sig .tc .vmem S4x11x384x384 .f32) (M0 M1 M2 M3 : FVec F S384x1 .f32) (X5 : BufTy.Contents (Elt F) arg5.view.ty) (X7 : BufTy.Contents (Elt F) arg7.view.ty) (init : Acc4 F) (k : Fin (k0_t3_loop i).trips) :
    t3A i arg5 arg7 M0 M1 M2 M3 X5 X7 init (k.val + 1) = t3Yield i arg5 arg7 M0 M1 M2 M3 X5 X7 k (t3A i arg5 arg7 M0 M1 M2 M3 X5 X7 init k.val) := by
  rw [t3A.eq_2]; exact dif_pos k.isLt

set_option warn.classDefReducibility false in
/-- The loop over the values by its invariant: values and scores untouched, the carried sums at their recursion. -/
@[sl_loop] def loopInv3 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole) (arg2 : BitVec 32) (v49 v53 : FVec F S384x1 .f32) (v54 v58 : Vec F S1x384x128 .f32)
    (X5 : BufTy.Contents (Elt F) arg5.view.ty) (X7 : BufTy.Contents (Elt F) arg7.view.ty) (init : Acc4 F) :
    LoopInvTy_k0_t3 (F := F) Unit ℕ (UR sig nD τ) ℕ 𝒱 c bd E i arg3 harg3 arg4 harg4 arg5 harg5 arg6 harg6 arg7 harg7 arg8 harg8 arg9 harg9 arg2 v49 v53 v54 v58 init where
  inv k acc := iprop((arg5.view.loc (c : Thread nD τ) ↦[arg5.view.set]{fullShare} X5) ∗ (arg7.view.loc (c : Thread nD τ) ↦[arg7.view.set]{fullShare} X7) ∗ ⌜acc = t3A i arg5 arg7 v49 v53 (k0_pay166 v54) (k0_pay167 v58) X5 X7 init k⌝)
  step k acc := by
    iintro ⟨H5, H7, %hacc⟩
    subst hacc
    rw [t3A_succ]
    generalize t3A i arg5 arg7 v49 v53 (k0_pay166 v54) (k0_pay167 v58) X5 X7 init k.val = a
    obtain ⟨a0, a1, a2, a3⟩ := a
    unfold k0_t3_body
    sl_exec
    sl_step
    isplitl [H5]; · iexact H5
    isplitl [H7]; · iexact H7
    ipureintro
    unfold t3Yield
    refine Prod.ext rfl (Prod.ext ?_ (Prod.ext ?_ ?_)) <;> rfl

set_option warn.classDefReducibility false in
/-- The loop behind the loop over the values makes no trip. -/
@[sl_loop] def loopInv4 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole) (arg2 : BitVec 32) (v49 v53 : FVec F S384x1 .f32) (v54 v58 : Vec F S1x384x128 .f32) (v72 : BitVec 32) (init : Acc4 F) :
    LoopInvTy_k0_t4 (F := F) Unit ℕ (UR sig nD τ) ℕ 𝒱 c bd E i arg3 harg3 arg4 harg4 arg5 harg5 arg6 harg6 arg7 harg7 arg8 harg8 arg9 harg9 arg2 v49 v53 v54 v58 v72 init where
  inv _ acc := iprop(⌜acc = init⌝)
  step k _ := (Scf.rem_no_trip _ _ k).elim

end Cert.Proof.Attn
end
-- ==== Proof.AttnSpec.lean ====
module

public import proofs.«01_k».proof.Proof.AttnOffsets
public import Idealize.ShloMosaic.Lib.Pipeline.FrameBody
public import Idealize.ShloMosaic.Lib.LoopRemainder
public import proofs.«01_k».proof.Proof.AttnLoopB

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- Four heads' row statistics in the shape they are stored in. -/
abbrev St4 (F : FTy → Type) : Type := Vec F S1x384x128 .f32 × Vec F S1x384x128 .f32 × Vec F S1x384x128 .f32 × Vec F S1x384x128 .f32

/-- The first of a pair of unmasked score tiles. -/
abbrev dLo (q : Vec F S1x1x384x128 .bf16) (kt : Vec F S1x1x768x128 .bf16) : FVec F S1x1x384x384 .f32 := k0_pay63 (k0_pay141 q) kt
/-- The second of a pair of unmasked score tiles. -/
abbrev dHi (q : Vec F S1x1x384x128 .bf16) (kt : Vec F S1x1x768x128 .bf16) : FVec F S1x1x384x384 .f32 := k0_pay64 (k0_pay141 q) kt
/-- A head's carried maximum after a pair of unmasked tiles. -/
abbrev dMax (q : Vec F S1x1x384x128 .bf16) (m : Vec F S1x384x128 .f32) (kt : Vec F S1x1x768x128 .bf16) : Vec F S1x384x128 .f32 :=
  k0_pay156 (k0_pay66 (k0_pay58 m) (k0_pay62 (k0_pay141 q) kt) (k0_pay65 (k0_pay141 q) kt))
/-- The unmasked tile before the diagonal tile. -/
abbrev oLo (q : Vec F S1x1x384x128 .bf16) (kt : Vec F S1x1x768x128 .bf16) : FVec F S1x1x384x384 .f32 := k0_pay81 (k0_pay141 q) kt
/-- The masked diagonal tile of an odd block. -/
abbrev oHi (q : Vec F S1x1x384x128 .bf16) (kt : Vec F S1x1x768x128 .bf16) : FVec F S1x1x384x384 .f32 := k0_pay82 (k0_pay141 q) k0_pay160 kt
/-- A head's carried maximum after an odd block's last two tiles. -/
abbrev oMax (q : Vec F S1x1x384x128 .bf16) (m : Vec F S1x384x128 .f32) (kt : Vec F S1x1x768x128 .bf16) : Vec F S1x384x128 .f32 := k0_pay83 (k0_pay141 q) k0_pay160 kt m
/-- The masked diagonal tile of an even block. -/
abbrev eTile (q : Vec F S1x1x384x128 .bf16) (kt : Vec F S1x1x384x128 .bf16) : FVec F S1x1x384x384 .f32 := k0_pay103 (k0_pay141 q) k0_pay160 kt
/-- A head's carried maximum after an even block's last tile. -/
abbrev eMax (q : Vec F S1x1x384x128 .bf16) (m : Vec F S1x384x128 .f32) (kt : Vec F S1x1x384x128 .bf16) : Vec F S1x384x128 .f32 := k0_pay104 (k0_pay141 q) k0_pay160 kt m

/-- Four carried rows in their stored shape. -/
def stored (a : Acc4 F) : St4 F := (k0_pay151 a.1,
   k0_pay151 a.2.1,
   k0_pay151 a.2.2.1,
   k0_pay151 a.2.2.2)
/-- The row maxima of a head's carried lanes. -/
abbrev rowMax (m : Vec F S1x384x128 .f32) : FVec F S384x1 .f32 := k0_pay166 m

/-- The two tiles a block with two odd tiles left stores, per head. -/
def bPieces (i : grid0.Coords) (arg4 : Memref sig .tc .vmem S1x4x4224x128 .bf16) (h1 : k0_cond1 i = 1#1) (q0 q1 q2 q3 : Vec F S1x1x384x128 .bf16) (X4 : BufTy.Contents (Elt F) arg4.view.ty) : List (View.Piece (Elt F) S4x11x384x384 .f32) :=
  [⟨Rect.unit (s := S4x11x384x384) (k0_off24 i 1#32) S1x1x384x384.size (k0_off24_inb i h1 1), dHi q3 (View.readAt (Elt F) arg4.view (Rect.unit (s := S1x4x4224x128) (k0_off23 i) S1x1x768x128.size (k0_off23_inb i h1)).toLoadRect X4)⟩,
   ⟨Rect.unit (s := S4x11x384x384) (k0_off24 i 0#32) S1x1x384x384.size (k0_off24_inb i h1 0), dLo q3 (View.readAt (Elt F) arg4.view (Rect.unit (s := S1x4x4224x128) (k0_off23 i) S1x1x768x128.size (k0_off23_inb i h1)).toLoadRect X4)⟩,
   ⟨Rect.unit (s := S4x11x384x384) (k0_off22 i 1#32) S1x1x384x384.size (k0_off22_inb i h1 1), dHi q2 (View.readAt (Elt F) arg4.view (Rect.unit (s := S1x4x4224x128) (k0_off21 i) S1x1x768x128.size (k0_off21_inb i h1)).toLoadRect X4)⟩,
   ⟨Rect.unit (s := S4x11x384x384) (k0_off22 i 0#32) S1x1x384x384.size (k0_off22_inb i h1 0), dLo q2 (View.readAt (Elt F) arg4.view (Rect.unit (s := S1x4x4224x128) (k0_off21 i) S1x1x768x128.size (k0_off21_inb i h1)).toLoadRect X4)⟩,
   ⟨Rect.unit (s := S4x11x384x384) (k0_off20 i 1#32) S1x1x384x384.size (k0_off20_inb i h1 1), dHi q1 (View.readAt (Elt F) arg4.view (Rect.unit (s := S1x4x4224x128) (k0_off19 i) S1x1x768x128.size (k0_off19_inb i h1)).toLoadRect X4)⟩,
   ⟨Rect.unit (s := S4x11x384x384) (k0_off20 i 0#32) S1x1x384x384.size (k0_off20_inb i h1 0), dLo q1 (View.readAt (Elt F) arg4.view (Rect.unit (s := S1x4x4224x128) (k0_off19 i) S1x1x768x128.size (k0_off19_inb i h1)).toLoadRect X4)⟩,
   ⟨Rect.unit (s := S4x11x384x384) (k0_off18 i 1#32) S1x1x384x384.size (k0_off18_inb i h1 1), dHi q0 (View.readAt (Elt F) arg4.view (Rect.unit (s := S1x4x4224x128) (k0_off17 i) S1x1x768x128.size (k0_off17_inb i h1)).toLoadRect X4)⟩,
   ⟨Rect.unit (s := S4x11x384x384) (k0_off18 i 0#32) S1x1x384x384.size (k0_off18_inb i h1 0), dLo q0 (View.readAt (Elt F) arg4.view (Rect.unit (s := S1x4x4224x128) (k0_off17 i) S1x1x768x128.size (k0_off17_inb i h1)).toLoadRect X4)⟩]
/-- The carried maxima after those two tiles. -/
def bMax (i : grid0.Coords) (arg4 : Memref sig .tc .vmem S1x4x4224x128 .bf16) (h1 : k0_cond1 i = 1#1) (q0 q1 q2 q3 : Vec F S1x1x384x128 .bf16) (m : St4 F) (X4 : BufTy.Contents (Elt F) arg4.view.ty) : St4 F :=
  (dMax q0 m.1 (View.readAt (Elt F) arg4.view (Rect.unit (s := S1x4x4224x128) (k0_off17 i) S1x1x768x128.size (k0_off17_inb i h1)).toLoadRect X4),
   dMax q1 m.2.1 (View.readAt (Elt F) arg4.view (Rect.unit (s := S1x4x4224x128) (k0_off19 i) S1x1x768x128.size (k0_off19_inb i h1)).toLoadRect X4),
   dMax q2 m.2.2.1 (View.readAt (Elt F) arg4.view (Rect.unit (s := S1x4x4224x128) (k0_off21 i) S1x1x768x128.size (k0_off21_inb i h1)).toLoadRect X4),
   dMax q3 m.2.2.2 (View.readAt (Elt F) arg4.view (Rect.unit (s := S1x4x4224x128) (k0_off23 i) S1x1x768x128.size (k0_off23_inb i h1)).toLoadRect X4))
/-- The last two tiles of an odd block, per head. -/
def oPieces (i : grid0.Coords) (arg4 : Memref sig .tc .vmem S1x4x4224x128 .bf16) (h2 : k0_cond2 i = 1#1) (q0 q1 q2 q3 : Vec F S1x1x384x128 .bf16) (X4 : BufTy.Contents (Elt F) arg4.view.ty) : List (View.Piece (Elt F) S4x11x384x384 .f32) :=
  [⟨Rect.unit (s := S4x11x384x384) (k0_off36 i) S1x1x384x384.size (k0_off36_inb i h2), oHi q3 (View.readAt (Elt F) arg4.view (Rect.unit (s := S1x4x4224x128) (k0_off34 i) S1x1x768x128.size (k0_off34_inb i h2)).toLoadRect X4)⟩,
   ⟨Rect.unit (s := S4x11x384x384) (k0_off35 i) S1x1x384x384.size (k0_off35_inb i h2), oLo q3 (View.readAt (Elt F) arg4.view (Rect.unit (s := S1x4x4224x128) (k0_off34 i) S1x1x768x128.size (k0_off34_inb i h2)).toLoadRect X4)⟩,
   ⟨Rect.unit (s := S4x11x384x384) (k0_off33 i) S1x1x384x384.size (k0_off33_inb i h2), oHi q2 (View.readAt (Elt F) arg4.view (Rect.unit (s := S1x4x4224x128) (k0_off31 i) S1x1x768x128.size (k0_off31_inb i h2)).toLoadRect X4)⟩,
   ⟨Rect.unit (s := S4x11x384x384) (k0_off32 i) S1x1x384x384.size (k0_off32_inb i h2), oLo q2 (View.readAt (Elt F) arg4.view (Rect.unit (s := S1x4x4224x128) (k0_off31 i) S1x1x768x128.size (k0_off31_inb i h2)).toLoadRect X4)⟩,
   ⟨Rect.unit (s := S4x11x384x384) (k0_off30 i) S1x1x384x384.size (k0_off30_inb i h2), oHi q1 (View.readAt (Elt F) arg4.view (Rect.unit (s := S1x4x4224x128) (k0_off28 i) S1x1x768x128.size (k0_off28_inb i h2)).toLoadRect X4)⟩,
   ⟨Rect.unit (s := S4x11x384x384) (k0_off29 i) S1x1x384x384.size (k0_off29_inb i h2), oLo q1 (View.readAt (Elt F) arg4.view (Rect.unit (s := S1x4x4224x128) (k0_off28 i) S1x1x768x128.size (k0_off28_inb i h2)).toLoadRect X4)⟩,
   ⟨Rect.unit (s := S4x11x384x384) (k0_off27 i) S1x1x384x384.size (k0_off27_inb i h2), oHi q0 (View.readAt (Elt F) arg4.view (Rect.unit (s := S1x4x4224x128) (k0_off25 i) S1x1x768x128.size (k0_off25_inb i h2)).toLoadRect X4)⟩,
   ⟨Rect.unit (s := S4x11x384x384) (k0_off26 i) S1x1x384x384.size (k0_off26_inb i h2), oLo q0 (View.readAt (Elt F) arg4.view (Rect.unit (s := S1x4x4224x128) (k0_off25 i) S1x1x768x128.size (k0_off25_inb i h2)).toLoadRect X4)⟩]
/-- The carried maxima after an odd block's last two tiles. -/
def oMaxs (i : grid0.Coords) (arg4 : Memref sig .tc .vmem S1x4x4224x128 .bf16) (h2 : k0_cond2 i = 1#1) (q0 q1 q2 q3 : Vec F S1x1x384x128 .bf16) (m : St4 F) (X4 : BufTy.Contents (Elt F) arg4.view.ty) : St4 F :=
  (oMax q0 m.1 (View.readAt (Elt F) arg4.view (Rect.unit (s := S1x4x4224x128) (k0_off25 i) S1x1x768x128.size (k0_off25_inb i h2)).toLoadRect X4),
   oMax q1 m.2.1 (View.readAt (Elt F) arg4.view (Rect.unit (s := S1x4x4224x128) (k0_off28 i) S1x1x768x128.size (k0_off28_inb i h2)).toLoadRect X4),
   oMax q2 m.2.2.1 (View.readAt (Elt F) arg4.view (Rect.unit (s := S1x4x4224x128) (k0_off31 i) S1x1x768x128.size (k0_off31_inb i h2)).toLoadRect X4),
   oMax q3 m.2.2.2 (View.readAt (Elt F) arg4.view (Rect.unit (s := S1x4x4224x128) (k0_off34 i) S1x1x768x128.size (k0_off34_inb i h2)).toLoadRect X4))
/-- The last tile of an even block, per head. -/
def ePieces (i : grid0.Coords) (arg4 : Memref sig .tc .vmem S1x4x4224x128 .bf16) (h3 : k0_cond3 i = 1#1) (q0 q1 q2 q3 : Vec F S1x1x384x128 .bf16) (X4 : BufTy.Contents (Elt F) arg4.view.ty) : List (View.Piece (Elt F) S4x11x384x384 .f32) :=
  [⟨Rect.unit (s := S4x11x384x384) (k0_off44 i) S1x1x384x384.size (k0_off44_inb i h3), eTile q3 (View.readAt (Elt F) arg4.view (Rect.unit (s := S1x4x4224x128) (k0_off43 i) S1x1x384x128.size (k0_off43_inb i h3)).toLoadRect X4)⟩,
   ⟨Rect.unit (s := S4x11x384x384) (k0_off42 i) S1x1x384x384.size (k0_off42_inb i h3), eTile q2 (View.readAt (Elt F) arg4.view (Rect.unit (s := S1x4x4224x128) (k0_off41 i) S1x1x384x128.size (k0_off41_inb i h3)).toLoadRect X4)⟩,
   ⟨Rect.unit (s := S4x11x384x384) (k0_off40 i) S1x1x384x384.size (k0_off40_inb i h3), eTile q1 (View.readAt (Elt F) arg4.view (Rect.unit (s := S1x4x4224x128) (k0_off39 i) S1x1x384x128.size (k0_off39_inb i h3)).toLoadRect X4)⟩,
   ⟨Rect.unit (s := S4x11x384x384) (k0_off38 i) S1x1x384x384.size (k0_off38_inb i h3), eTile q0 (View.readAt (Elt F) arg4.view (Rect.unit (s := S1x4x4224x128) (k0_off37 i) S1x1x384x128.size (k0_off37_inb i h3)).toLoadRect X4)⟩]
/-- The carried maxima after an even block's last tile. -/
def eMaxs (i : grid0.Coords) (arg4 : Memref sig .tc .vmem S1x4x4224x128 .bf16) (h3 : k0_cond3 i = 1#1) (q0 q1 q2 q3 : Vec F S1x1x384x128 .bf16) (m : St4 F) (X4 : BufTy.Contents (Elt F) arg4.view.ty) : St4 F :=
  (eMax q0 m.1 (View.readAt (Elt F) arg4.view (Rect.unit (s := S1x4x4224x128) (k0_off37 i) S1x1x384x128.size (k0_off37_inb i h3)).toLoadRect X4),
   eMax q1 m.2.1 (View.readAt (Elt F) arg4.view (Rect.unit (s := S1x4x4224x128) (k0_off39 i) S1x1x384x128.size (k0_off39_inb i h3)).toLoadRect X4),
   eMax q2 m.2.2.1 (View.readAt (Elt F) arg4.view (Rect.unit (s := S1x4x4224x128) (k0_off41 i) S1x1x384x128.size (k0_off41_inb i h3)).toLoadRect X4),
   eMax q3 m.2.2.2 (View.readAt (Elt F) arg4.view (Rect.unit (s := S1x4x4224x128) (k0_off43 i) S1x1x384x128.size (k0_off43_inb i h3)).toLoadRect X4))
/-- The sums with the weighted values of two more tiles added. -/
def fSum (i : grid0.Coords) (arg5 : Memref sig .tc .vmem S1x4x4224x128 .bf16) (arg7 : Memref sig .tc .vmem S4x11x384x384 .f32) (h4 : k0_cond4 i = 1#1) (M0 M1 M2 M3 : FVec F S384x1 .f32) (a : St4 F) (X5 : BufTy.Contents (Elt F) arg5.view.ty) (X7 : BufTy.Contents (Elt F) arg7.view.ty) : St4 F :=
  (k0_pay130 (k0_pay125 M0 (View.readAt (Elt F) arg7.view (Rect.unit (s := S4x11x384x384) (k0_off61 i 0#32) S1x1x384x384.size (k0_off61_inb i h4 0)).toLoadRect X7) (View.readAt (Elt F) arg7.view (Rect.unit (s := S4x11x384x384) (k0_off61 i 1#32) S1x1x384x384.size (k0_off61_inb i h4 1)).toLoadRect X7) (View.readAt (Elt F) arg5.view (Rect.unit (s := S1x4x4224x128) (k0_off62 i) S1x1x768x128.size (k0_off62_inb i h4)).toLoadRect X5)) a.1,
   k0_pay130 (k0_pay125 M1 (View.readAt (Elt F) arg7.view (Rect.unit (s := S4x11x384x384) (k0_off63 i 0#32) S1x1x384x384.size (k0_off63_inb i h4 0)).toLoadRect X7) (View.readAt (Elt F) arg7.view (Rect.unit (s := S4x11x384x384) (k0_off63 i 1#32) S1x1x384x384.size (k0_off63_inb i h4 1)).toLoadRect X7) (View.readAt (Elt F) arg5.view (Rect.unit (s := S1x4x4224x128) (k0_off64 i) S1x1x768x128.size (k0_off64_inb i h4)).toLoadRect X5)) a.2.1,
   k0_pay130 (k0_pay125 M2 (View.readAt (Elt F) arg7.view (Rect.unit (s := S4x11x384x384) (k0_off65 i 0#32) S1x1x384x384.size (k0_off65_inb i h4 0)).toLoadRect X7) (View.readAt (Elt F) arg7.view (Rect.unit (s := S4x11x384x384) (k0_off65 i 1#32) S1x1x384x384.size (k0_off65_inb i h4 1)).toLoadRect X7) (View.readAt (Elt F) arg5.view (Rect.unit (s := S1x4x4224x128) (k0_off66 i) S1x1x768x128.size (k0_off66_inb i h4)).toLoadRect X5)) a.2.2.1,
   k0_pay130 (k0_pay125 M3 (View.readAt (Elt F) arg7.view (Rect.unit (s := S4x11x384x384) (k0_off67 i 0#32) S1x1x384x384.size (k0_off67_inb i h4 0)).toLoadRect X7) (View.readAt (Elt F) arg7.view (Rect.unit (s := S4x11x384x384) (k0_off67 i 1#32) S1x1x384x384.size (k0_off67_inb i h4 1)).toLoadRect X7) (View.readAt (Elt F) arg5.view (Rect.unit (s := S1x4x4224x128) (k0_off68 i) S1x1x768x128.size (k0_off68_inb i h4)).toLoadRect X5)) a.2.2.2)
/-- The sums with the weighted values of one more tile added. -/
def gSum (i : grid0.Coords) (arg5 : Memref sig .tc .vmem S1x4x4224x128 .bf16) (arg7 : Memref sig .tc .vmem S4x11x384x384 .f32) (h5 : k0_cond5 i = 1#1) (M0 M1 M2 M3 : FVec F S384x1 .f32) (a : St4 F) (X5 : BufTy.Contents (Elt F) arg5.view.ty) (X7 : BufTy.Contents (Elt F) arg7.view.ty) : St4 F :=
  (k0_pay139 (k0_pay134 M0 (View.readAt (Elt F) arg7.view (Rect.unit (s := S4x11x384x384) (k0_off69 i) S1x1x384x384.size (k0_off69_inb i h5)).toLoadRect X7) (View.readAt (Elt F) arg5.view (Rect.unit (s := S1x4x4224x128) (k0_off70 i) S1x1x384x128.size (k0_off70_inb i h5)).toLoadRect X5)) a.1,
   k0_pay139 (k0_pay134 M1 (View.readAt (Elt F) arg7.view (Rect.unit (s := S4x11x384x384) (k0_off71 i) S1x1x384x384.size (k0_off71_inb i h5)).toLoadRect X7) (View.readAt (Elt F) arg5.view (Rect.unit (s := S1x4x4224x128) (k0_off72 i) S1x1x384x128.size (k0_off72_inb i h5)).toLoadRect X5)) a.2.1,
   k0_pay139 (k0_pay134 M2 (View.readAt (Elt F) arg7.view (Rect.unit (s := S4x11x384x384) (k0_off73 i) S1x1x384x384.size (k0_off73_inb i h5)).toLoadRect X7) (View.readAt (Elt F) arg5.view (Rect.unit (s := S1x4x4224x128) (k0_off74 i) S1x1x384x128.size (k0_off74_inb i h5)).toLoadRect X5)) a.2.2.1,
   k0_pay139 (k0_pay134 M3 (View.readAt (Elt F) arg7.view (Rect.unit (s := S4x11x384x384) (k0_off75 i) S1x1x384x384.size (k0_off75_inb i h5)).toLoadRect X7) (View.readAt (Elt F) arg5.view (Rect.unit (s := S1x4x4224x128) (k0_off76 i) S1x1x384x128.size (k0_off76_inb i h5)).toLoadRect X5)) a.2.2.2)
/-- The two pieces a block stores of its result, from four heads' sums. -/
def outPieces (a : St4 F) : List (View.Piece (Elt F) S1x384x256 .bf16) :=
  [⟨Rect.unit (s := S1x384x256) ![0, 0, 128] S1x384x128.size inb_S1x384x256_S1x384x128_0_0_128, k0_pay188 a.2.2.1 a.2.2.2⟩,
   ⟨Rect.unit (s := S1x384x256) ![0, 0, 0] S1x384x128.size inb_S1x384x256_S1x384x128_0_0_0, k0_pay188 a.1 a.2.1⟩]
/-- Head `h`'s part of the block of queries. -/
abbrev qAt0 (arg3 : Memref sig .tc .vmem S1x4x384x128 .bf16) (X3 : BufTy.Contents (Elt F) arg3.view.ty) : Vec F S1x1x384x128 .bf16 := View.readAt (Elt F) arg3.view (Rect.unit (s := S1x4x384x128) ![0, 0, 0, 0] S1x1x384x128.size inb_S1x4x384x128_S1x1x384x128_0_0_0_0).toLoadRect X3
abbrev qAt1 (arg3 : Memref sig .tc .vmem S1x4x384x128 .bf16) (X3 : BufTy.Contents (Elt F) arg3.view.ty) : Vec F S1x1x384x128 .bf16 := View.readAt (Elt F) arg3.view (Rect.unit (s := S1x4x384x128) ![0, 1, 0, 0] S1x1x384x128.size inb_S1x4x384x128_S1x1x384x128_0_1_0_0).toLoadRect X3
abbrev qAt2 (arg3 : Memref sig .tc .vmem S1x4x384x128 .bf16) (X3 : BufTy.Contents (Elt F) arg3.view.ty) : Vec F S1x1x384x128 .bf16 := View.readAt (Elt F) arg3.view (Rect.unit (s := S1x4x384x128) ![0, 2, 0, 0] S1x1x384x128.size inb_S1x4x384x128_S1x1x384x128_0_2_0_0).toLoadRect X3
abbrev qAt3 (arg3 : Memref sig .tc .vmem S1x4x384x128 .bf16) (X3 : BufTy.Contents (Elt F) arg3.view.ty) : Vec F S1x1x384x128 .bf16 := View.readAt (Elt F) arg3.view (Rect.unit (s := S1x4x384x128) ![0, 3, 0, 0] S1x1x384x128.size inb_S1x4x384x128_S1x1x384x128_0_3_0_0).toLoadRect X3

/-- The zero start of the four sums. -/
abbrev zero4 : Acc4 F := (k0_pay168, k0_pay169, k0_pay170, k0_pay171)
/-- The start of the four carried maxima. -/
abbrev bot4 : Acc4 F := (k0_pay145, k0_pay146, k0_pay147, k0_pay148)

/-- The carried maxima at the end of the scores, for blocks that are 0 modulo 4. -/
def max0 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h3 : k0_cond3 i = 1#1) (h5 : k0_cond5 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (eMaxs i arg4 h3 (qAt0 arg3 X3) (qAt1 arg3 X3) (qAt2 arg3 X3) (qAt3 arg3 X3) (stored (t1A i arg4 (qAt0 arg3 X3) (qAt1 arg3 X3) (qAt2 arg3 X3) (qAt3 arg3 X3) X4 bot4 (k0_t1_loop i).trips)) X4)
/-- The scores at the end, for blocks that are 0 modulo 4. -/
def sc0 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h3 : k0_cond3 i = 1#1) (h5 : k0_cond5 i = 1#1) (X3 : BufTy.Contents (Elt F) arg3.view.ty) (X4 : BufTy.Contents (Elt F) arg4.view.ty) (X5 : BufTy.Contents (Elt F) arg5.view.ty) (f7 : BufTy.Contents (Elt F) arg7.view.ty) : BufTy.Contents (Elt F) arg7.view.ty :=
  arg7.view.writes (Elt F) (t1C i arg4 arg7 (qAt0 arg3 X3) (qAt1 arg3 X3) (qAt2 arg3 X3) (qAt3 arg3 X3) X4 f7 (k0_t1_loop i).trips) (ePieces i arg4 h3 (qAt0 arg3 X3) (qAt1 arg3 X3) (qAt2 arg3 X3) (qAt3 arg3 X3) X4)
/-- The four heads' sums at the end, for blocks that are 0 modulo 4. -/
def sum0 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h3 : k0_cond3 i = 1#1) (h5 : k0_cond5 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (gSum i arg5 arg7 h5 (rowMax (max0 i arg3 arg4 arg5 arg7 h3 h5 X3 X4 X5 f7).1) (rowMax (max0 i arg3 arg4 arg5 arg7 h3 h5 X3 X4 X5 f7).2.1) (rowMax (max0 i arg3 arg4 arg5 arg7 h3 h5 X3 X4 X5 f7).2.2.1) (rowMax (max0 i arg3 arg4 arg5 arg7 h3 h5 X3 X4 X5 f7).2.2.2) (stored (t3A i arg5 arg7 (rowMax (max0 i arg3 arg4 arg5 arg7 h3 h5 X3 X4 X5 f7).1) (rowMax (max0 i arg3 arg4 arg5 arg7 h3 h5 X3 X4 X5 f7).2.1) (rowMax (max0 i arg3 arg4 arg5 arg7 h3 h5 X3 X4 X5 f7).2.2.1) (rowMax (max0 i arg3 arg4 arg5 arg7 h3 h5 X3 X4 X5 f7).2.2.2) X5 (sc0 i arg3 arg4 arg5 arg7 h3 h5 X3 X4 X5 f7) zero4 (k0_t3_loop i).trips)) X5 (sc0 i arg3 arg4 arg5 arg7 h3 h5 X3 X4 X5 f7))

/-- The carried maxima at the end of the scores, for blocks that are 1 modulo 4. -/
def max1 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h2 : k0_cond2 i = 1#1) (h4 : k0_cond4 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (oMaxs i arg4 h2 (qAt0 arg3 X3) (qAt1 arg3 X3) (qAt2 arg3 X3) (qAt3 arg3 X3) (stored (t1A i arg4 (qAt0 arg3 X3) (qAt1 arg3 X3) (qAt2 arg3 X3) (qAt3 arg3 X3) X4 bot4 (k0_t1_loop i).trips)) X4)
/-- The scores at the end, for blocks that are 1 modulo 4. -/
def sc1 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h2 : k0_cond2 i = 1#1) (h4 : k0_cond4 i = 1#1) (X3 : BufTy.Contents (Elt F) arg3.view.ty) (X4 : BufTy.Contents (Elt F) arg4.view.ty) (X5 : BufTy.Contents (Elt F) arg5.view.ty) (f7 : BufTy.Contents (Elt F) arg7.view.ty) : BufTy.Contents (Elt F) arg7.view.ty :=
  arg7.view.writes (Elt F) (t1C i arg4 arg7 (qAt0 arg3 X3) (qAt1 arg3 X3) (qAt2 arg3 X3) (qAt3 arg3 X3) X4 f7 (k0_t1_loop i).trips) (oPieces i arg4 h2 (qAt0 arg3 X3) (qAt1 arg3 X3) (qAt2 arg3 X3) (qAt3 arg3 X3) X4)
/-- The four heads' sums at the end, for blocks that are 1 modulo 4. -/
def sum1 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h2 : k0_cond2 i = 1#1) (h4 : k0_cond4 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (fSum i arg5 arg7 h4 (rowMax (max1 i arg3 arg4 arg5 arg7 h2 h4 X3 X4 X5 f7).1) (rowMax (max1 i arg3 arg4 arg5 arg7 h2 h4 X3 X4 X5 f7).2.1) (rowMax (max1 i arg3 arg4 arg5 arg7 h2 h4 X3 X4 X5 f7).2.2.1) (rowMax (max1 i arg3 arg4 arg5 arg7 h2 h4 X3 X4 X5 f7).2.2.2) (stored (t3A i arg5 arg7 (rowMax (max1 i arg3 arg4 arg5 arg7 h2 h4 X3 X4 X5 f7).1) (rowMax (max1 i arg3 arg4 arg5 arg7 h2 h4 X3 X4 X5 f7).2.1) (rowMax (max1 i arg3 arg4 arg5 arg7 h2 h4 X3 X4 X5 f7).2.2.1) (rowMax (max1 i arg3 arg4 arg5 arg7 h2 h4 X3 X4 X5 f7).2.2.2) X5 (sc1 i arg3 arg4 arg5 arg7 h2 h4 X3 X4 X5 f7) zero4 (k0_t3_loop i).trips)) X5 (sc1 i arg3 arg4 arg5 arg7 h2 h4 X3 X4 X5 f7))

/-- The carried maxima at the end of the scores, for blocks that are 2 modulo 4. -/
def max2 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h1 : k0_cond1 i = 1#1) (h3 : k0_cond3 i = 1#1) (h4 : k0_cond4 i = 1#1) (h5 : k0_cond5 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (eMaxs i arg4 h3 (qAt0 arg3 X3) (qAt1 arg3 X3) (qAt2 arg3 X3) (qAt3 arg3 X3) (bMax i arg4 h1 (qAt0 arg3 X3) (qAt1 arg3 X3) (qAt2 arg3 X3) (qAt3 arg3 X3) (stored (t1A i arg4 (qAt0 arg3 X3) (qAt1 arg3 X3) (qAt2 arg3 X3) (qAt3 arg3 X3) X4 bot4 (k0_t1_loop i).trips)) X4) X4)
/-- The scores at the end, for blocks that are 2 modulo 4. -/
def sc2 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h1 : k0_cond1 i = 1#1) (h3 : k0_cond3 i = 1#1) (h4 : k0_cond4 i = 1#1) (h5 : k0_cond5 i = 1#1) (X3 : BufTy.Contents (Elt F) arg3.view.ty) (X4 : BufTy.Contents (Elt F) arg4.view.ty) (X5 : BufTy.Contents (Elt F) arg5.view.ty) (f7 : BufTy.Contents (Elt F) arg7.view.ty) : BufTy.Contents (Elt F) arg7.view.ty :=
  arg7.view.writes (Elt F) (t1C i arg4 arg7 (qAt0 arg3 X3) (qAt1 arg3 X3) (qAt2 arg3 X3) (qAt3 arg3 X3) X4 f7 (k0_t1_loop i).trips) (ePieces i arg4 h3 (qAt0 arg3 X3) (qAt1 arg3 X3) (qAt2 arg3 X3) (qAt3 arg3 X3) X4 ++ bPieces i arg4 h1 (qAt0 arg3 X3) (qAt1 arg3 X3) (qAt2 arg3 X3) (qAt3 arg3 X3) X4)
/-- The four heads' sums at the end, for blocks that are 2 modulo 4. -/
def sum2 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h1 : k0_cond1 i = 1#1) (h3 : k0_cond3 i = 1#1) (h4 : k0_cond4 i = 1#1) (h5 : k0_cond5 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (gSum i arg5 arg7 h5 (rowMax (max2 i arg3 arg4 arg5 arg7 h1 h3 h4 h5 X3 X4 X5 f7).1) (rowMax (max2 i arg3 arg4 arg5 arg7 h1 h3 h4 h5 X3 X4 X5 f7).2.1) (rowMax (max2 i arg3 arg4 arg5 arg7 h1 h3 h4 h5 X3 X4 X5 f7).2.2.1) (rowMax (max2 i arg3 arg4 arg5 arg7 h1 h3 h4 h5 X3 X4 X5 f7).2.2.2) (fSum i arg5 arg7 h4 (rowMax (max2 i arg3 arg4 arg5 arg7 h1 h3 h4 h5 X3 X4 X5 f7).1) (rowMax (max2 i arg3 arg4 arg5 arg7 h1 h3 h4 h5 X3 X4 X5 f7).2.1) (rowMax (max2 i arg3 arg4 arg5 arg7 h1 h3 h4 h5 X3 X4 X5 f7).2.2.1) (rowMax (max2 i arg3 arg4 arg5 arg7 h1 h3 h4 h5 X3 X4 X5 f7).2.2.2) (stored (t3A i arg5 arg7 (rowMax (max2 i arg3 arg4 arg5 arg7 h1 h3 h4 h5 X3 X4 X5 f7).1) (rowMax (max2 i arg3 arg4 arg5 arg7 h1 h3 h4 h5 X3 X4 X5 f7).2.1) (rowMax (max2 i arg3 arg4 arg5 arg7 h1 h3 h4 h5 X3 X4 X5 f7).2.2.1) (rowMax (max2 i arg3 arg4 arg5 arg7 h1 h3 h4 h5 X3 X4 X5 f7).2.2.2) X5 (sc2 i arg3 arg4 arg5 arg7 h1 h3 h4 h5 X3 X4 X5 f7) zero4 (k0_t3_loop i).trips)) X5 (sc2 i arg3 arg4 arg5 arg7 h1 h3 h4 h5 X3 X4 X5 f7)) X5 (sc2 i arg3 arg4 arg5 arg7 h1 h3 h4 h5 X3 X4 X5 f7))

/-- The carried maxima at the end of the scores, for blocks that are 3 modulo 4. -/
def max3 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h1 : k0_cond1 i = 1#1) (h2 : k0_cond2 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (oMaxs i arg4 h2 (qAt0 arg3 X3) (qAt1 arg3 X3) (qAt2 arg3 X3) (qAt3 arg3 X3) (bMax i arg4 h1 (qAt0 arg3 X3) (qAt1 arg3 X3) (qAt2 arg3 X3) (qAt3 arg3 X3) (stored (t1A i arg4 (qAt0 arg3 X3) (qAt1 arg3 X3) (qAt2 arg3 X3) (qAt3 arg3 X3) X4 bot4 (k0_t1_loop i).trips)) X4) X4)
/-- The scores at the end, for blocks that are 3 modulo 4. -/
def sc3 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h1 : k0_cond1 i = 1#1) (h2 : k0_cond2 i = 1#1) (X3 : BufTy.Contents (Elt F) arg3.view.ty) (X4 : BufTy.Contents (Elt F) arg4.view.ty) (X5 : BufTy.Contents (Elt F) arg5.view.ty) (f7 : BufTy.Contents (Elt F) arg7.view.ty) : BufTy.Contents (Elt F) arg7.view.ty :=
  arg7.view.writes (Elt F) (t1C i arg4 arg7 (qAt0 arg3 X3) (qAt1 arg3 X3) (qAt2 arg3 X3) (qAt3 arg3 X3) X4 f7 (k0_t1_loop i).trips) (oPieces i arg4 h2 (qAt0 arg3 X3) (qAt1 arg3 X3) (qAt2 arg3 X3) (qAt3 arg3 X3) X4 ++ bPieces i arg4 h1 (qAt0 arg3 X3) (qAt1 arg3 X3) (qAt2 arg3 X3) (qAt3 arg3 X3) X4)
/-- The four heads' sums at the end, for blocks that are 3 modulo 4. -/
def sum3 (i : grid0.Coords) (arg3 : Memref sig .tc .vmem S1x4x384x128 .bf16) (arg4 : Memref sig .tc .vmem S1x4x4224x128 .bf16) (arg5 : Memref sig .tc .vmem S1x4x4224x128 .bf16) (arg7 : Memref sig .tc .vmem S4x11x384x384 .f32) (h1 : k0_cond1 i = 1#1) (h2 : k0_cond2 i = 1#1) (X3 : BufTy.Contents (Elt F) arg3.view.ty) (X4 : BufTy.Contents (Elt F) arg4.view.ty) (X5 : BufTy.Contents (Elt F) arg5.view.ty) (f7 : BufTy.Contents (Elt F) arg7.view.ty) : St4 F := (stored (t3A i arg5 arg7 (rowMax (max3 i arg3 arg4 arg5 arg7 h1 h2 X3 X4 X5 f7).1) (rowMax (max3 i arg3 arg4 arg5 arg7 h1 h2 X3 X4 X5 f7).2.1) (rowMax (max3 i arg3 arg4 arg5 arg7 h1 h2 X3 X4 X5 f7).2.2.1) (rowMax (max3 i arg3 arg4 arg5 arg7 h1 h2 X3 X4 X5 f7).2.2.2) X5 (sc3 i arg3 arg4 arg5 arg7 h1 h2 X3 X4 X5 f7) zero4 (k0_t3_loop i).trips))

theorem f_congr (arg7 : Memref sig .tc .vmem S4x11x384x384 .f32) {M N : FVec F S384x1 .f32} {o0 o1 : Fin 4 → ℕ} (b0 : ∀ a, o0 a + S1x1x384x384.size a ≤ S4x11x384x384.size a) (b1 : ∀ a, o1 a + S1x1x384x384.size a ≤ S4x11x384x384.size a) (vt : Vec F S1x1x768x128 .bf16)
    {X Y : BufTy.Contents (Elt F) arg7.view.ty} {a b : Vec F S1x384x128 .f32} (hM : M = N) (hX : X = Y) (ha : a = b) :
    k0_pay130 (k0_pay125 M (View.readAt (Elt F) arg7.view (Rect.unit (s := S4x11x384x384) o0 S1x1x384x384.size b0).toLoadRect X) (View.readAt (Elt F) arg7.view (Rect.unit (s := S4x11x384x384) o1 S1x1x384x384.size b1).toLoadRect X) vt) a
      = k0_pay130 (k0_pay125 N (View.readAt (Elt F) arg7.view (Rect.unit (s := S4x11x384x384) o0 S1x1x384x384.size b0).toLoadRect Y) (View.readAt (Elt F) arg7.view (Rect.unit (s := S4x11x384x384) o1 S1x1x384x384.size b1).toLoadRect Y) vt) b := by
  subst hM hX ha; rfl

theorem readAt_over (v : View sig .tc .vmem S4x11x384x384 .f32) {o o' : Fin 4 → ℕ} (b : ∀ a, o a + S1x1x384x384.size a ≤ S4x11x384x384.size a) (b' : ∀ a, o' a + S1x1x384x384.size a ≤ S4x11x384x384.size a)
    (w : (Rect.unit (s := S4x11x384x384) o S1x1x384x384.size b).shape.Idx → Elt F .f32) (X Y : BufTy.Contents (Elt F) v.ty) (L : List (View.Piece (Elt F) S4x11x384x384 .f32))
    (hm : ⟨Rect.unit (s := S4x11x384x384) o S1x1x384x384.size b, w⟩ ∈ L) (ho : o = o') :
    View.readAt (Elt F) v (Rect.unit (s := S4x11x384x384) o' S1x1x384x384.size b').toLoadRect (v.writes (Elt F) X L)
      = View.readAt (Elt F) v (Rect.unit (s := S4x11x384x384) o' S1x1x384x384.size b').toLoadRect (v.writes (Elt F) Y L) := by
  subst ho
  rw [View.readAt_writes_of_cover v X L _ fun j => ⟨_, hm, LoadRect.idx_mem _ j⟩, View.readAt_writes_of_cover v Y L _ fun j => ⟨_, hm, LoadRect.idx_mem _ j⟩]

theorem g_congr (arg7 : Memref sig .tc .vmem S4x11x384x384 .f32) {M N : FVec F S384x1 .f32} {o0 : Fin 4 → ℕ} (b0 : ∀ a, o0 a + S1x1x384x384.size a ≤ S4x11x384x384.size a) (vt : Vec F S1x1x384x128 .bf16)
    {X Y : BufTy.Contents (Elt F) arg7.view.ty} {a b : Vec F S1x384x128 .f32} (hM : M = N) (hX : View.readAt (Elt F) arg7.view (Rect.unit (s := S4x11x384x384) o0 S1x1x384x384.size b0).toLoadRect X = View.readAt (Elt F) arg7.view (Rect.unit (s := S4x11x384x384) o0 S1x1x384x384.size b0).toLoadRect Y) (ha : a = b) :
    k0_pay139 (k0_pay134 M (View.readAt (Elt F) arg7.view (Rect.unit (s := S4x11x384x384) o0 S1x1x384x384.size b0).toLoadRect X) vt) a
      = k0_pay139 (k0_pay134 N (View.readAt (Elt F) arg7.view (Rect.unit (s := S4x11x384x384) o0 S1x1x384x384.size b0).toLoadRect Y) vt) b := by
  subst hM ha; rw [hX]

theorem pay1_eq (a b : Vec F S1x384x128 .f32) : k0_pay1 k0_pay187 (k0_pay189 a) (k0_pay190 b) (k0_pay191 a b) = k0_pay188 a b := rfl

theorem t3A_congr (i : grid0.Coords) (arg5 : Memref sig .tc .vmem S1x4x4224x128 .bf16) (arg7 : Memref sig .tc .vmem S4x11x384x384 .f32) {M0 M1 M2 M3 N0 N1 N2 N3 : FVec F S384x1 .f32} (X5 : BufTy.Contents (Elt F) arg5.view.ty) {X7 Y7 : BufTy.Contents (Elt F) arg7.view.ty} {init init' : Acc4 F} {n : ℕ}
    (h0 : M0 = N0) (h1 : M1 = N1) (h2 : M2 = N2) (h3 : M3 = N3) (h7 : X7 = Y7) (hi : init = init') :
    t3A i arg5 arg7 M0 M1 M2 M3 X5 X7 init n = t3A i arg5 arg7 N0 N1 N2 N3 X5 Y7 init' n := by
  subst h0 h1 h2 h3 h7 hi; rfl

/-- A load of head 1's rows passes over a store to head 0's. -/
theorem skip_0_1 (v : View sig .tc .vmem S4x384x128 .f32) (w : (Rect.unit (s := S4x384x128) ![0, 0, 0] S1x384x128.size inb_S4x384x128_S1x384x128_0_0_0).shape.Idx → Elt F .f32) (L : List (View.Piece (Elt F) S4x384x128 .f32)) :
    v.readCov (⟨Rect.unit (s := S4x384x128) ![0, 0, 0] S1x384x128.size inb_S4x384x128_S1x384x128_0_0_0, w⟩ :: L) (Rect.unit (s := S4x384x128) ![1, 0, 0] S1x384x128.size inb_S4x384x128_S1x384x128_1_0_0).toLoadRect = v.readCov L (Rect.unit (s := S4x384x128) ![1, 0, 0] S1x384x128.size inb_S4x384x128_S1x384x128_1_0_0).toLoadRect :=
  View.readCov_cons_of_disjoint v ⟨Rect.unit (s := S4x384x128) ![0, 0, 0] S1x384x128.size inb_S4x384x128_S1x384x128_0_0_0, w⟩ L (Rect.unit (s := S4x384x128) ![1, 0, 0] S1x384x128.size inb_S4x384x128_S1x384x128_1_0_0).toLoadRect (Rect.unit_disjoint (inb := inb_S4x384x128_S1x384x128_0_0_0) (inb' := inb_S4x384x128_S1x384x128_1_0_0) 0 (by decide))

/-- A load of head 2's rows passes over a store to head 0's. -/
theorem skip_0_2 (v : View sig .tc .vmem S4x384x128 .f32) (w : (Rect.unit (s := S4x384x128) ![0, 0, 0] S1x384x128.size inb_S4x384x128_S1x384x128_0_0_0).shape.Idx → Elt F .f32) (L : List (View.Piece (Elt F) S4x384x128 .f32)) :
    v.readCov (⟨Rect.unit (s := S4x384x128) ![0, 0, 0] S1x384x128.size inb_S4x384x128_S1x384x128_0_0_0, w⟩ :: L) (Rect.unit (s := S4x384x128) ![2, 0, 0] S1x384x128.size inb_S4x384x128_S1x384x128_2_0_0).toLoadRect = v.readCov L (Rect.unit (s := S4x384x128) ![2, 0, 0] S1x384x128.size inb_S4x384x128_S1x384x128_2_0_0).toLoadRect :=
  View.readCov_cons_of_disjoint v ⟨Rect.unit (s := S4x384x128) ![0, 0, 0] S1x384x128.size inb_S4x384x128_S1x384x128_0_0_0, w⟩ L (Rect.unit (s := S4x384x128) ![2, 0, 0] S1x384x128.size inb_S4x384x128_S1x384x128_2_0_0).toLoadRect (Rect.unit_disjoint (inb := inb_S4x384x128_S1x384x128_0_0_0) (inb' := inb_S4x384x128_S1x384x128_2_0_0) 0 (by decide))

/-- A load of head 3's rows passes over a store to head 0's. -/
theorem skip_0_3 (v : View sig .tc .vmem S4x384x128 .f32) (w : (Rect.unit (s := S4x384x128) ![0, 0, 0] S1x384x128.size inb_S4x384x128_S1x384x128_0_0_0).shape.Idx → Elt F .f32) (L : List (View.Piece (Elt F) S4x384x128 .f32)) :
    v.readCov (⟨Rect.unit (s := S4x384x128) ![0, 0, 0] S1x384x128.size inb_S4x384x128_S1x384x128_0_0_0, w⟩ :: L) (Rect.unit (s := S4x384x128) ![3, 0, 0] S1x384x128.size inb_S4x384x128_S1x384x128_3_0_0).toLoadRect = v.readCov L (Rect.unit (s := S4x384x128) ![3, 0, 0] S1x384x128.size inb_S4x384x128_S1x384x128_3_0_0).toLoadRect :=
  View.readCov_cons_of_disjoint v ⟨Rect.unit (s := S4x384x128) ![0, 0, 0] S1x384x128.size inb_S4x384x128_S1x384x128_0_0_0, w⟩ L (Rect.unit (s := S4x384x128) ![3, 0, 0] S1x384x128.size inb_S4x384x128_S1x384x128_3_0_0).toLoadRect (Rect.unit_disjoint (inb := inb_S4x384x128_S1x384x128_0_0_0) (inb' := inb_S4x384x128_S1x384x128_3_0_0) 0 (by decide))

/-- A load of head 0's rows passes over a store to head 1's. -/
theorem skip_1_0 (v : View sig .tc .vmem S4x384x128 .f32) (w : (Rect.unit (s := S4x384x128) ![1, 0, 0] S1x384x128.size inb_S4x384x128_S1x384x128_1_0_0).shape.Idx → Elt F .f32) (L : List (View.Piece (Elt F) S4x384x128 .f32)) :
    v.readCov (⟨Rect.unit (s := S4x384x128) ![1, 0, 0] S1x384x128.size inb_S4x384x128_S1x384x128_1_0_0, w⟩ :: L) (Rect.unit (s := S4x384x128) ![0, 0, 0] S1x384x128.size inb_S4x384x128_S1x384x128_0_0_0).toLoadRect = v.readCov L (Rect.unit (s := S4x384x128) ![0, 0, 0] S1x384x128.size inb_S4x384x128_S1x384x128_0_0_0).toLoadRect :=
  View.readCov_cons_of_disjoint v ⟨Rect.unit (s := S4x384x128) ![1, 0, 0] S1x384x128.size inb_S4x384x128_S1x384x128_1_0_0, w⟩ L (Rect.unit (s := S4x384x128) ![0, 0, 0] S1x384x128.size inb_S4x384x128_S1x384x128_0_0_0).toLoadRect (Rect.unit_disjoint (inb := inb_S4x384x128_S1x384x128_1_0_0) (inb' := inb_S4x384x128_S1x384x128_0_0_0) 0 (by decide))

/-- A load of head 2's rows passes over a store to head 1's. -/
theorem skip_1_2 (v : View sig .tc .vmem S4x384x128 .f32) (w : (Rect.unit (s := S4x384x128) ![1, 0, 0] S1x384x128.size inb_S4x384x128_S1x384x128_1_0_0).shape.Idx → Elt F .f32) (L : List (View.Piece (Elt F) S4x384x128 .f32)) :
    v.readCov (⟨Rect.unit (s := S4x384x128) ![1, 0, 0] S1x384x128.size inb_S4x384x128_S1x384x128_1_0_0, w⟩ :: L) (Rect.unit (s := S4x384x128) ![2, 0, 0] S1x384x128.size inb_S4x384x128_S1x384x128_2_0_0).toLoadRect = v.readCov L (Rect.unit (s := S4x384x128) ![2, 0, 0] S1x384x128.size inb_S4x384x128_S1x384x128_2_0_0).toLoadRect :=
  View.readCov_cons_of_disjoint v ⟨Rect.unit (s := S4x384x128) ![1, 0, 0] S1x384x128.size inb_S4x384x128_S1x384x128_1_0_0, w⟩ L (Rect.unit (s := S4x384x128) ![2, 0, 0] S1x384x128.size inb_S4x384x128_S1x384x128_2_0_0).toLoadRect (Rect.unit_disjoint (inb := inb_S4x384x128_S1x384x128_1_0_0) (inb' := inb_S4x384x128_S1x384x128_2_0_0) 0 (by decide))

/-- A load of head 3's rows passes over a store to head 1's. -/
theorem skip_1_3 (v : View sig .tc .vmem S4x384x128 .f32) (w : (Rect.unit (s := S4x384x128) ![1, 0, 0] S1x384x128.size inb_S4x384x128_S1x384x128_1_0_0).shape.Idx → Elt F .f32) (L : List (View.Piece (Elt F) S4x384x128 .f32)) :
    v.readCov (⟨Rect.unit (s := S4x384x128) ![1, 0, 0] S1x384x128.size inb_S4x384x128_S1x384x128_1_0_0, w⟩ :: L) (Rect.unit (s := S4x384x128) ![3, 0, 0] S1x384x128.size inb_S4x384x128_S1x384x128_3_0_0).toLoadRect = v.readCov L (Rect.unit (s := S4x384x128) ![3, 0, 0] S1x384x128.size inb_S4x384x128_S1x384x128_3_0_0).toLoadRect :=
  View.readCov_cons_of_disjoint v ⟨Rect.unit (s := S4x384x128) ![1, 0, 0] S1x384x128.size inb_S4x384x128_S1x384x128_1_0_0, w⟩ L (Rect.unit (s := S4x384x128) ![3, 0, 0] S1x384x128.size inb_S4x384x128_S1x384x128_3_0_0).toLoadRect (Rect.unit_disjoint (inb := inb_S4x384x128_S1x384x128_1_0_0) (inb' := inb_S4x384x128_S1x384x128_3_0_0) 0 (by decide))

/-- A load of head 0's rows passes over a store to head 2's. -/
theorem skip_2_0 (v : View sig .tc .vmem S4x384x128 .f32) (w : (Rect.unit (s := S4x384x128) ![2, 0, 0] S1x384x128.size inb_S4x384x128_S1x384x128_2_0_0).shape.Idx → Elt F .f32) (L : List (View.Piece (Elt F) S4x384x128 .f32)) :
    v.readCov (⟨Rect.unit (s := S4x384x128) ![2, 0, 0] S1x384x128.size inb_S4x384x128_S1x384x128_2_0_0, w⟩ :: L) (Rect.unit (s := S4x384x128) ![0, 0, 0] S1x384x128.size inb_S4x384x128_S1x384x128_0_0_0).toLoadRect = v.readCov L (Rect.unit (s := S4x384x128) ![0, 0, 0] S1x384x128.size inb_S4x384x128_S1x384x128_0_0_0).toLoadRect :=
  View.readCov_cons_of_disjoint v ⟨Rect.unit (s := S4x384x128) ![2, 0, 0] S1x384x128.size inb_S4x384x128_S1x384x128_2_0_0, w⟩ L (Rect.unit (s := S4x384x128) ![0, 0, 0] S1x384x128.size inb_S4x384x128_S1x384x128_0_0_0).toLoadRect (Rect.unit_disjoint (inb := inb_S4x384x128_S1x384x128_2_0_0) (inb' := inb_S4x384x128_S1x384x128_0_0_0) 0 (by decide))

/-- A load of head 1's rows passes over a store to head 2's. -/
theorem skip_2_1 (v : View sig .tc .vmem S4x384x128 .f32) (w : (Rect.unit (s := S4x384x128) ![2, 0, 0] S1x384x128.size inb_S4x384x128_S1x384x128_2_0_0).shape.Idx → Elt F .f32) (L : List (View.Piece (Elt F) S4x384x128 .f32)) :
    v.readCov (⟨Rect.unit (s := S4x384x128) ![2, 0, 0] S1x384x128.size inb_S4x384x128_S1x384x128_2_0_0, w⟩ :: L) (Rect.unit (s := S4x384x128) ![1, 0, 0] S1x384x128.size inb_S4x384x128_S1x384x128_1_0_0).toLoadRect = v.readCov L (Rect.unit (s := S4x384x128) ![1, 0, 0] S1x384x128.size inb_S4x384x128_S1x384x128_1_0_0).toLoadRect :=
  View.readCov_cons_of_disjoint v ⟨Rect.unit (s := S4x384x128) ![2, 0, 0] S1x384x128.size inb_S4x384x128_S1x384x128_2_0_0, w⟩ L (Rect.unit (s := S4x384x128) ![1, 0, 0] S1x384x128.size inb_S4x384x128_S1x384x128_1_0_0).toLoadRect (Rect.unit_disjoint (inb := inb_S4x384x128_S1x384x128_2_0_0) (inb' := inb_S4x384x128_S1x384x128_1_0_0) 0 (by decide))

/-- A load of head 3's rows passes over a store to head 2's. -/
theorem skip_2_3 (v : View sig .tc .vmem S4x384x128 .f32) (w : (Rect.unit (s := S4x384x128) ![2, 0, 0] S1x384x128.size inb_S4x384x128_S1x384x128_2_0_0).shape.Idx → Elt F .f32) (L : List (View.Piece (Elt F) S4x384x128 .f32)) :
    v.readCov (⟨Rect.unit (s := S4x384x128) ![2, 0, 0] S1x384x128.size inb_S4x384x128_S1x384x128_2_0_0, w⟩ :: L) (Rect.unit (s := S4x384x128) ![3, 0, 0] S1x384x128.size inb_S4x384x128_S1x384x128_3_0_0).toLoadRect = v.readCov L (Rect.unit (s := S4x384x128) ![3, 0, 0] S1x384x128.size inb_S4x384x128_S1x384x128_3_0_0).toLoadRect :=
  View.readCov_cons_of_disjoint v ⟨Rect.unit (s := S4x384x128) ![2, 0, 0] S1x384x128.size inb_S4x384x128_S1x384x128_2_0_0, w⟩ L (Rect.unit (s := S4x384x128) ![3, 0, 0] S1x384x128.size inb_S4x384x128_S1x384x128_3_0_0).toLoadRect (Rect.unit_disjoint (inb := inb_S4x384x128_S1x384x128_2_0_0) (inb' := inb_S4x384x128_S1x384x128_3_0_0) 0 (by decide))

/-- A load of head 0's rows passes over a store to head 3's. -/
theorem skip_3_0 (v : View sig .tc .vmem S4x384x128 .f32) (w : (Rect.unit (s := S4x384x128) ![3, 0, 0] S1x384x128.size inb_S4x384x128_S1x384x128_3_0_0).shape.Idx → Elt F .f32) (L : List (View.Piece (Elt F) S4x384x128 .f32)) :
    v.readCov (⟨Rect.unit (s := S4x384x128) ![3, 0, 0] S1x384x128.size inb_S4x384x128_S1x384x128_3_0_0, w⟩ :: L) (Rect.unit (s := S4x384x128) ![0, 0, 0] S1x384x128.size inb_S4x384x128_S1x384x128_0_0_0).toLoadRect = v.readCov L (Rect.unit (s := S4x384x128) ![0, 0, 0] S1x384x128.size inb_S4x384x128_S1x384x128_0_0_0).toLoadRect :=
  View.readCov_cons_of_disjoint v ⟨Rect.unit (s := S4x384x128) ![3, 0, 0] S1x384x128.size inb_S4x384x128_S1x384x128_3_0_0, w⟩ L (Rect.unit (s := S4x384x128) ![0, 0, 0] S1x384x128.size inb_S4x384x128_S1x384x128_0_0_0).toLoadRect (Rect.unit_disjoint (inb := inb_S4x384x128_S1x384x128_3_0_0) (inb' := inb_S4x384x128_S1x384x128_0_0_0) 0 (by decide))

/-- A load of head 1's rows passes over a store to head 3's. -/
theorem skip_3_1 (v : View sig .tc .vmem S4x384x128 .f32) (w : (Rect.unit (s := S4x384x128) ![3, 0, 0] S1x384x128.size inb_S4x384x128_S1x384x128_3_0_0).shape.Idx → Elt F .f32) (L : List (View.Piece (Elt F) S4x384x128 .f32)) :
    v.readCov (⟨Rect.unit (s := S4x384x128) ![3, 0, 0] S1x384x128.size inb_S4x384x128_S1x384x128_3_0_0, w⟩ :: L) (Rect.unit (s := S4x384x128) ![1, 0, 0] S1x384x128.size inb_S4x384x128_S1x384x128_1_0_0).toLoadRect = v.readCov L (Rect.unit (s := S4x384x128) ![1, 0, 0] S1x384x128.size inb_S4x384x128_S1x384x128_1_0_0).toLoadRect :=
  View.readCov_cons_of_disjoint v ⟨Rect.unit (s := S4x384x128) ![3, 0, 0] S1x384x128.size inb_S4x384x128_S1x384x128_3_0_0, w⟩ L (Rect.unit (s := S4x384x128) ![1, 0, 0] S1x384x128.size inb_S4x384x128_S1x384x128_1_0_0).toLoadRect (Rect.unit_disjoint (inb := inb_S4x384x128_S1x384x128_3_0_0) (inb' := inb_S4x384x128_S1x384x128_1_0_0) 0 (by decide))

/-- A load of head 2's rows passes over a store to head 3's. -/
theorem skip_3_2 (v : View sig .tc .vmem S4x384x128 .f32) (w : (Rect.unit (s := S4x384x128) ![3, 0, 0] S1x384x128.size inb_S4x384x128_S1x384x128_3_0_0).shape.Idx → Elt F .f32) (L : List (View.Piece (Elt F) S4x384x128 .f32)) :
    v.readCov (⟨Rect.unit (s := S4x384x128) ![3, 0, 0] S1x384x128.size inb_S4x384x128_S1x384x128_3_0_0, w⟩ :: L) (Rect.unit (s := S4x384x128) ![2, 0, 0] S1x384x128.size inb_S4x384x128_S1x384x128_2_0_0).toLoadRect = v.readCov L (Rect.unit (s := S4x384x128) ![2, 0, 0] S1x384x128.size inb_S4x384x128_S1x384x128_2_0_0).toLoadRect :=
  View.readCov_cons_of_disjoint v ⟨Rect.unit (s := S4x384x128) ![3, 0, 0] S1x384x128.size inb_S4x384x128_S1x384x128_3_0_0, w⟩ L (Rect.unit (s := S4x384x128) ![2, 0, 0] S1x384x128.size inb_S4x384x128_S1x384x128_2_0_0).toLoadRect (Rect.unit_disjoint (inb := inb_S4x384x128_S1x384x128_3_0_0) (inb' := inb_S4x384x128_S1x384x128_2_0_0) 0 (by decide))

end Cert.Proof.Attn
end
-- ==== Proof.AttnTiles.lean ====
/-
  The attention body's tile computations, read at one entry over the extended reals: a score is the sum over the head
  dimension, a masked score is the least value, a carried row maximum is known by the bounds it has, a tile's
  contribution to a row's sums is the sum over its keys, and the stored quotient takes each head's sums and weights from
  the two halves of a row's lanes.
-/
module

public import proofs.«01_k».proof.Proof.AttnSpec
public import Idealize.ShloMosaic.Lib.Pipeline.Value
public import Idealize.ShloMosaic.Lib.Pointwise
public import Idealize.ShloMosaic.PureOps.Ideal

@[expose] public section

noncomputable section

namespace Cert.Proof.Attn

open Idealize.ShloMosaic Idealize.SL.Sem Cert.Kernel3Ideal Cert.Kernel3Ideal.Gen

theorem quad_apply (q : Vec Ideal S1x1x384x128 .bf16) (kt : Vec Ideal S1x1x1536x128 .bf16) (r : Fin 384) (c : Fin 1536) :
    quad (F := Ideal) q kt (ix2 r c) = ∑ d : Fin 128, q (ix4 0 0 r d) * kt (ix4 0 0 c d) := by
  unfold quad k0_pay2 k0_pay141
  pointwise

theorem tileW0_apply (s : FVec Ideal S384x1536 .f32) (r c : Fin 384) :
    tileW0 (F := Ideal) s (ix4 0 0 r c) = s (ix2 r ⟨0 + c.val, by omega⟩) := by
  unfold tileW0 k0_pay19
  pointwise
theorem tileW1_apply (s : FVec Ideal S384x1536 .f32) (r c : Fin 384) :
    tileW1 (F := Ideal) s (ix4 0 0 r c) = s (ix2 r ⟨384 + c.val, by omega⟩) := by
  unfold tileW1 k0_pay20
  pointwise
theorem tileW2_apply (s : FVec Ideal S384x1536 .f32) (r c : Fin 384) :
    tileW2 (F := Ideal) s (ix4 0 0 r c) = s (ix2 r ⟨768 + c.val, by omega⟩) := by
  unfold tileW2 k0_pay21
  pointwise
theorem tileW3_apply (s : FVec Ideal S384x1536 .f32) (r c : Fin 384) :
    tileW3 (F := Ideal) s (ix4 0 0 r c) = s (ix2 r ⟨1152 + c.val, by omega⟩) := by
  unfold tileW3 k0_pay22
  pointwise

theorem pay62_apply (q : Vec Ideal S1x1x384x128 .bf16) (kt : Vec Ideal S1x1x768x128 .bf16) (r : Fin 384) (c : Fin 768) :
    k0_pay62 (F := Ideal) (k0_pay141 (F := Ideal) q) kt (ix2 r c) = ∑ d : Fin 128, q (ix4 0 0 r d) * kt (ix4 0 0 c d) := by
  unfold k0_pay62 k0_pay141
  pointwise

theorem dLo_apply (q : Vec Ideal S1x1x384x128 .bf16) (kt : Vec Ideal S1x1x768x128 .bf16) (r c : Fin 384) :
    dLo (F := Ideal) q kt (ix4 0 0 r c) = ∑ d : Fin 128, q (ix4 0 0 r d) * kt (ix4 0 0 ⟨0 + c.val, by omega⟩ d) := by
  unfold dLo k0_pay63
  rw [← pay62_apply]
  generalize k0_pay62 (F := Ideal) _ _ = s
  pointwise
theorem dHi_apply (q : Vec Ideal S1x1x384x128 .bf16) (kt : Vec Ideal S1x1x768x128 .bf16) (r c : Fin 384) :
    dHi (F := Ideal) q kt (ix4 0 0 r c) = ∑ d : Fin 128, q (ix4 0 0 r d) * kt (ix4 0 0 ⟨384 + c.val, by omega⟩ d) := by
  unfold dHi k0_pay64
  rw [← pay62_apply]
  generalize k0_pay62 (F := Ideal) _ _ = s
  pointwise

theorem mask_bot : (Named.named κ "mask" 0xF149F2CA#32 : Ideal .f32) = (⊥ : EReal) := rfl

/-- The causal comparison of a row and a column inside the diagonal tile. -/
theorem sge_iff (r c : Fin 384) : IntOp.cmpi CmpIPredicate.sge (BitVec.ofNat 32 r.val) (BitVec.ofNat 32 c.val) = BitVec.ofBool (decide (c.val ≤ r.val)) := by
  have hr := r.isLt
  have hc := c.isLt
  have a : (BitVec.ofNat 32 r.val).toInt = r.val := by rw [BitVec.toInt_eq_toNat_of_lt (by rw [BitVec.toNat_ofNat]; omega), BitVec.toNat_ofNat]; omega
  have b : (BitVec.ofNat 32 c.val).toInt = c.val := by rw [BitVec.toInt_eq_toNat_of_lt (by rw [BitVec.toNat_ofNat]; omega), BitVec.toNat_ofNat]; omega
  show BitVec.ofBool (BitVec.sle (BitVec.ofNat 32 c.val) (BitVec.ofNat 32 r.val)) = _
  rw [BitVec.sle, a, b]
  simp

theorem select_ofBool (p : Prop) [Decidable p] (x y : EReal) : Scalar.select (BitVec.ofBool (decide p)) x y = if p then x else y := by
  by_cases h : p
  · rw [if_pos h, decide_eq_true h]; rfl
  · rw [if_neg h, decide_eq_false h]; rfl

theorem pay79_apply (q : Vec Ideal S1x1x384x128 .bf16) (kt : Vec Ideal S1x1x768x128 .bf16) (r c : Fin 384) :
    k0_pay79 (F := Ideal) (k0_pay141 (F := Ideal) q) kt (ix2 r c) = ∑ d : Fin 128, q (ix4 0 0 r d) * kt (ix4 0 0 ⟨0 + c.val, by omega⟩ d) := by
  unfold k0_pay79 k0_pay78 k0_pay141
  pointwise
theorem pay80_apply (q : Vec Ideal S1x1x384x128 .bf16) (kt : Vec Ideal S1x1x768x128 .bf16) (r c : Fin 384) :
    k0_pay80 (F := Ideal) (k0_pay141 (F := Ideal) q) k0_pay160 kt (ix2 r c) = if c.val ≤ r.val then ∑ d : Fin 128, q (ix4 0 0 r d) * kt (ix4 0 0 ⟨384 + c.val, by omega⟩ d) else ⊥ := by
  unfold k0_pay80 k0_pay78 k0_pay160 k0_pay141
  pointwise
  rw [sge_iff, select_ofBool, mask_bot]
theorem pay102_apply (q : Vec Ideal S1x1x384x128 .bf16) (kt : Vec Ideal S1x1x384x128 .bf16) (r c : Fin 384) :
    k0_pay102 (F := Ideal) (k0_pay141 (F := Ideal) q) k0_pay160 kt (ix2 r c) = if c.val ≤ r.val then ∑ d : Fin 128, q (ix4 0 0 r d) * kt (ix4 0 0 c d) else ⊥ := by
  unfold k0_pay102 k0_pay160 k0_pay141
  pointwise
  rw [sge_iff, select_ofBool, mask_bot]
theorem oLo_apply (q : Vec Ideal S1x1x384x128 .bf16) (kt : Vec Ideal S1x1x768x128 .bf16) (r c : Fin 384) :
    oLo (F := Ideal) q kt (ix4 0 0 r c) = ∑ d : Fin 128, q (ix4 0 0 r d) * kt (ix4 0 0 ⟨0 + c.val, by omega⟩ d) := by
  unfold oLo k0_pay81
  rw [← pay79_apply]
  generalize k0_pay79 (F := Ideal) _ _ = s
  pointwise
theorem oHi_apply (q : Vec Ideal S1x1x384x128 .bf16) (kt : Vec Ideal S1x1x768x128 .bf16) (r c : Fin 384) :
    oHi (F := Ideal) q kt (ix4 0 0 r c) = if c.val ≤ r.val then ∑ d : Fin 128, q (ix4 0 0 r d) * kt (ix4 0 0 ⟨384 + c.val, by omega⟩ d) else ⊥ := by
  unfold oHi k0_pay82
  rw [← pay80_apply]
  generalize k0_pay80 (F := Ideal) _ _ _ = s
  pointwise
theorem eTile_apply (q : Vec Ideal S1x1x384x128 .bf16) (kt : Vec Ideal S1x1x384x128 .bf16) (r c : Fin 384) :
    eTile (F := Ideal) q kt (ix4 0 0 r c) = if c.val ≤ r.val then ∑ d : Fin 128, q (ix4 0 0 r d) * kt (ix4 0 0 c d) else ⊥ := by
  unfold eTile k0_pay103
  rw [← pay102_apply]
  generalize k0_pay102 (F := Ideal) _ _ _ = s
  pointwise

/-! The carried maxima, by their bounds. -/

theorem pay23_le (a : FVec Ideal S384x128 .f32) (s : FVec Ideal S384x1536 .f32) (r : Fin 384) (u : EReal) :
    (∀ l : Fin 128, k0_pay23 (F := Ideal) a s (ix2 r l) ≤ u) ↔ (∀ l : Fin 128, a (ix2 r l) ≤ u) ∧ ∀ c : Fin 1536, s (ix2 r c) ≤ u := by
  have e : ∀ l : Fin 128, k0_pay23 (F := Ideal) a s (ix2 r l) ≤ u ↔ a (ix2 r l) ≤ u ∧ ∀ b : Fin 12, s (ix2 r ⟨128 * b.val + l.val, by omega⟩) ≤ u := fun l => by
    unfold k0_pay23
    pointwise
    simp only [max_le_iff, Fin.forall_fin_succ, Fin.forall_fin_zero_pi, Fin.val_zero, Fin.val_succ, Nat.mul_zero, Nat.zero_add, Nat.reduceAdd, Nat.reduceMul, IsEmpty.forall_iff, and_true, and_assoc]
  simp only [e]
  constructor
  · intro h
    refine ⟨fun l => (h l).1, fun c => ?_⟩
    have := (h ⟨c.val % 128, Nat.mod_lt _ (by decide)⟩).2 ⟨c.val / 128, by omega⟩
    have hc : (⟨128 * (c.val / 128) + c.val % 128, by omega⟩ : Fin 1536) = c := Fin.ext (by show 128 * (c.val / 128) + c.val % 128 = c.val; omega)
    rw [← hc]; exact this
  · exact fun h l => ⟨h.1 l, fun b => h.2 _⟩

theorem dMax_le (q : Vec Ideal S1x1x384x128 .bf16) (m : Vec Ideal S1x384x128 .f32) (kt : Vec Ideal S1x1x768x128 .bf16) (r : Fin 384) (u : EReal) :
    (∀ l : Fin 128, dMax (F := Ideal) q m kt (ix3 0 r l) ≤ u) ↔ (∀ l : Fin 128, m (ix3 0 r l) ≤ u) ∧ ∀ c : Fin 768, k0_pay62 (F := Ideal) (k0_pay141 (F := Ideal) q) kt (ix2 r c) ≤ u := by
  have e : ∀ l : Fin 128, dMax (F := Ideal) q m kt (ix3 0 r l) ≤ u ↔ m (ix3 0 r l) ≤ u ∧ ∀ b : Fin 6, k0_pay62 (F := Ideal) (k0_pay141 (F := Ideal) q) kt (ix2 r ⟨128 * b.val + l.val, by omega⟩) ≤ u := fun l => by
    unfold dMax k0_pay156 k0_pay66 k0_pay58 k0_pay65
    generalize k0_pay62 (F := Ideal) _ _ = s
    pointwise
    simp only [max_le_iff, Fin.forall_fin_succ, Fin.val_zero, Fin.val_succ, Nat.mul_zero, Nat.zero_add, Nat.reduceAdd, Nat.reduceMul, IsEmpty.forall_iff, and_true, and_assoc]
  simp only [e]
  constructor
  · intro h
    refine ⟨fun l => (h l).1, fun c => ?_⟩
    have := (h ⟨c.val % 128, Nat.mod_lt _ (by decide)⟩).2 ⟨c.val / 128, by omega⟩
    have hc : (⟨128 * (c.val / 128) + c.val % 128, by omega⟩ : Fin 768) = c := Fin.ext (by show 128 * (c.val / 128) + c.val % 128 = c.val; omega)
    rw [← hc]; exact this
  · exact fun h l => ⟨h.1 l, fun b => h.2 _⟩

theorem oMax_le (q : Vec Ideal S1x1x384x128 .bf16) (m : Vec Ideal S1x384x128 .f32) (kt : Vec Ideal S1x1x768x128 .bf16) (r : Fin 384) (u : EReal) :
    (∀ l : Fin 128, oMax (F := Ideal) q m kt (ix3 0 r l) ≤ u) ↔ (∀ l : Fin 128, m (ix3 0 r l) ≤ u)
      ∧ (∀ c : Fin 384, k0_pay79 (F := Ideal) (k0_pay141 (F := Ideal) q) kt (ix2 r c) ≤ u)
      ∧ ∀ c : Fin 384, k0_pay80 (F := Ideal) (k0_pay141 (F := Ideal) q) k0_pay160 kt (ix2 r c) ≤ u := by
  have e : ∀ l : Fin 128, oMax (F := Ideal) q m kt (ix3 0 r l) ≤ u ↔ m (ix3 0 r l) ≤ u
      ∧ (∀ b : Fin 3, k0_pay79 (F := Ideal) (k0_pay141 (F := Ideal) q) kt (ix2 r ⟨128 * b.val + l.val, by omega⟩) ≤ u)
      ∧ ∀ b : Fin 3, k0_pay80 (F := Ideal) (k0_pay141 (F := Ideal) q) k0_pay160 kt (ix2 r ⟨128 * b.val + l.val, by omega⟩) ≤ u := fun l => by
    unfold oMax k0_pay83
    generalize k0_pay79 (F := Ideal) _ _ = s
    generalize k0_pay80 (F := Ideal) _ _ _ = s'
    pointwise
    simp only [max_le_iff, Fin.forall_fin_succ, Fin.val_zero, Fin.val_succ, Nat.mul_zero, Nat.zero_add, Nat.reduceAdd, Nat.reduceMul, IsEmpty.forall_iff, and_true, and_assoc]
  simp only [e]
  constructor
  · intro h
    refine ⟨fun l => (h l).1, fun c => ?_, fun c => ?_⟩
    · have := (h ⟨c.val % 128, Nat.mod_lt _ (by decide)⟩).2.1 ⟨c.val / 128, by omega⟩
      have hc : (⟨128 * (c.val / 128) + c.val % 128, by omega⟩ : Fin 384) = c := Fin.ext (by show 128 * (c.val / 128) + c.val % 128 = c.val; omega)
      rw [← hc]; exact this
    · have := (h ⟨c.val % 128, Nat.mod_lt _ (by decide)⟩).2.2 ⟨c.val / 128, by omega⟩
      have hc : (⟨128 * (c.val / 128) + c.val % 128, by omega⟩ : Fin 384) = c := Fin.ext (by show 128 * (c.val / 128) + c.val % 128 = c.val; omega)
      rw [← hc]; exact this
  · exact fun h l => ⟨h.1 l, fun b => h.2.1 _, fun b => h.2.2 _⟩

theorem eMax_le (q : Vec Ideal S1x1x384x128 .bf16) (m : Vec Ideal S1x384x128 .f32) (kt : Vec Ideal S1x1x384x128 .bf16) (r : Fin 384) (u : EReal) :
    (∀ l : Fin 128, eMax (F := Ideal) q m kt (ix3 0 r l) ≤ u) ↔ (∀ l : Fin 128, m (ix3 0 r l) ≤ u) ∧ ∀ c : Fin 384, k0_pay102 (F := Ideal) (k0_pay141 (F := Ideal) q) k0_pay160 kt (ix2 r c) ≤ u := by
  have e : ∀ l : Fin 128, eMax (F := Ideal) q m kt (ix3 0 r l) ≤ u ↔ m (ix3 0 r l) ≤ u
      ∧ ∀ b : Fin 3, k0_pay102 (F := Ideal) (k0_pay141 (F := Ideal) q) k0_pay160 kt (ix2 r ⟨128 * b.val + l.val, by omega⟩) ≤ u := fun l => by
    unfold eMax k0_pay104
    generalize k0_pay102 (F := Ideal) _ _ _ = s
    pointwise
    simp only [max_le_iff, Fin.forall_fin_succ, Fin.val_zero, Fin.val_succ, Nat.mul_zero, Nat.zero_add, Nat.reduceAdd, Nat.reduceMul, IsEmpty.forall_iff, and_true, and_assoc]
  simp only [e]
  constructor
  · intro h
    refine ⟨fun l => (h l).1, fun c => ?_⟩
    have := (h ⟨c.val % 128, Nat.mod_lt _ (by decide)⟩).2 ⟨c.val / 128, by omega⟩
    have hc : (⟨128 * (c.val / 128) + c.val % 128, by omega⟩ : Fin 384) = c := Fin.ext (by show 128 * (c.val / 128) + c.val % 128 = c.val; omega)
    rw [← hc]; exact this
  · exact fun h l => ⟨h.1 l, fun b => h.2 _⟩

theorem stored_apply (a : FVec Ideal S384x128 .f32) (r : Fin 384) (l : Fin 128) : k0_pay151 (F := Ideal) a (ix3 0 r l) = a (ix2 r l) := by
  unfold k0_pay151
  pointwise

theorem fold_max_le (f : Fin 128 → EReal) (b u : EReal) : Finset.fold max b f Finset.univ ≤ u ↔ b ≤ u ∧ ∀ l, f l ≤ u := by
  rw [Finset.fold_max_le]
  simp

theorem ofBits_bot : Ideal.ofBits .f32 0xFF800000#32 = (⊥ : EReal) := by
  simp [Ideal.ofBits, Ideal.ieee]

theorem rowMax_le (m : Vec Ideal S1x384x128 .f32) (r : Fin 384) (u : EReal) :
    rowMax (F := Ideal) m (ix2 r 0) ≤ u ↔ ∀ l : Fin 128, m (ix3 0 r l) ≤ u := by
  have e : rowMax (F := Ideal) m (ix2 r 0) = Finset.fold max (⊥ : EReal) (fun l => m (ix3 0 r l)) Finset.univ := by
    unfold rowMax k0_pay166
    pointwise
    rw [ofBits_bot]
  rw [e, fold_max_le]
  simp

/-! The tiles' contributions to a row's sums. -/

/-- The power of two the kernel weights a score with. -/
abbrev ex2 (x : EReal) : EReal := FloatOps.exp2 (F := Ideal) (φ := .f32) x

theorem pay134_sum (M : FVec Ideal S384x1 .f32) (t : Vec Ideal S1x1x384x384 .f32) (vt : Vec Ideal S1x1x384x128 .bf16) (r : Fin 384) (l : Fin 128)
    (s v : ℕ → EReal) (h0 : ∀ c : Fin 384, t (ix4 0 0 r c) = s c.val) (hv : ∀ j : Fin 384, vt (ix4 0 0 j l) = v j.val) :
    k0_pay134 (F := Ideal) M t vt (ix2 r l) = ∑ j ∈ Finset.range 384, ex2 (s j - M (ix2 r 0)) * v j := by
  have e : k0_pay134 (F := Ideal) M t vt (ix2 r l) = ∑ j : Fin 384, ex2 (t (ix4 0 0 r j) - M (ix2 r 0)) * vt (ix4 0 0 j l) := by
    unfold k0_pay134 ex2
    pointwise
  rw [e, Finset.sum_range]
  exact Finset.sum_congr rfl fun j _ => by rw [h0, hv]

theorem pay125_sum (M : FVec Ideal S384x1 .f32) (t0 t1 : Vec Ideal S1x1x384x384 .f32) (vt : Vec Ideal S1x1x768x128 .bf16) (r : Fin 384) (l : Fin 128)
    (s v : ℕ → EReal) (h0 : ∀ c : Fin 384, t0 (ix4 0 0 r c) = s c.val) (h1 : ∀ c : Fin 384, t1 (ix4 0 0 r c) = s (384 + c.val))
    (hv : ∀ j : Fin 768, vt (ix4 0 0 j l) = v j.val) :
    k0_pay125 (F := Ideal) M t0 t1 vt (ix2 r l) = ∑ j ∈ Finset.range 768, ex2 (s j - M (ix2 r 0)) * v j := by
  have e : k0_pay125 (F := Ideal) M t0 t1 vt (ix2 r l) = ∑ x : Fin 384, ex2 (t0 (ix4 0 0 r x) - M (ix2 r 0)) * vt (ix4 0 0 ⟨x.val, by omega⟩ l)
      + ∑ x : Fin 384, ex2 (t1 (ix4 0 0 r x) - M (ix2 r 0)) * vt (ix4 0 0 ⟨384 + x.val, by omega⟩ l) := by
    unfold k0_pay125 ex2
    pointwise
  rw [e]
  refine Eq.trans ?_ (Finset.sum_range_add (fun j => ex2 (s j - M (ix2 r 0)) * v j) 384 384).symm
  rw [Finset.sum_range, Finset.sum_range]
  refine congrArg₂ _ (Finset.sum_congr rfl fun j _ => by rw [h0, hv]) (Finset.sum_congr rfl fun j _ => by rw [h1, hv])

theorem pay111_sum (M : FVec Ideal S384x1 .f32) (t0 t1 t2 t3 : Vec Ideal S1x1x384x384 .f32) (vt : Vec Ideal S1x1x1536x128 .bf16) (r : Fin 384) (l : Fin 128)
    (s v : ℕ → EReal) (h0 : ∀ c : Fin 384, t0 (ix4 0 0 r c) = s c.val) (h1 : ∀ c : Fin 384, t1 (ix4 0 0 r c) = s (384 + c.val))
    (h2 : ∀ c : Fin 384, t2 (ix4 0 0 r c) = s (768 + c.val)) (h3 : ∀ c : Fin 384, t3 (ix4 0 0 r c) = s (1152 + c.val))
    (hv : ∀ j : Fin 1536, vt (ix4 0 0 j l) = v j.val) :
    k0_pay111 (F := Ideal) M t0 t1 t2 t3 vt (ix2 r l) = ∑ j ∈ Finset.range 1536, ex2 (s j - M (ix2 r 0)) * v j := by
  have e : ∀ g : EReal, (∑ x : Fin 1536, ex2 ((if h : x.val < 384 then t0 (ix4 0 0 r ⟨x.val, h⟩)
      else if h : x.val - 384 < 384 then t1 (ix4 0 0 r ⟨x.val - 384, h⟩)
      else if h : x.val - 384 - 384 < 384 then t2 (ix4 0 0 r ⟨x.val - 384 - 384, h⟩)
      else t3 (ix4 0 0 r ⟨x.val - 384 - 384 - 384, by omega⟩)) - M (ix2 r 0)) * vt (ix4 0 0 x l)) = g → k0_pay111 (F := Ideal) M t0 t1 t2 t3 vt (ix2 r l) = g := fun g hg => by
    unfold k0_pay111
    pointwise
    exact hg
  refine e _ ?_
  rw [Finset.sum_range]
  refine Finset.sum_congr rfl fun j _ => ?_
  rw [hv]
  congr 3
  by_cases a : j.val < 384
  · rw [dif_pos a, h0]
  rw [dif_neg a]
  by_cases b : j.val - 384 < 384
  · rw [dif_pos b, h1]; congr 1; show 384 + (j.val - 384) = j.val; omega
  rw [dif_neg b]
  by_cases c : j.val - 384 - 384 < 384
  · rw [dif_pos c, h2]; congr 1; show 768 + (j.val - 384 - 384) = j.val; omega
  rw [dif_neg c, h3]; congr 1; show 1152 + (j.val - 384 - 384 - 384) = j.val; omega

theorem pay172_apply (a b : FVec Ideal S384x128 .f32) (r : Fin 384) (l : Fin 128) : k0_pay172 (F := Ideal) a b (ix2 r l) = a (ix2 r l) + b (ix2 r l) := by
  unfold k0_pay172
  pointwise
theorem pay130_apply (b : FVec Ideal S384x128 .f32) (a : Vec Ideal S1x384x128 .f32) (r : Fin 384) (l : Fin 128) : k0_pay130 (F := Ideal) b a (ix3 0 r l) = a (ix3 0 r l) + b (ix2 r l) := by
  unfold k0_pay130
  pointwise
theorem pay139_apply (b : FVec Ideal S384x128 .f32) (a : Vec Ideal S1x384x128 .f32) (r : Fin 384) (l : Fin 128) : k0_pay139 (F := Ideal) b a (ix3 0 r l) = a (ix3 0 r l) + b (ix2 r l) := by
  unfold k0_pay139
  pointwise

theorem pay145_apply (r : Fin 384) (l : Fin 128) : k0_pay145 (F := Ideal) (ix2 r l) = (⊥ : EReal) := rfl
theorem pay146_apply (r : Fin 384) (l : Fin 128) : k0_pay146 (F := Ideal) (ix2 r l) = (⊥ : EReal) := rfl
theorem pay147_apply (r : Fin 384) (l : Fin 128) : k0_pay147 (F := Ideal) (ix2 r l) = (⊥ : EReal) := rfl
theorem pay148_apply (r : Fin 384) (l : Fin 128) : k0_pay148 (F := Ideal) (ix2 r l) = (⊥ : EReal) := rfl
theorem pay168_apply (r : Fin 384) (l : Fin 128) : k0_pay168 (F := Ideal) (ix2 r l) = (0 : EReal) := by
  unfold k0_pay168
  pointwise
theorem pay169_apply (r : Fin 384) (l : Fin 128) : k0_pay169 (F := Ideal) (ix2 r l) = (0 : EReal) := by
  unfold k0_pay169
  pointwise
theorem pay170_apply (r : Fin 384) (l : Fin 128) : k0_pay170 (F := Ideal) (ix2 r l) = (0 : EReal) := by
  unfold k0_pay170
  pointwise
theorem pay171_apply (r : Fin 384) (l : Fin 128) : k0_pay171 (F := Ideal) (ix2 r l) = (0 : EReal) := by
  unfold k0_pay171
  pointwise

theorem slt64 (n : ℕ) (hn : n < 128) : IntOp.cmpi CmpIPredicate.slt (BitVec.ofNat 32 n) 64#32 = BitVec.ofBool (decide (n < 64)) := by
  interval_cases n <;> rfl

/-- A stored quotient: the first half of the lanes from the first head, the second half from the second head, each over the
    same head's other half. -/
theorem pay188_apply (a b : Vec Ideal S1x384x128 .f32) (r : Fin 384) (l : Fin 128) :
    k0_pay188 (F := Ideal) a b (ix3 0 r l) = if l.val < 64 then Ideal.div (a (ix3 0 r l)) (a (ix3 0 r ⟨(l.val + 64) % 128, Nat.mod_lt _ (by decide)⟩))
      else Ideal.div (b (ix3 0 r l)) (b (ix3 0 r ⟨(l.val + 64) % 128, Nat.mod_lt _ (by decide)⟩)) := by
  have hl := l.isLt
  unfold k0_pay188 k0_pay187
  pointwise
  rw [slt64 _ hl, slt64 _ (Nat.mod_lt _ (by decide)), select_ofBool, select_ofBool]
  have hm : (⟨(l.val + 128 - 64) % 128, Nat.mod_lt _ (by decide)⟩ : Fin 128) = ⟨(l.val + 64) % 128, Nat.mod_lt _ (by decide)⟩ := Fin.ext (by show (l.val + 128 - 64) % 128 = (l.val + 64) % 128; omega)
  by_cases h : l.val < 64
  · rw [if_pos h, if_pos h, if_neg (by omega), hm]
  · rw [if_neg h, if_neg h, if_pos (by omega), hm]

end Cert.Proof.Attn
end
-- ==== Proof.AttnValue.lean ====
/-
  What a block of the attention computes, over the extended reals: the score of every query of the block with every key
  up to it, the maximum of a row of scores, and the row's sum of the values under the weights 2^(score - maximum).
  Every tile store, every carried maximum and every partial sum is followed to these.
-/
module

public import proofs.«01_k».proof.Proof.AttnTiles
public import Idealize.ShloMosaic.Lib.WritesUnit

@[expose] public section

set_option maxHeartbeats 1000000

noncomputable section

namespace Cert.Proof.Attn

open Idealize.ShloMosaic Idealize.SL.Sem Cert.Kernel3Ideal Cert.Kernel3Ideal.Gen

/-- Row `j` of head `h` of a block of keys or of values. -/
def at4 (x : FVec Ideal S1x4x4224x128 .bf16) (h : Fin 4) (j : ℕ) (d : Fin 128) : EReal := if hj : j < 4224 then x (ix4 0 h ⟨j, hj⟩ d) else 0

/-- The score of a query of the block with a key. -/
def sc (x3 : FVec Ideal S1x4x384x128 .bf16) (x4 : FVec Ideal S1x4x4224x128 .bf16) (h : Fin 4) (r : Fin 384) (j : ℕ) : EReal :=
  ∑ d : Fin 128, x3 (ix4 0 h r d) * at4 x4 h j d

/-- The score with the keys behind the query left out, in the block of index `p`. -/
def msc (p : ℕ) (x3 : FVec Ideal S1x4x384x128 .bf16) (x4 : FVec Ideal S1x4x4224x128 .bf16) (h : Fin 4) (r : Fin 384) (j : ℕ) : EReal :=
  if j ≤ 384 * p + r.val then sc x3 x4 h r j else ⊥

/-- The greatest of a row's scores. -/
def mx (p : ℕ) (x3 : FVec Ideal S1x4x384x128 .bf16) (x4 : FVec Ideal S1x4x4224x128 .bf16) (h : Fin 4) (r : Fin 384) : EReal :=
  (Finset.range (384 * (p + 1))).sup (msc p x3 x4 h r)

/-- A row's weighted sum over the first `n` keys of the values' lane `l`. -/
def att (p : ℕ) (x3 : FVec Ideal S1x4x384x128 .bf16) (x4 x5 : FVec Ideal S1x4x4224x128 .bf16) (h : Fin 4) (n : ℕ) (r : Fin 384) (l : Fin 128) : EReal :=
  ∑ j ∈ Finset.range n, ex2 (msc p x3 x4 h r j - mx p x3 x4 h r) * at4 x5 h j l

/-- A block's result: a row's weighted sum over its sum of weights, which lies in the head's other half of lanes. -/
def outB (p : ℕ) (x3 : FVec Ideal S1x4x384x128 .bf16) (x4 x5 : FVec Ideal S1x4x4224x128 .bf16) : FVec Ideal S1x384x256 .bf16 := fun y =>
  Ideal.div (att p x3 x4 x5 ⟨(y 2).val / 64, by have := (y 2).isLt; show (y 2).val / 64 < 4; change (y 2).val < 256 at this; omega⟩ (384 * (p + 1)) (y 1) ⟨(y 2).val % 128, Nat.mod_lt _ (by decide)⟩)
    (att p x3 x4 x5 ⟨(y 2).val / 64, by have := (y 2).isLt; show (y 2).val / 64 < 4; change (y 2).val < 256 at this; omega⟩ (384 * (p + 1)) (y 1) ⟨((y 2).val % 128 + 64) % 128, Nat.mod_lt _ (by decide)⟩)

/-! Loads. -/

theorem ld1536 (v : View sig .tc .vmem S1x4x4224x128 .bf16) (X : v.ty.Contents (Elt Ideal)) {o : Fin 4 → ℕ} (b : ∀ a, o a + S1x1x1536x128.size a ≤ S1x4x4224x128.size a)
    (h : Fin 4) (n : ℕ) (ho : o = ![0, h.val, n, 0]) (c : Fin 1536) (d : Fin 128) :
    View.readAt (Elt Ideal) v (Rect.unit (s := S1x4x4224x128) o S1x1x1536x128.size b).toLoadRect X (ix4 0 0 c d) = at4 (v.read (Elt Ideal) X) h (n + c.val) d := by
  subst ho
  have hb : n + 1536 ≤ 4224 := b 2
  rw [at4, dif_pos (by have := c.isLt; omega)]
  refine congrArg (v.read (Elt Ideal) X) (funext fun a => Fin.ext ?_)
  match a with
  | 0 => rfl
  | 1 => show h.val + 1 * 0 = h.val; omega
  | 2 => show n + 1 * c.val = n + c.val; omega
  | 3 => show 0 + 1 * d.val = d.val; omega

theorem ld768 (v : View sig .tc .vmem S1x4x4224x128 .bf16) (X : v.ty.Contents (Elt Ideal)) {o : Fin 4 → ℕ} (b : ∀ a, o a + S1x1x768x128.size a ≤ S1x4x4224x128.size a)
    (h : Fin 4) (n : ℕ) (ho : o = ![0, h.val, n, 0]) (c : Fin 768) (d : Fin 128) :
    View.readAt (Elt Ideal) v (Rect.unit (s := S1x4x4224x128) o S1x1x768x128.size b).toLoadRect X (ix4 0 0 c d) = at4 (v.read (Elt Ideal) X) h (n + c.val) d := by
  subst ho
  have hb : n + 768 ≤ 4224 := b 2
  rw [at4, dif_pos (by have := c.isLt; omega)]
  refine congrArg (v.read (Elt Ideal) X) (funext fun a => Fin.ext ?_)
  match a with
  | 0 => rfl
  | 1 => show h.val + 1 * 0 = h.val; omega
  | 2 => show n + 1 * c.val = n + c.val; omega
  | 3 => show 0 + 1 * d.val = d.val; omega

theorem ld384 (v : View sig .tc .vmem S1x4x4224x128 .bf16) (X : v.ty.Contents (Elt Ideal)) {o : Fin 4 → ℕ} (b : ∀ a, o a + S1x1x384x128.size a ≤ S1x4x4224x128.size a)
    (h : Fin 4) (n : ℕ) (ho : o = ![0, h.val, n, 0]) (c : Fin 384) (d : Fin 128) :
    View.readAt (Elt Ideal) v (Rect.unit (s := S1x4x4224x128) o S1x1x384x128.size b).toLoadRect X (ix4 0 0 c d) = at4 (v.read (Elt Ideal) X) h (n + c.val) d := by
  subst ho
  have hb : n + 384 ≤ 4224 := b 2
  rw [at4, dif_pos (by have := c.isLt; omega)]
  refine congrArg (v.read (Elt Ideal) X) (funext fun a => Fin.ext ?_)
  match a with
  | 0 => rfl
  | 1 => show h.val + 1 * 0 = h.val; omega
  | 2 => show n + 1 * c.val = n + c.val; omega
  | 3 => show 0 + 1 * d.val = d.val; omega

theorem ldq (v : View sig .tc .vmem S1x4x384x128 .bf16) (X : v.ty.Contents (Elt Ideal)) {o : Fin 4 → ℕ} (b : ∀ a, o a + S1x1x384x128.size a ≤ S1x4x384x128.size a)
    (h : Fin 4) (ho : o = ![0, h.val, 0, 0]) (r : Fin 384) (d : Fin 128) :
    View.readAt (Elt Ideal) v (Rect.unit (s := S1x4x384x128) o S1x1x384x128.size b).toLoadRect X (ix4 0 0 r d) = v.read (Elt Ideal) X (ix4 0 h r d) := by
  subst ho
  refine congrArg (v.read (Elt Ideal) X) (funext fun a => Fin.ext ?_)
  match a with
  | 0 => rfl
  | 1 => show h.val + 1 * 0 = h.val; omega
  | 2 => show 0 + 1 * r.val = r.val; omega
  | 3 => show 0 + 1 * d.val = d.val; omega

/-- The score buffer holds the scores of the tiles that `P` names. -/
def Good (p : ℕ) (x3 : FVec Ideal S1x4x384x128 .bf16) (x4 : FVec Ideal S1x4x4224x128 .bf16) (v : View sig .tc .vmem S4x11x384x384 .f32) (X : v.ty.Contents (Elt Ideal)) (P : ℕ → ℕ → Prop) : Prop :=
  ∀ (h : Fin 4) (t : Fin 11) (r c : Fin 384), P h.val t.val → v.read (Elt Ideal) X (ix4 h t r c) = msc p x3 x4 h r (384 * t.val + c.val)

theorem Good.mono {p : ℕ} {x3 : FVec Ideal S1x4x384x128 .bf16} {x4 : FVec Ideal S1x4x4224x128 .bf16} {v : View sig .tc .vmem S4x11x384x384 .f32} {X : v.ty.Contents (Elt Ideal)} {P Q : ℕ → ℕ → Prop}
    (H : Good p x3 x4 v X P) (hPQ : ∀ a b, a < 4 → b < 11 → Q a b → P a b) : Good p x3 x4 v X Q :=
  fun h t r c hq => H h t r c (hPQ _ _ h.isLt t.isLt hq)

/-- A tile's store, of the right scores, makes that tile good and keeps the others. -/
theorem Good.cons {p : ℕ} {x3 : FVec Ideal S1x4x384x128 .bf16} {x4 : FVec Ideal S1x4x4224x128 .bf16} {v : View sig .tc .vmem S4x11x384x384 .f32} {f : v.ty.Contents (Elt Ideal)} {P : ℕ → ℕ → Prop}
    {o : Fin 4 → ℕ} {b : ∀ a, o a + S1x1x384x384.size a ≤ S4x11x384x384.size a} {w : Vec Ideal S1x1x384x384 .f32} {L : List (View.Piece (Elt Ideal) S4x11x384x384 .f32)}
    (h : Fin 4) (t : ℕ) (ho : o = ![h.val, t, 0, 0]) (hw : ∀ r c, w (ix4 0 0 r c) = msc p x3 x4 h r (384 * t + c.val))
    (H : Good p x3 x4 v (v.writes (Elt Ideal) f L) (fun i j => P i j ∧ ¬(i = h.val ∧ j = t))) :
    Good p x3 x4 v (v.writes (Elt Ideal) f (⟨Rect.unit (s := S4x11x384x384) o S1x1x384x384.size b, w⟩ :: L)) P := by
  intro i j r c hp
  by_cases hi : i = h
  · by_cases hj : j.val = t
    · subst hi
      rw [View.read_writes_cons_unit_of_mem (off' := ![i.val, t, 0, 0]) v f b w L (ix4 i j r c) (ix4 0 0 r c) ho (fun a => ?_), hw, hj]
      match a with
      | 0 => rfl
      | 1 => exact hj
      | 2 => show r.val = 0 + r.val; omega
      | 3 => show c.val = 0 + c.val; omega
    · rw [View.read_writes_cons_unit_of_not_mem (off' := ![h.val, t, 0, 0]) v f b w L (ix4 i j r c) ho 1 ?_]
      · exact H i j r c ⟨hp, fun hh => hj hh.2⟩
      · show j.val < t ∨ t + 1 ≤ j.val
        omega
  · rw [View.read_writes_cons_unit_of_not_mem (off' := ![h.val, t, 0, 0]) v f b w L (ix4 i j r c) ho 0 ?_]
    · exact H i j r c ⟨hp, fun hh => hi (Fin.ext hh.1)⟩
    · show i.val < h.val ∨ h.val + 1 ≤ i.val
      have : i.val ≠ h.val := fun hh => hi (Fin.ext hh)
      omega

theorem Good.ld {p : ℕ} {x3 : FVec Ideal S1x4x384x128 .bf16} {x4 : FVec Ideal S1x4x4224x128 .bf16} {v : View sig .tc .vmem S4x11x384x384 .f32} {X : v.ty.Contents (Elt Ideal)} {P : ℕ → ℕ → Prop}
    (H : Good p x3 x4 v X P) {o : Fin 4 → ℕ} (b : ∀ a, o a + S1x1x384x384.size a ≤ S4x11x384x384.size a) (h : Fin 4) (t : ℕ) (ho : o = ![h.val, t, 0, 0]) (hP : P h.val t) (r c : Fin 384) :
    View.readAt (Elt Ideal) v (Rect.unit (s := S4x11x384x384) o S1x1x384x384.size b).toLoadRect X (ix4 0 0 r c) = msc p x3 x4 h r (384 * t + c.val) := by
  subst ho
  have hb : t + 1 ≤ 11 := b 1
  refine Eq.trans (congrArg (v.read (Elt Ideal) X) (funext fun a => Fin.ext ?_)) (H h ⟨t, by omega⟩ r c hP)
  match a with
  | 0 => show h.val + 1 * 0 = h.val; omega
  | 1 => show t + 1 * 0 = t; omega
  | 2 => show 0 + 1 * r.val = r.val; omega
  | 3 => show 0 + 1 * c.val = c.val; omega

/-! Carried maxima. -/

/-- A carried maximum, over the lanes of a row, bounds the scores of the first `n` keys and nothing else. -/
def MaxA (p : ℕ) (x3 : FVec Ideal S1x4x384x128 .bf16) (x4 : FVec Ideal S1x4x4224x128 .bf16) (h : Fin 4) (n : ℕ) (m : FVec Ideal S384x128 .f32) : Prop :=
  ∀ (r : Fin 384) (u : EReal), (∀ l : Fin 128, m (ix2 r l) ≤ u) ↔ ∀ j < n, msc p x3 x4 h r j ≤ u
/-- The same of a maximum in its stored shape. -/
def MaxS (p : ℕ) (x3 : FVec Ideal S1x4x384x128 .bf16) (x4 : FVec Ideal S1x4x4224x128 .bf16) (h : Fin 4) (n : ℕ) (m : Vec Ideal S1x384x128 .f32) : Prop :=
  ∀ (r : Fin 384) (u : EReal), (∀ l : Fin 128, m (ix3 0 r l) ≤ u) ↔ ∀ j < n, msc p x3 x4 h r j ≤ u

theorem forall_lt_add (P : ℕ → Prop) (n m : ℕ) : (∀ j < n + m, P j) ↔ (∀ j < n, P j) ∧ ∀ c : Fin m, P (n + c.val) := by
  constructor
  · exact fun H => ⟨fun j hj => H j (by omega), fun c => H _ (by have := c.isLt; omega)⟩
  · intro H j hj
    by_cases a : j < n
    · exact H.1 j a
    · have := H.2 ⟨j - n, by omega⟩
      rwa [show n + (⟨j - n, by omega⟩ : Fin m).val = j from by show n + (j - n) = j; omega] at this

section Steps
variable {p : ℕ} {x3 : FVec Ideal S1x4x384x128 .bf16} {x4 x5 : FVec Ideal S1x4x4224x128 .bf16} {h : Fin 4} {n : ℕ}
  {q : Vec Ideal S1x1x384x128 .bf16} (hq : ∀ r d, q (ix4 0 0 r d) = x3 (ix4 0 h r d))

theorem msc_before (r : Fin 384) (j : ℕ) (hj : j < 384 * p) : msc p x3 x4 h r j = sc x3 x4 h r j := if_pos (by omega)
theorem msc_diag (r c : Fin 384) : msc p x3 x4 h r (384 * p + c.val) = if c.val ≤ r.val then sc x3 x4 h r (384 * p + c.val) else ⊥ := by
  unfold msc
  by_cases hc : c.val ≤ r.val
  · rw [if_pos hc, if_pos (by omega)]
  · rw [if_neg hc, if_neg (by omega)]

theorem MaxA.init {m : FVec Ideal S384x128 .f32} (hm : ∀ r l, m (ix2 r l) = (⊥ : EReal)) : MaxA p x3 x4 h 0 m := by
  intro r u
  simp [hm]

theorem MaxA.toS {m : FVec Ideal S384x128 .f32} (H : MaxA p x3 x4 h n m) : MaxS p x3 x4 h n (k0_pay151 (F := Ideal) m) := by
  intro r u
  simp only [stored_apply]
  exact H r u

include hq

theorem quad_sc {kt : Vec Ideal S1x1x1536x128 .bf16} (hk : ∀ c d, kt (ix4 0 0 c d) = at4 x4 h (n + c.val) d) (hn : n + 1536 ≤ 384 * p) (r : Fin 384) (c : Fin 1536) :
    quad (F := Ideal) q kt (ix2 r c) = msc p x3 x4 h r (n + c.val) := by
  rw [quad_apply, msc_before r _ (by have := c.isLt; omega)]
  exact Finset.sum_congr rfl fun d _ => by rw [hq, hk]
theorem pay62_sc {kt : Vec Ideal S1x1x768x128 .bf16} (hk : ∀ c d, kt (ix4 0 0 c d) = at4 x4 h (n + c.val) d) (hn : n + 768 ≤ 384 * p) (r : Fin 384) (c : Fin 768) :
    k0_pay62 (F := Ideal) (k0_pay141 (F := Ideal) q) kt (ix2 r c) = msc p x3 x4 h r (n + c.val) := by
  rw [pay62_apply, msc_before r _ (by have := c.isLt; omega)]
  exact Finset.sum_congr rfl fun d _ => by rw [hq, hk]
theorem dLo_sc {kt : Vec Ideal S1x1x768x128 .bf16} (hk : ∀ c d, kt (ix4 0 0 c d) = at4 x4 h (n + c.val) d) (hn : n + 768 ≤ 384 * p) (r c : Fin 384) :
    dLo (F := Ideal) q kt (ix4 0 0 r c) = msc p x3 x4 h r (n + c.val) := by
  have hc := c.isLt
  rw [dLo_apply, msc_before r _ (by omega)]
  exact Finset.sum_congr rfl fun d _ => by rw [hq, hk]; simp only [Nat.zero_add]
theorem dHi_sc {kt : Vec Ideal S1x1x768x128 .bf16} (hk : ∀ c d, kt (ix4 0 0 c d) = at4 x4 h (n + c.val) d) (hn : n + 768 ≤ 384 * p) (r c : Fin 384) :
    dHi (F := Ideal) q kt (ix4 0 0 r c) = msc p x3 x4 h r (n + (384 + c.val)) := by
  have hc := c.isLt
  rw [dHi_apply, msc_before r _ (by omega)]
  exact Finset.sum_congr rfl fun d _ => by rw [hq, hk]
theorem pay79_sc {kt : Vec Ideal S1x1x768x128 .bf16} (hk : ∀ c d, kt (ix4 0 0 c d) = at4 x4 h (n + c.val) d) (hn : n + 384 = 384 * p) (r c : Fin 384) :
    k0_pay79 (F := Ideal) (k0_pay141 (F := Ideal) q) kt (ix2 r c) = msc p x3 x4 h r (n + c.val) := by
  have hc := c.isLt
  rw [pay79_apply, msc_before r _ (by omega)]
  exact Finset.sum_congr rfl fun d _ => by rw [hq, hk]; simp only [Nat.zero_add]
theorem pay80_sc {kt : Vec Ideal S1x1x768x128 .bf16} (hk : ∀ c d, kt (ix4 0 0 c d) = at4 x4 h (n + c.val) d) (hn : n + 384 = 384 * p) (r c : Fin 384) :
    k0_pay80 (F := Ideal) (k0_pay141 (F := Ideal) q) k0_pay160 kt (ix2 r c) = msc p x3 x4 h r (n + (384 + c.val)) := by
  have hc := c.isLt
  rw [pay80_apply, show n + (384 + c.val) = 384 * p + c.val from by omega, msc_diag]
  refine if_congr Iff.rfl (Finset.sum_congr rfl fun d _ => ?_) rfl
  rw [hq, hk]
  congr 2
  show n + (384 + c.val) = _
  omega
theorem oLo_sc {kt : Vec Ideal S1x1x768x128 .bf16} (hk : ∀ c d, kt (ix4 0 0 c d) = at4 x4 h (n + c.val) d) (hn : n + 384 = 384 * p) (r c : Fin 384) :
    oLo (F := Ideal) q kt (ix4 0 0 r c) = msc p x3 x4 h r (n + c.val) :=
  (oLo_apply q kt r c).trans ((pay79_apply q kt r c).symm.trans (pay79_sc hq hk hn r c))
theorem oHi_sc {kt : Vec Ideal S1x1x768x128 .bf16} (hk : ∀ c d, kt (ix4 0 0 c d) = at4 x4 h (n + c.val) d) (hn : n + 384 = 384 * p) (r c : Fin 384) :
    oHi (F := Ideal) q kt (ix4 0 0 r c) = msc p x3 x4 h r (n + (384 + c.val)) :=
  (oHi_apply q kt r c).trans ((pay80_apply q kt r c).symm.trans (pay80_sc hq hk hn r c))
theorem pay102_sc {kt : Vec Ideal S1x1x384x128 .bf16} (hk : ∀ c d, kt (ix4 0 0 c d) = at4 x4 h (n + c.val) d) (hn : n = 384 * p) (r c : Fin 384) :
    k0_pay102 (F := Ideal) (k0_pay141 (F := Ideal) q) k0_pay160 kt (ix2 r c) = msc p x3 x4 h r (n + c.val) := by
  subst hn
  rw [pay102_apply, msc_diag]
  refine if_congr Iff.rfl (Finset.sum_congr rfl fun d _ => ?_) rfl
  rw [hq, hk]
theorem eTile_sc {kt : Vec Ideal S1x1x384x128 .bf16} (hk : ∀ c d, kt (ix4 0 0 c d) = at4 x4 h (n + c.val) d) (hn : n = 384 * p) (r c : Fin 384) :
    eTile (F := Ideal) q kt (ix4 0 0 r c) = msc p x3 x4 h r (n + c.val) :=
  (eTile_apply q kt r c).trans ((pay102_apply q kt r c).symm.trans (pay102_sc hq hk hn r c))

theorem MaxA.quad {m : FVec Ideal S384x128 .f32} (H : MaxA p x3 x4 h n m) {kt : Vec Ideal S1x1x1536x128 .bf16} (hk : ∀ c d, kt (ix4 0 0 c d) = at4 x4 h (n + c.val) d) (hn : n + 1536 ≤ 384 * p) :
    MaxA p x3 x4 h (n + 1536) (k0_pay23 (F := Ideal) m (Attn.quad (F := Ideal) q kt)) := by
  intro r u
  rw [pay23_le, forall_lt_add, H r u]
  simp only [quad_sc hq hk hn]
theorem MaxS.d {m : Vec Ideal S1x384x128 .f32} (H : MaxS p x3 x4 h n m) {kt : Vec Ideal S1x1x768x128 .bf16} (hk : ∀ c d, kt (ix4 0 0 c d) = at4 x4 h (n + c.val) d) (hn : n + 768 ≤ 384 * p) :
    MaxS p x3 x4 h (n + 768) (dMax (F := Ideal) q m kt) := by
  intro r u
  rw [dMax_le, forall_lt_add, H r u]
  simp only [pay62_sc hq hk hn]
theorem MaxS.o {m : Vec Ideal S1x384x128 .f32} (H : MaxS p x3 x4 h n m) {kt : Vec Ideal S1x1x768x128 .bf16} (hk : ∀ c d, kt (ix4 0 0 c d) = at4 x4 h (n + c.val) d) (hn : n + 384 = 384 * p) :
    MaxS p x3 x4 h (n + 768) (oMax (F := Ideal) q m kt) := by
  intro r u
  rw [oMax_le, H r u, show n + 768 = n + 384 + 384 from rfl, forall_lt_add, forall_lt_add]
  simp only [pay79_sc hq hk hn, pay80_sc hq hk hn, and_assoc, Nat.add_assoc]
theorem MaxS.e {m : Vec Ideal S1x384x128 .f32} (H : MaxS p x3 x4 h n m) {kt : Vec Ideal S1x1x384x128 .bf16} (hk : ∀ c d, kt (ix4 0 0 c d) = at4 x4 h (n + c.val) d) (hn : n = 384 * p) :
    MaxS p x3 x4 h (n + 384) (eMax (F := Ideal) q m kt) := by
  intro r u
  rw [eMax_le, H r u, forall_lt_add]
  simp only [pay102_sc hq hk hn]

omit hq in
theorem MaxS.row {m : Vec Ideal S1x384x128 .f32} (H : MaxS p x3 x4 h (384 * (p + 1)) m) (r : Fin 384) : rowMax (F := Ideal) m (ix2 r 0) = mx p x3 x4 h r := by
  refine eq_of_forall_ge_iff fun u => ?_
  rw [rowMax_le, H r u, mx, Finset.sup_le_iff]
  simp only [Finset.mem_range]

/-! Partial sums. -/

omit hq in
theorem att_add (r : Fin 384) (l : Fin 128) (n m : ℕ) : att p x3 x4 x5 h (n + m) r l
    = att p x3 x4 x5 h n r l + ∑ j ∈ Finset.range m, ex2 (msc p x3 x4 h r (n + j) - mx p x3 x4 h r) * at4 x5 h (n + j) l :=
  Finset.sum_range_add (fun j => ex2 (msc p x3 x4 h r j - mx p x3 x4 h r) * at4 x5 h j l) n m

end Steps

section Sums
variable {p : ℕ} {x3 : FVec Ideal S1x4x384x128 .bf16} {x4 x5 : FVec Ideal S1x4x4224x128 .bf16} {h : Fin 4} {n : ℕ}
  {M : FVec Ideal S384x1 .f32} (hM : ∀ r, M (ix2 r 0) = mx p x3 x4 h r)
include hM

theorem quad_sum {a : FVec Ideal S384x128 .f32} (H : ∀ r l, a (ix2 r l) = att p x3 x4 x5 h n r l) {t0 t1 t2 t3 : Vec Ideal S1x1x384x384 .f32} {vt : Vec Ideal S1x1x1536x128 .bf16}
    (h0 : ∀ r c : Fin 384, t0 (ix4 0 0 r c) = msc p x3 x4 h r (n + c.val)) (h1 : ∀ r c : Fin 384, t1 (ix4 0 0 r c) = msc p x3 x4 h r (n + (384 + c.val)))
    (h2 : ∀ r c : Fin 384, t2 (ix4 0 0 r c) = msc p x3 x4 h r (n + (768 + c.val))) (h3 : ∀ r c : Fin 384, t3 (ix4 0 0 r c) = msc p x3 x4 h r (n + (1152 + c.val)))
    (hv : ∀ c d, vt (ix4 0 0 c d) = at4 x5 h (n + c.val) d) (r : Fin 384) (l : Fin 128) :
    k0_pay172 (F := Ideal) a (k0_pay111 (F := Ideal) M t0 t1 t2 t3 vt) (ix2 r l) = att p x3 x4 x5 h (n + 1536) r l := by
  rw [pay172_apply, att_add, H, pay111_sum M t0 t1 t2 t3 vt r l (fun j => msc p x3 x4 h r (n + j)) (fun j => at4 x5 h (n + j) l) (h0 r) (h1 r) (h2 r) (h3 r) (fun j => hv j l), hM]
theorem two_sum {a : Vec Ideal S1x384x128 .f32} (H : ∀ r l, a (ix3 0 r l) = att p x3 x4 x5 h n r l) {t0 t1 : Vec Ideal S1x1x384x384 .f32} {vt : Vec Ideal S1x1x768x128 .bf16}
    (h0 : ∀ r c : Fin 384, t0 (ix4 0 0 r c) = msc p x3 x4 h r (n + c.val)) (h1 : ∀ r c : Fin 384, t1 (ix4 0 0 r c) = msc p x3 x4 h r (n + (384 + c.val)))
    (hv : ∀ c d, vt (ix4 0 0 c d) = at4 x5 h (n + c.val) d) (r : Fin 384) (l : Fin 128) :
    k0_pay130 (F := Ideal) (k0_pay125 (F := Ideal) M t0 t1 vt) a (ix3 0 r l) = att p x3 x4 x5 h (n + 768) r l := by
  rw [pay130_apply, att_add, H, pay125_sum M t0 t1 vt r l (fun j => msc p x3 x4 h r (n + j)) (fun j => at4 x5 h (n + j) l) (h0 r) (h1 r) (fun j => hv j l), hM]
theorem one_sum {a : Vec Ideal S1x384x128 .f32} (H : ∀ r l, a (ix3 0 r l) = att p x3 x4 x5 h n r l) {t0 : Vec Ideal S1x1x384x384 .f32} {vt : Vec Ideal S1x1x384x128 .bf16}
    (h0 : ∀ r c : Fin 384, t0 (ix4 0 0 r c) = msc p x3 x4 h r (n + c.val))
    (hv : ∀ c d, vt (ix4 0 0 c d) = at4 x5 h (n + c.val) d) (r : Fin 384) (l : Fin 128) :
    k0_pay139 (F := Ideal) (k0_pay134 (F := Ideal) M t0 vt) a (ix3 0 r l) = att p x3 x4 x5 h (n + 384) r l := by
  rw [pay139_apply, att_add, H, pay134_sum M t0 vt r l (fun j => msc p x3 x4 h r (n + j)) (fun j => at4 x5 h (n + j) l) (h0 r) (fun j => hv j l), hM]

end Sums

/-- The two stores of a block's result, from four heads' full sums. -/
theorem out_read (p : ℕ) (x3 : FVec Ideal S1x4x384x128 .bf16) (x4 x5 : FVec Ideal S1x4x4224x128 .bf16) (v : View sig .tc .vmem S1x384x256 .bf16) (f : v.ty.Contents (Elt Ideal)) (a : St4 Ideal)
    (h0 : ∀ r l, a.1 (ix3 0 r l) = att p x3 x4 x5 0 (384 * (p + 1)) r l) (h1 : ∀ r l, a.2.1 (ix3 0 r l) = att p x3 x4 x5 1 (384 * (p + 1)) r l)
    (h2 : ∀ r l, a.2.2.1 (ix3 0 r l) = att p x3 x4 x5 2 (384 * (p + 1)) r l) (h3 : ∀ r l, a.2.2.2 (ix3 0 r l) = att p x3 x4 x5 3 (384 * (p + 1)) r l) :
    v.read (Elt Ideal) (v.writes (Elt Ideal) f (outPieces a)) = outB p x3 x4 x5 := by
  funext y
  obtain ⟨z, r, c, rfl⟩ : ∃ (z : Fin 1) (r : Fin 384) (c : Fin 256), y = ix3 z r c := ⟨y 0, y 1, y 2, eq_ix3 y⟩
  obtain rfl : z = 0 := Subsingleton.elim _ _
  have hc := c.isLt
  have key : ∀ (hd : Fin 4) (l : Fin 128) (s : Vec Ideal S1x384x128 .f32), (∀ r l, s (ix3 0 r l) = att p x3 x4 x5 hd (384 * (p + 1)) r l) → c.val / 64 = hd.val → c.val % 128 = l.val →
      Ideal.div (s (ix3 0 r l)) (s (ix3 0 r ⟨(l.val + 64) % 128, Nat.mod_lt _ (by decide)⟩)) = outB p x3 x4 x5 (ix3 0 r c) := by
    intro hd l s hs e1 e2
    rw [hs, hs]
    have a1 : (⟨c.val / 64, by omega⟩ : Fin 4) = hd := Fin.ext e1
    have a2 : (⟨c.val % 128, Nat.mod_lt _ (by decide)⟩ : Fin 128) = l := Fin.ext e2
    have a3 : (⟨(c.val % 128 + 64) % 128, Nat.mod_lt _ (by decide)⟩ : Fin 128) = ⟨(l.val + 64) % 128, Nat.mod_lt _ (by decide)⟩ := Fin.ext (by show (c.val % 128 + 64) % 128 = (l.val + 64) % 128; rw [e2])
    show _ = Ideal.div (att p x3 x4 x5 ⟨c.val / 64, by omega⟩ (384 * (p + 1)) r ⟨c.val % 128, Nat.mod_lt _ (by decide)⟩) (att p x3 x4 x5 ⟨c.val / 64, by omega⟩ (384 * (p + 1)) r ⟨(c.val % 128 + 64) % 128, Nat.mod_lt _ (by decide)⟩)
    rw [a1, a2, a3]
  unfold outPieces
  by_cases hi : 128 ≤ c.val
  · rw [View.read_writes_cons_unit_of_mem (size := S1x384x128.size) (off' := ![0, 0, 128]) v f _ _ _ (ix3 0 r c) (ix3 0 r (⟨c.val - 128, by omega⟩ : Fin 128)) rfl (fun a => ?_), pay188_apply]
    · by_cases hl : c.val - 128 < 64
      · rw [if_pos hl]; exact key 2 _ _ h2 (by show c.val / 64 = 2; omega) (by show c.val % 128 = c.val - 128; omega)
      · rw [if_neg hl]; exact key 3 _ _ h3 (by show c.val / 64 = 3; omega) (by show c.val % 128 = c.val - 128; omega)
    · match a with
      | 0 => rfl
      | 1 => show r.val = 0 + r.val; omega
      | 2 => show c.val = 128 + (c.val - 128); omega
  · rw [View.read_writes_cons_unit_of_not_mem (size := S1x384x128.size) (off' := ![0, 0, 128]) v f _ _ _ (ix3 0 r c) rfl 2 (Or.inl (by show c.val < 128; omega)),
      View.read_writes_cons_unit_of_mem (size := S1x384x128.size) (off' := ![0, 0, 0]) v f _ _ _ (ix3 0 r c) (ix3 0 r (⟨c.val, by omega⟩ : Fin 128)) rfl (fun a => ?_), pay188_apply]
    · by_cases hl : c.val < 64
      · rw [if_pos hl]; exact key 0 _ _ h0 (by show c.val / 64 = 0; omega) (by show c.val % 128 = c.val; omega)
      · rw [if_neg hl]; exact key 1 _ _ h1 (by show c.val / 64 = 1; omega) (by show c.val % 128 = c.val; omega)
    · match a with
      | 0 => rfl
      | 1 => show r.val = 0 + r.val; omega
      | 2 => show c.val = 0 + c.val; omega

end Cert.Proof.Attn
end
-- ==== Proof.AttnBlock.lean ====
/-
  A block of the attention from beginning to end, over the extended reals: the loops and the branches of the body, in each
  of the four residues of the block's index, leave every head's scores in the score buffer, the rows' maxima in the
  carried maxima and the rows' sums in the carried sums, so that the two stores leave the block's result.
-/
module

public import proofs.«01_k».proof.Proof.AttnValue

@[expose] public section

set_option maxHeartbeats 1000000

noncomputable section

namespace Cert.Proof.Attn

open Idealize.ShloMosaic Idealize.SL.Sem Cert.Kernel3Ideal Cert.Kernel3Ideal.Gen

theorem trips1 : ∀ i : grid0.Coords, (k0_t1_loop i).trips = (i 2).val / 4 := by decide +kernel
theorem trips3 : ∀ i : grid0.Coords, (k0_t3_loop i).trips = ((i 2).val + 1) / 4 := by decide +kernel

/-- Four heads' carried maxima. -/
def Max4A (p : ℕ) (x3 : FVec Ideal S1x4x384x128 .bf16) (x4 : FVec Ideal S1x4x4224x128 .bf16) (n : ℕ) (a : Acc4 Ideal) : Prop :=
  MaxA p x3 x4 0 n a.1 ∧ MaxA p x3 x4 1 n a.2.1 ∧ MaxA p x3 x4 2 n a.2.2.1 ∧ MaxA p x3 x4 3 n a.2.2.2
@[inherit_doc Max4A] def Max4S (p : ℕ) (x3 : FVec Ideal S1x4x384x128 .bf16) (x4 : FVec Ideal S1x4x4224x128 .bf16) (n : ℕ) (a : St4 Ideal) : Prop :=
  MaxS p x3 x4 0 n a.1 ∧ MaxS p x3 x4 1 n a.2.1 ∧ MaxS p x3 x4 2 n a.2.2.1 ∧ MaxS p x3 x4 3 n a.2.2.2
/-- Four heads' carried sums. -/
def Sum4A (p : ℕ) (x3 : FVec Ideal S1x4x384x128 .bf16) (x4 x5 : FVec Ideal S1x4x4224x128 .bf16) (n : ℕ) (a : Acc4 Ideal) : Prop :=
  (∀ r l, a.1 (ix2 r l) = att p x3 x4 x5 0 n r l) ∧ (∀ r l, a.2.1 (ix2 r l) = att p x3 x4 x5 1 n r l) ∧ (∀ r l, a.2.2.1 (ix2 r l) = att p x3 x4 x5 2 n r l) ∧ (∀ r l, a.2.2.2 (ix2 r l) = att p x3 x4 x5 3 n r l)
@[inherit_doc Sum4A] def Sum4S (p : ℕ) (x3 : FVec Ideal S1x4x384x128 .bf16) (x4 x5 : FVec Ideal S1x4x4224x128 .bf16) (n : ℕ) (a : St4 Ideal) : Prop :=
  (∀ r l, a.1 (ix3 0 r l) = att p x3 x4 x5 0 n r l) ∧ (∀ r l, a.2.1 (ix3 0 r l) = att p x3 x4 x5 1 n r l) ∧ (∀ r l, a.2.2.1 (ix3 0 r l) = att p x3 x4 x5 2 n r l) ∧ (∀ r l, a.2.2.2 (ix3 0 r l) = att p x3 x4 x5 3 n r l)

theorem Max4A.stored {p : ℕ} {x3 : FVec Ideal S1x4x384x128 .bf16} {x4 : FVec Ideal S1x4x4224x128 .bf16} {n : ℕ} {a : Acc4 Ideal} (H : Max4A p x3 x4 n a) : Max4S p x3 x4 n (stored a) :=
  ⟨H.1.toS, H.2.1.toS, H.2.2.1.toS, H.2.2.2.toS⟩
theorem Sum4A.stored {p : ℕ} {x3 : FVec Ideal S1x4x384x128 .bf16} {x4 x5 : FVec Ideal S1x4x4224x128 .bf16} {n : ℕ} {a : Acc4 Ideal} (H : Sum4A p x3 x4 x5 n a) : Sum4S p x3 x4 x5 n (stored a) :=
  ⟨fun r l => (stored_apply _ r l).trans (H.1 r l), fun r l => (stored_apply _ r l).trans (H.2.1 r l), fun r l => (stored_apply _ r l).trans (H.2.2.1 r l), fun r l => (stored_apply _ r l).trans (H.2.2.2 r l)⟩

section Tile
variable {p : ℕ} {x3 : FVec Ideal S1x4x384x128 .bf16} {x4 : FVec Ideal S1x4x4224x128 .bf16} {h : Fin 4} {n : ℕ}
  {q : Vec Ideal S1x1x384x128 .bf16} (hq : ∀ r d, q (ix4 0 0 r d) = x3 (ix4 0 h r d))
include hq

theorem tileW0_sc {kt : Vec Ideal S1x1x1536x128 .bf16} (hk : ∀ c d, kt (ix4 0 0 c d) = at4 x4 h (n + c.val) d) (hn : n + 1536 ≤ 384 * p) (t : ℕ) (ht : n + 0 = 384 * t) (r c : Fin 384) :
    tileW0 (F := Ideal) (quad (F := Ideal) q kt) (ix4 0 0 r c) = msc p x3 x4 h r (384 * t + c.val) := by
  rw [tileW0_apply, quad_sc hq hk hn]
  congr 1
  show n + (0 + c.val) = _
  omega
theorem tileW1_sc {kt : Vec Ideal S1x1x1536x128 .bf16} (hk : ∀ c d, kt (ix4 0 0 c d) = at4 x4 h (n + c.val) d) (hn : n + 1536 ≤ 384 * p) (t : ℕ) (ht : n + 384 = 384 * t) (r c : Fin 384) :
    tileW1 (F := Ideal) (quad (F := Ideal) q kt) (ix4 0 0 r c) = msc p x3 x4 h r (384 * t + c.val) := by
  rw [tileW1_apply, quad_sc hq hk hn]
  congr 1
  show n + (384 + c.val) = _
  omega
theorem tileW2_sc {kt : Vec Ideal S1x1x1536x128 .bf16} (hk : ∀ c d, kt (ix4 0 0 c d) = at4 x4 h (n + c.val) d) (hn : n + 1536 ≤ 384 * p) (t : ℕ) (ht : n + 768 = 384 * t) (r c : Fin 384) :
    tileW2 (F := Ideal) (quad (F := Ideal) q kt) (ix4 0 0 r c) = msc p x3 x4 h r (384 * t + c.val) := by
  rw [tileW2_apply, quad_sc hq hk hn]
  congr 1
  show n + (768 + c.val) = _
  omega
theorem tileW3_sc {kt : Vec Ideal S1x1x1536x128 .bf16} (hk : ∀ c d, kt (ix4 0 0 c d) = at4 x4 h (n + c.val) d) (hn : n + 1536 ≤ 384 * p) (t : ℕ) (ht : n + 1152 = 384 * t) (r c : Fin 384) :
    tileW3 (F := Ideal) (quad (F := Ideal) q kt) (ix4 0 0 r c) = msc p x3 x4 h r (384 * t + c.val) := by
  rw [tileW3_apply, quad_sc hq hk hn]
  congr 1
  show n + (1152 + c.val) = _
  omega

end Tile

section Block
variable (i : grid0.Coords) (arg3 : Memref sig .tc .vmem S1x4x384x128 .bf16) (arg4 arg5 : Memref sig .tc .vmem S1x4x4224x128 .bf16) (arg7 : Memref sig .tc .vmem S4x11x384x384 .f32)
  (X3 : BufTy.Contents (Elt Ideal) arg3.view.ty) (X4 : BufTy.Contents (Elt Ideal) arg4.view.ty) (X5 : BufTy.Contents (Elt Ideal) arg5.view.ty)

theorem hq0 (r : Fin 384) (d : Fin 128) : qAt0 (F := Ideal) arg3 X3 (ix4 0 0 r d) = arg3.view.read (Elt Ideal) X3 (ix4 0 0 r d) := ldq arg3.view X3 _ 0 rfl r d
theorem hq1 (r : Fin 384) (d : Fin 128) : qAt1 (F := Ideal) arg3 X3 (ix4 0 0 r d) = arg3.view.read (Elt Ideal) X3 (ix4 0 1 r d) := ldq arg3.view X3 _ 1 rfl r d
theorem hq2 (r : Fin 384) (d : Fin 128) : qAt2 (F := Ideal) arg3 X3 (ix4 0 0 r d) = arg3.view.read (Elt Ideal) X3 (ix4 0 2 r d) := ldq arg3.view X3 _ 2 rfl r d
theorem hq3 (r : Fin 384) (d : Fin 128) : qAt3 (F := Ideal) arg3 X3 (ix4 0 0 r d) = arg3.view.read (Elt Ideal) X3 (ix4 0 3 r d) := ldq arg3.view X3 _ 3 rfl r d

/-- The first loop carries the maxima of the four tiles a trip handles. -/
theorem t1A_max (k : ℕ) (hk : k ≤ (k0_t1_loop i).trips) : Max4A (i 2).val (arg3.view.read (Elt Ideal) X3) (arg4.view.read (Elt Ideal) X4) (1536 * k) (t1A (F := Ideal) i arg4 (qAt0 arg3 X3) (qAt1 arg3 X3) (qAt2 arg3 X3) (qAt3 arg3 X3) X4 bot4 k) := by
  induction k with
  | zero => exact ⟨MaxA.init pay145_apply, MaxA.init pay146_apply, MaxA.init pay147_apply, MaxA.init pay148_apply⟩
  | succ k ih =>
    have ih := ih (by omega)
    have hb : 1536 * k + 1536 ≤ 384 * (i 2).val := by rw [trips1] at hk; omega
    rw [show t1A (F := Ideal) i arg4 (qAt0 arg3 X3) (qAt1 arg3 X3) (qAt2 arg3 X3) (qAt3 arg3 X3) X4 bot4 (k + 1) = _ from t1A_succ i arg4 (qAt0 arg3 X3) (qAt1 arg3 X3) (qAt2 arg3 X3) (qAt3 arg3 X3) X4 bot4 ⟨k, hk⟩]
    unfold t1Yield
    rw [show 1536 * (k + 1) = 1536 * k + 1536 from by omega]
    exact ⟨MaxA.quad (hq0 arg3 X3) ih.1 (fun c d => ld1536 arg4.view X4 _ 0 _ (off1 i ⟨k, hk⟩) c d) hb,
      MaxA.quad (hq1 arg3 X3) ih.2.1 (fun c d => ld1536 arg4.view X4 _ 1 _ (off3 i ⟨k, hk⟩) c d) hb,
      MaxA.quad (hq2 arg3 X3) ih.2.2.1 (fun c d => ld1536 arg4.view X4 _ 2 _ (off5 i ⟨k, hk⟩) c d) hb,
      MaxA.quad (hq3 arg3 X3) ih.2.2.2 (fun c d => ld1536 arg4.view X4 _ 3 _ (off7 i ⟨k, hk⟩) c d) hb⟩

/-- The first loop leaves the scores of the tiles it handled. -/
theorem t1C_good (f7 : BufTy.Contents (Elt Ideal) arg7.view.ty) (k : ℕ) (hk : k ≤ (k0_t1_loop i).trips) :
    Good (i 2).val (arg3.view.read (Elt Ideal) X3) (arg4.view.read (Elt Ideal) X4) arg7.view (t1C (F := Ideal) i arg4 arg7 (qAt0 arg3 X3) (qAt1 arg3 X3) (qAt2 arg3 X3) (qAt3 arg3 X3) X4 f7 k) (fun _ b => b < 4 * k) := by
  induction k with
  | zero => intro h t r c hP; exact absurd hP (by omega)
  | succ k ih =>
    have ih := ih (by omega)
    have hb : 1536 * k + 1536 ≤ 384 * (i 2).val := by rw [trips1] at hk; omega
    rw [show t1C (F := Ideal) i arg4 arg7 (qAt0 arg3 X3) (qAt1 arg3 X3) (qAt2 arg3 X3) (qAt3 arg3 X3) X4 f7 (k + 1) = _ from t1C_succ i arg4 arg7 (qAt0 arg3 X3) (qAt1 arg3 X3) (qAt2 arg3 X3) (qAt3 arg3 X3) X4 f7 ⟨k, hk⟩]
    unfold t1Pieces
    refine Good.cons 3 (4 * k + 3) (off8 i ⟨k, hk⟩ 3) (tileW3_sc (hq3 arg3 X3) (fun c d => ld1536 arg4.view X4 _ 3 _ (off7 i ⟨k, hk⟩) c d) hb _ (show 1536 * k + 1152 = 384 * (4 * k + 3) from by omega)) ?_
    refine Good.cons 3 (4 * k + 2) (off8 i ⟨k, hk⟩ 2) (tileW2_sc (hq3 arg3 X3) (fun c d => ld1536 arg4.view X4 _ 3 _ (off7 i ⟨k, hk⟩) c d) hb _ (show 1536 * k + 768 = 384 * (4 * k + 2) from by omega)) ?_
    refine Good.cons 3 (4 * k + 1) (off8 i ⟨k, hk⟩ 1) (tileW1_sc (hq3 arg3 X3) (fun c d => ld1536 arg4.view X4 _ 3 _ (off7 i ⟨k, hk⟩) c d) hb _ (show 1536 * k + 384 = 384 * (4 * k + 1) from by omega)) ?_
    refine Good.cons 3 (4 * k + 0) (off8 i ⟨k, hk⟩ 0) (tileW0_sc (hq3 arg3 X3) (fun c d => ld1536 arg4.view X4 _ 3 _ (off7 i ⟨k, hk⟩) c d) hb _ (show 1536 * k + 0 = 384 * (4 * k + 0) from by omega)) ?_
    refine Good.cons 2 (4 * k + 3) (off6 i ⟨k, hk⟩ 3) (tileW3_sc (hq2 arg3 X3) (fun c d => ld1536 arg4.view X4 _ 2 _ (off5 i ⟨k, hk⟩) c d) hb _ (show 1536 * k + 1152 = 384 * (4 * k + 3) from by omega)) ?_
    refine Good.cons 2 (4 * k + 2) (off6 i ⟨k, hk⟩ 2) (tileW2_sc (hq2 arg3 X3) (fun c d => ld1536 arg4.view X4 _ 2 _ (off5 i ⟨k, hk⟩) c d) hb _ (show 1536 * k + 768 = 384 * (4 * k + 2) from by omega)) ?_
    refine Good.cons 2 (4 * k + 1) (off6 i ⟨k, hk⟩ 1) (tileW1_sc (hq2 arg3 X3) (fun c d => ld1536 arg4.view X4 _ 2 _ (off5 i ⟨k, hk⟩) c d) hb _ (show 1536 * k + 384 = 384 * (4 * k + 1) from by omega)) ?_
    refine Good.cons 2 (4 * k + 0) (off6 i ⟨k, hk⟩ 0) (tileW0_sc (hq2 arg3 X3) (fun c d => ld1536 arg4.view X4 _ 2 _ (off5 i ⟨k, hk⟩) c d) hb _ (show 1536 * k + 0 = 384 * (4 * k + 0) from by omega)) ?_
    refine Good.cons 1 (4 * k + 3) (off4 i ⟨k, hk⟩ 3) (tileW3_sc (hq1 arg3 X3) (fun c d => ld1536 arg4.view X4 _ 1 _ (off3 i ⟨k, hk⟩) c d) hb _ (show 1536 * k + 1152 = 384 * (4 * k + 3) from by omega)) ?_
    refine Good.cons 1 (4 * k + 2) (off4 i ⟨k, hk⟩ 2) (tileW2_sc (hq1 arg3 X3) (fun c d => ld1536 arg4.view X4 _ 1 _ (off3 i ⟨k, hk⟩) c d) hb _ (show 1536 * k + 768 = 384 * (4 * k + 2) from by omega)) ?_
    refine Good.cons 1 (4 * k + 1) (off4 i ⟨k, hk⟩ 1) (tileW1_sc (hq1 arg3 X3) (fun c d => ld1536 arg4.view X4 _ 1 _ (off3 i ⟨k, hk⟩) c d) hb _ (show 1536 * k + 384 = 384 * (4 * k + 1) from by omega)) ?_
    refine Good.cons 1 (4 * k + 0) (off4 i ⟨k, hk⟩ 0) (tileW0_sc (hq1 arg3 X3) (fun c d => ld1536 arg4.view X4 _ 1 _ (off3 i ⟨k, hk⟩) c d) hb _ (show 1536 * k + 0 = 384 * (4 * k + 0) from by omega)) ?_
    refine Good.cons 0 (4 * k + 3) (off2 i ⟨k, hk⟩ 3) (tileW3_sc (hq0 arg3 X3) (fun c d => ld1536 arg4.view X4 _ 0 _ (off1 i ⟨k, hk⟩) c d) hb _ (show 1536 * k + 1152 = 384 * (4 * k + 3) from by omega)) ?_
    refine Good.cons 0 (4 * k + 2) (off2 i ⟨k, hk⟩ 2) (tileW2_sc (hq0 arg3 X3) (fun c d => ld1536 arg4.view X4 _ 0 _ (off1 i ⟨k, hk⟩) c d) hb _ (show 1536 * k + 768 = 384 * (4 * k + 2) from by omega)) ?_
    refine Good.cons 0 (4 * k + 1) (off2 i ⟨k, hk⟩ 1) (tileW1_sc (hq0 arg3 X3) (fun c d => ld1536 arg4.view X4 _ 0 _ (off1 i ⟨k, hk⟩) c d) hb _ (show 1536 * k + 384 = 384 * (4 * k + 1) from by omega)) ?_
    refine Good.cons 0 (4 * k + 0) (off2 i ⟨k, hk⟩ 0) (tileW0_sc (hq0 arg3 X3) (fun c d => ld1536 arg4.view X4 _ 0 _ (off1 i ⟨k, hk⟩) c d) hb _ (show 1536 * k + 0 = 384 * (4 * k + 0) from by omega)) ?_
    refine Good.mono ih fun a b ha hb h => ?_
    have e0 : ((0 : Fin 4)).val = 0 := rfl
    have e1 : ((1 : Fin 4)).val = 1 := rfl
    have e2 : ((2 : Fin 4)).val = 2 := rfl
    have e3 : ((3 : Fin 4)).val = 3 := rfl
    rw [e0, e1, e2, e3] at h
    interval_cases a <;> omega

/-- The two tiles of a block whose count has the second bit. -/
theorem bPieces_good (h1 : k0_cond1 i = 1#1) (hm : 2 ≤ (i 2).val % 4) (f7 : BufTy.Contents (Elt Ideal) arg7.view.ty) (P : ℕ → ℕ → Prop)
    (H : Good (i 2).val (arg3.view.read (Elt Ideal) X3) (arg4.view.read (Elt Ideal) X4) arg7.view f7 (fun a b => P a b ∧ b ≠ 4 * ((i 2).val / 4) ∧ b ≠ 4 * ((i 2).val / 4) + 1)) :
    Good (i 2).val (arg3.view.read (Elt Ideal) X3) (arg4.view.read (Elt Ideal) X4) arg7.view (arg7.view.writes (Elt Ideal) f7 (bPieces i arg4 h1 (qAt0 arg3 X3) (qAt1 arg3 X3) (qAt2 arg3 X3) (qAt3 arg3 X3) X4)) P := by
  unfold bPieces
  refine Good.cons 3 (4 * ((i 2).val / 4) + 1) (off24 i 1) (fun r c => (dHi_sc (hq3 arg3 X3) (fun c d => ld768 arg4.view X4 _ 3 _ (off23 i) c d) (show 1536 * ((i 2).val / 4) + 768 ≤ 384 * (i 2).val from by omega) r c).trans (congrArg _ (by omega))) ?_
  refine Good.cons 3 (4 * ((i 2).val / 4) + 0) (off24 i 0) (fun r c => (dLo_sc (hq3 arg3 X3) (fun c d => ld768 arg4.view X4 _ 3 _ (off23 i) c d) (show 1536 * ((i 2).val / 4) + 768 ≤ 384 * (i 2).val from by omega) r c).trans (congrArg _ (by omega))) ?_
  refine Good.cons 2 (4 * ((i 2).val / 4) + 1) (off22 i 1) (fun r c => (dHi_sc (hq2 arg3 X3) (fun c d => ld768 arg4.view X4 _ 2 _ (off21 i) c d) (show 1536 * ((i 2).val / 4) + 768 ≤ 384 * (i 2).val from by omega) r c).trans (congrArg _ (by omega))) ?_
  refine Good.cons 2 (4 * ((i 2).val / 4) + 0) (off22 i 0) (fun r c => (dLo_sc (hq2 arg3 X3) (fun c d => ld768 arg4.view X4 _ 2 _ (off21 i) c d) (show 1536 * ((i 2).val / 4) + 768 ≤ 384 * (i 2).val from by omega) r c).trans (congrArg _ (by omega))) ?_
  refine Good.cons 1 (4 * ((i 2).val / 4) + 1) (off20 i 1) (fun r c => (dHi_sc (hq1 arg3 X3) (fun c d => ld768 arg4.view X4 _ 1 _ (off19 i) c d) (show 1536 * ((i 2).val / 4) + 768 ≤ 384 * (i 2).val from by omega) r c).trans (congrArg _ (by omega))) ?_
  refine Good.cons 1 (4 * ((i 2).val / 4) + 0) (off20 i 0) (fun r c => (dLo_sc (hq1 arg3 X3) (fun c d => ld768 arg4.view X4 _ 1 _ (off19 i) c d) (show 1536 * ((i 2).val / 4) + 768 ≤ 384 * (i 2).val from by omega) r c).trans (congrArg _ (by omega))) ?_
  refine Good.cons 0 (4 * ((i 2).val / 4) + 1) (off18 i 1) (fun r c => (dHi_sc (hq0 arg3 X3) (fun c d => ld768 arg4.view X4 _ 0 _ (off17 i) c d) (show 1536 * ((i 2).val / 4) + 768 ≤ 384 * (i 2).val from by omega) r c).trans (congrArg _ (by omega))) ?_
  refine Good.cons 0 (4 * ((i 2).val / 4) + 0) (off18 i 0) (fun r c => (dLo_sc (hq0 arg3 X3) (fun c d => ld768 arg4.view X4 _ 0 _ (off17 i) c d) (show 1536 * ((i 2).val / 4) + 768 ≤ 384 * (i 2).val from by omega) r c).trans (congrArg _ (by omega))) ?_
  refine Good.mono H fun a b ha hb h => ?_
  have e0 : ((0 : Fin 4)).val = 0 := rfl
  have e1 : ((1 : Fin 4)).val = 1 := rfl
  have e2 : ((2 : Fin 4)).val = 2 := rfl
  have e3 : ((3 : Fin 4)).val = 3 := rfl
  rw [e0, e1, e2, e3] at h
  refine ⟨h.1.1.1.1.1.1.1.1, ?_⟩
  clear H
  interval_cases a <;> omega

theorem bMax_max (h1 : k0_cond1 i = 1#1) (hm : 2 ≤ (i 2).val % 4) {m : St4 Ideal} (H : Max4S (i 2).val (arg3.view.read (Elt Ideal) X3) (arg4.view.read (Elt Ideal) X4) (1536 * ((i 2).val / 4)) m) :
    Max4S (i 2).val (arg3.view.read (Elt Ideal) X3) (arg4.view.read (Elt Ideal) X4) (1536 * ((i 2).val / 4) + 768) (bMax i arg4 h1 (qAt0 arg3 X3) (qAt1 arg3 X3) (qAt2 arg3 X3) (qAt3 arg3 X3) m X4) := by
  have hb : 1536 * ((i 2).val / 4) + 768 ≤ 384 * (i 2).val := by omega
  unfold bMax
  exact ⟨MaxS.d (hq0 arg3 X3) H.1 (fun c d => ld768 arg4.view X4 _ 0 _ (off17 i) c d) hb,
    MaxS.d (hq1 arg3 X3) H.2.1 (fun c d => ld768 arg4.view X4 _ 1 _ (off19 i) c d) hb,
    MaxS.d (hq2 arg3 X3) H.2.2.1 (fun c d => ld768 arg4.view X4 _ 2 _ (off21 i) c d) hb,
    MaxS.d (hq3 arg3 X3) H.2.2.2 (fun c d => ld768 arg4.view X4 _ 3 _ (off23 i) c d) hb⟩

/-- The last two tiles of an odd block. -/
theorem oPieces_good (h2 : k0_cond2 i = 1#1) (hm : (i 2).val % 2 = 1) (f7 : BufTy.Contents (Elt Ideal) arg7.view.ty) (L : List (View.Piece (Elt Ideal) S4x11x384x384 .f32)) (P : ℕ → ℕ → Prop)
    (H : Good (i 2).val (arg3.view.read (Elt Ideal) X3) (arg4.view.read (Elt Ideal) X4) arg7.view (arg7.view.writes (Elt Ideal) f7 L) (fun a b => P a b ∧ b ≠ (i 2).val - 1 ∧ b ≠ (i 2).val)) :
    Good (i 2).val (arg3.view.read (Elt Ideal) X3) (arg4.view.read (Elt Ideal) X4) arg7.view (arg7.view.writes (Elt Ideal) f7 (oPieces i arg4 h2 (qAt0 arg3 X3) (qAt1 arg3 X3) (qAt2 arg3 X3) (qAt3 arg3 X3) X4 ++ L)) P := by
  have hi : (i 2).val < 11 := (i 2).isLt
  have a1 : ((i 2).val + 4294967295) % 4294967296 = (i 2).val - 1 := by omega
  have a2 : (((i 2).val + 4294967295) % 4294967296 * 384) % 4294967296 = 384 * ((i 2).val - 1) := by omega
  unfold oPieces
  refine Good.cons 3 (i 2).val (off36 i) (fun r c => (oHi_sc (hq3 arg3 X3) (fun c d => ld768 arg4.view X4 _ 3 (384 * ((i 2).val - 1)) ((off34 i).trans (by rw [a2]; rfl)) c d) (show 384 * ((i 2).val - 1) + 384 = 384 * (i 2).val from by omega) r c).trans (congrArg _ (by omega))) ?_
  refine Good.cons 3 ((i 2).val - 1) ((off35 i).trans (by rw [a1]; rfl)) (fun r c => (oLo_sc (hq3 arg3 X3) (fun c d => ld768 arg4.view X4 _ 3 (384 * ((i 2).val - 1)) ((off34 i).trans (by rw [a2]; rfl)) c d) (show 384 * ((i 2).val - 1) + 384 = 384 * (i 2).val from by omega) r c).trans (congrArg _ (by omega))) ?_
  refine Good.cons 2 (i 2).val (off33 i) (fun r c => (oHi_sc (hq2 arg3 X3) (fun c d => ld768 arg4.view X4 _ 2 (384 * ((i 2).val - 1)) ((off31 i).trans (by rw [a2]; rfl)) c d) (show 384 * ((i 2).val - 1) + 384 = 384 * (i 2).val from by omega) r c).trans (congrArg _ (by omega))) ?_
  refine Good.cons 2 ((i 2).val - 1) ((off32 i).trans (by rw [a1]; rfl)) (fun r c => (oLo_sc (hq2 arg3 X3) (fun c d => ld768 arg4.view X4 _ 2 (384 * ((i 2).val - 1)) ((off31 i).trans (by rw [a2]; rfl)) c d) (show 384 * ((i 2).val - 1) + 384 = 384 * (i 2).val from by omega) r c).trans (congrArg _ (by omega))) ?_
  refine Good.cons 1 (i 2).val (off30 i) (fun r c => (oHi_sc (hq1 arg3 X3) (fun c d => ld768 arg4.view X4 _ 1 (384 * ((i 2).val - 1)) ((off28 i).trans (by rw [a2]; rfl)) c d) (show 384 * ((i 2).val - 1) + 384 = 384 * (i 2).val from by omega) r c).trans (congrArg _ (by omega))) ?_
  refine Good.cons 1 ((i 2).val - 1) ((off29 i).trans (by rw [a1]; rfl)) (fun r c => (oLo_sc (hq1 arg3 X3) (fun c d => ld768 arg4.view X4 _ 1 (384 * ((i 2).val - 1)) ((off28 i).trans (by rw [a2]; rfl)) c d) (show 384 * ((i 2).val - 1) + 384 = 384 * (i 2).val from by omega) r c).trans (congrArg _ (by omega))) ?_
  refine Good.cons 0 (i 2).val (off27 i) (fun r c => (oHi_sc (hq0 arg3 X3) (fun c d => ld768 arg4.view X4 _ 0 (384 * ((i 2).val - 1)) ((off25 i).trans (by rw [a2]; rfl)) c d) (show 384 * ((i 2).val - 1) + 384 = 384 * (i 2).val from by omega) r c).trans (congrArg _ (by omega))) ?_
  refine Good.cons 0 ((i 2).val - 1) ((off26 i).trans (by rw [a1]; rfl)) (fun r c => (oLo_sc (hq0 arg3 X3) (fun c d => ld768 arg4.view X4 _ 0 (384 * ((i 2).val - 1)) ((off25 i).trans (by rw [a2]; rfl)) c d) (show 384 * ((i 2).val - 1) + 384 = 384 * (i 2).val from by omega) r c).trans (congrArg _ (by omega))) ?_
  refine Good.mono H fun a b ha hb h => ?_
  have e0 : ((0 : Fin 4)).val = 0 := rfl
  have e1 : ((1 : Fin 4)).val = 1 := rfl
  have e2 : ((2 : Fin 4)).val = 2 := rfl
  have e3 : ((3 : Fin 4)).val = 3 := rfl
  rw [e0, e1, e2, e3] at h
  refine ⟨h.1.1.1.1.1.1.1.1, ?_⟩
  clear H
  interval_cases a <;> omega

theorem oMaxs_max (h2 : k0_cond2 i = 1#1) (hm : (i 2).val % 2 = 1) {m : St4 Ideal} (H : Max4S (i 2).val (arg3.view.read (Elt Ideal) X3) (arg4.view.read (Elt Ideal) X4) (384 * ((i 2).val - 1)) m) :
    Max4S (i 2).val (arg3.view.read (Elt Ideal) X3) (arg4.view.read (Elt Ideal) X4) (384 * ((i 2).val + 1)) (oMaxs i arg4 h2 (qAt0 arg3 X3) (qAt1 arg3 X3) (qAt2 arg3 X3) (qAt3 arg3 X3) m X4) := by
  have hi : (i 2).val < 11 := (i 2).isLt
  have hb : 384 * ((i 2).val - 1) + 384 = 384 * (i 2).val := by clear H; omega
  have hc : 384 * ((i 2).val - 1) + 768 = 384 * ((i 2).val + 1) := by clear H; omega
  have a2 : (((i 2).val + 4294967295) % 4294967296 * 384) % 4294967296 = 384 * ((i 2).val - 1) := by clear H hb hc; omega
  revert hc
  generalize 384 * ((i 2).val + 1) = N
  intro hc
  subst hc
  unfold oMaxs
  exact ⟨MaxS.o (hq0 arg3 X3) H.1 (fun c d => ld768 arg4.view X4 _ 0 (384 * ((i 2).val - 1)) ((off25 i).trans (by rw [a2]; rfl)) c d) hb,
    MaxS.o (hq1 arg3 X3) H.2.1 (fun c d => ld768 arg4.view X4 _ 1 (384 * ((i 2).val - 1)) ((off28 i).trans (by rw [a2]; rfl)) c d) hb,
    MaxS.o (hq2 arg3 X3) H.2.2.1 (fun c d => ld768 arg4.view X4 _ 2 (384 * ((i 2).val - 1)) ((off31 i).trans (by rw [a2]; rfl)) c d) hb,
    MaxS.o (hq3 arg3 X3) H.2.2.2 (fun c d => ld768 arg4.view X4 _ 3 (384 * ((i 2).val - 1)) ((off34 i).trans (by rw [a2]; rfl)) c d) hb⟩

/-- The last tile of an even block. -/
theorem ePieces_good (h3 : k0_cond3 i = 1#1) (f7 : BufTy.Contents (Elt Ideal) arg7.view.ty) (L : List (View.Piece (Elt Ideal) S4x11x384x384 .f32)) (P : ℕ → ℕ → Prop)
    (H : Good (i 2).val (arg3.view.read (Elt Ideal) X3) (arg4.view.read (Elt Ideal) X4) arg7.view (arg7.view.writes (Elt Ideal) f7 L) (fun a b => P a b ∧ b ≠ (i 2).val)) :
    Good (i 2).val (arg3.view.read (Elt Ideal) X3) (arg4.view.read (Elt Ideal) X4) arg7.view (arg7.view.writes (Elt Ideal) f7 (ePieces i arg4 h3 (qAt0 arg3 X3) (qAt1 arg3 X3) (qAt2 arg3 X3) (qAt3 arg3 X3) X4 ++ L)) P := by
  unfold ePieces
  refine Good.cons 3 (i 2).val (off44 i) (eTile_sc (hq3 arg3 X3) (fun c d => ld384 arg4.view X4 _ 3 _ (off43 i) c d) rfl) ?_
  refine Good.cons 2 (i 2).val (off42 i) (eTile_sc (hq2 arg3 X3) (fun c d => ld384 arg4.view X4 _ 2 _ (off41 i) c d) rfl) ?_
  refine Good.cons 1 (i 2).val (off40 i) (eTile_sc (hq1 arg3 X3) (fun c d => ld384 arg4.view X4 _ 1 _ (off39 i) c d) rfl) ?_
  refine Good.cons 0 (i 2).val (off38 i) (eTile_sc (hq0 arg3 X3) (fun c d => ld384 arg4.view X4 _ 0 _ (off37 i) c d) rfl) ?_
  refine Good.mono H fun a b ha hb h => ?_
  have e0 : ((0 : Fin 4)).val = 0 := rfl
  have e1 : ((1 : Fin 4)).val = 1 := rfl
  have e2 : ((2 : Fin 4)).val = 2 := rfl
  have e3 : ((3 : Fin 4)).val = 3 := rfl
  rw [e0, e1, e2, e3] at h
  refine ⟨h.1.1.1.1, ?_⟩
  clear H
  interval_cases a <;> omega

theorem eMaxs_max (h3 : k0_cond3 i = 1#1) {m : St4 Ideal} (H : Max4S (i 2).val (arg3.view.read (Elt Ideal) X3) (arg4.view.read (Elt Ideal) X4) (384 * (i 2).val) m) :
    Max4S (i 2).val (arg3.view.read (Elt Ideal) X3) (arg4.view.read (Elt Ideal) X4) (384 * ((i 2).val + 1)) (eMaxs i arg4 h3 (qAt0 arg3 X3) (qAt1 arg3 X3) (qAt2 arg3 X3) (qAt3 arg3 X3) m X4) := by
  rw [show 384 * ((i 2).val + 1) = 384 * (i 2).val + 384 from by omega]
  unfold eMaxs
  exact ⟨MaxS.e (hq0 arg3 X3) H.1 (fun c d => ld384 arg4.view X4 _ 0 _ (off37 i) c d) rfl,
    MaxS.e (hq1 arg3 X3) H.2.1 (fun c d => ld384 arg4.view X4 _ 1 _ (off39 i) c d) rfl,
    MaxS.e (hq2 arg3 X3) H.2.2.1 (fun c d => ld384 arg4.view X4 _ 2 _ (off41 i) c d) rfl,
    MaxS.e (hq3 arg3 X3) H.2.2.2 (fun c d => ld384 arg4.view X4 _ 3 _ (off43 i) c d) rfl⟩

section Sums
variable {M0 M1 M2 M3 : FVec Ideal S384x1 .f32} {X7 : BufTy.Contents (Elt Ideal) arg7.view.ty}
  (hM : (∀ r, M0 (ix2 r 0) = mx (i 2).val (arg3.view.read (Elt Ideal) X3) (arg4.view.read (Elt Ideal) X4) 0 r) ∧ (∀ r, M1 (ix2 r 0) = mx (i 2).val (arg3.view.read (Elt Ideal) X3) (arg4.view.read (Elt Ideal) X4) 1 r) ∧ (∀ r, M2 (ix2 r 0) = mx (i 2).val (arg3.view.read (Elt Ideal) X3) (arg4.view.read (Elt Ideal) X4) 2 r) ∧ (∀ r, M3 (ix2 r 0) = mx (i 2).val (arg3.view.read (Elt Ideal) X3) (arg4.view.read (Elt Ideal) X4) 3 r))
  (hG : Good (i 2).val (arg3.view.read (Elt Ideal) X3) (arg4.view.read (Elt Ideal) X4) arg7.view X7 (fun _ b => b < (i 2).val + 1))
include hM hG

/-- The loop over the values sums the tiles it handled. -/
theorem t3A_sum (k : ℕ) (hk : k ≤ (k0_t3_loop i).trips) : Sum4A (i 2).val (arg3.view.read (Elt Ideal) X3) (arg4.view.read (Elt Ideal) X4) (arg5.view.read (Elt Ideal) X5) (1536 * k) (t3A (F := Ideal) i arg5 arg7 M0 M1 M2 M3 X5 X7 zero4 k) := by
  induction k with
  | zero => exact ⟨pay168_apply, pay169_apply, pay170_apply, pay171_apply⟩
  | succ k ih =>
    have ih := ih (by omega)
    have hb : 4 * k + 4 ≤ (i 2).val + 1 := by rw [trips3] at hk; omega
    rw [show t3A (F := Ideal) i arg5 arg7 M0 M1 M2 M3 X5 X7 zero4 (k + 1) = _ from t3A_succ i arg5 arg7 M0 M1 M2 M3 X5 X7 zero4 ⟨k, hk⟩]
    unfold t3Yield
    rw [show 1536 * (k + 1) = 1536 * k + 1536 from by omega]
    refine ⟨?_, ?_, ?_, ?_⟩
    · exact quad_sum hM.1 ih.1 (fun r c => (hG.ld _ 0 (4 * k + 0) (off45 i ⟨k, hk⟩ 0) (by omega) r c).trans (congrArg _ (by omega))) (fun r c => (hG.ld _ 0 (4 * k + 1) (off45 i ⟨k, hk⟩ 1) (by omega) r c).trans (congrArg _ (by omega))) (fun r c => (hG.ld _ 0 (4 * k + 2) (off45 i ⟨k, hk⟩ 2) (by omega) r c).trans (congrArg _ (by omega))) (fun r c => (hG.ld _ 0 (4 * k + 3) (off45 i ⟨k, hk⟩ 3) (by omega) r c).trans (congrArg _ (by omega))) (fun c d => ld1536 arg5.view X5 _ 0 _ (off46 i ⟨k, hk⟩) c d)
    · exact quad_sum hM.2.1 ih.2.1 (fun r c => (hG.ld _ 1 (4 * k + 0) (off47 i ⟨k, hk⟩ 0) (by omega) r c).trans (congrArg _ (by omega))) (fun r c => (hG.ld _ 1 (4 * k + 1) (off47 i ⟨k, hk⟩ 1) (by omega) r c).trans (congrArg _ (by omega))) (fun r c => (hG.ld _ 1 (4 * k + 2) (off47 i ⟨k, hk⟩ 2) (by omega) r c).trans (congrArg _ (by omega))) (fun r c => (hG.ld _ 1 (4 * k + 3) (off47 i ⟨k, hk⟩ 3) (by omega) r c).trans (congrArg _ (by omega))) (fun c d => ld1536 arg5.view X5 _ 1 _ (off48 i ⟨k, hk⟩) c d)
    · exact quad_sum hM.2.2.1 ih.2.2.1 (fun r c => (hG.ld _ 2 (4 * k + 0) (off49 i ⟨k, hk⟩ 0) (by omega) r c).trans (congrArg _ (by omega))) (fun r c => (hG.ld _ 2 (4 * k + 1) (off49 i ⟨k, hk⟩ 1) (by omega) r c).trans (congrArg _ (by omega))) (fun r c => (hG.ld _ 2 (4 * k + 2) (off49 i ⟨k, hk⟩ 2) (by omega) r c).trans (congrArg _ (by omega))) (fun r c => (hG.ld _ 2 (4 * k + 3) (off49 i ⟨k, hk⟩ 3) (by omega) r c).trans (congrArg _ (by omega))) (fun c d => ld1536 arg5.view X5 _ 2 _ (off50 i ⟨k, hk⟩) c d)
    · exact quad_sum hM.2.2.2 ih.2.2.2 (fun r c => (hG.ld _ 3 (4 * k + 0) (off51 i ⟨k, hk⟩ 0) (by omega) r c).trans (congrArg _ (by omega))) (fun r c => (hG.ld _ 3 (4 * k + 1) (off51 i ⟨k, hk⟩ 1) (by omega) r c).trans (congrArg _ (by omega))) (fun r c => (hG.ld _ 3 (4 * k + 2) (off51 i ⟨k, hk⟩ 2) (by omega) r c).trans (congrArg _ (by omega))) (fun r c => (hG.ld _ 3 (4 * k + 3) (off51 i ⟨k, hk⟩ 3) (by omega) r c).trans (congrArg _ (by omega))) (fun c d => ld1536 arg5.view X5 _ 3 _ (off52 i ⟨k, hk⟩) c d)

theorem fSum_sum (h4 : k0_cond4 i = 1#1) (hm : (i 2).val % 4 = 1 ∨ (i 2).val % 4 = 2) {a : St4 Ideal} (H : Sum4S (i 2).val (arg3.view.read (Elt Ideal) X3) (arg4.view.read (Elt Ideal) X4) (arg5.view.read (Elt Ideal) X5) (1536 * (((i 2).val + 1) / 4)) a) :
    Sum4S (i 2).val (arg3.view.read (Elt Ideal) X3) (arg4.view.read (Elt Ideal) X4) (arg5.view.read (Elt Ideal) X5) (1536 * (((i 2).val + 1) / 4) + 768) (fSum i arg5 arg7 h4 M0 M1 M2 M3 a X5 X7) := by
  unfold fSum
  refine ⟨?_, ?_, ?_, ?_⟩
  · exact two_sum hM.1 H.1 (fun r c => (hG.ld _ 0 (4 * (((i 2).val + 1) / 4) + 0) (off61 i 0) (by omega) r c).trans (congrArg _ (by omega))) (fun r c => (hG.ld _ 0 (4 * (((i 2).val + 1) / 4) + 1) (off61 i 1) (by omega) r c).trans (congrArg _ (by omega))) (fun c d => ld768 arg5.view X5 _ 0 _ (off62 i) c d)
  · exact two_sum hM.2.1 H.2.1 (fun r c => (hG.ld _ 1 (4 * (((i 2).val + 1) / 4) + 0) (off63 i 0) (by omega) r c).trans (congrArg _ (by omega))) (fun r c => (hG.ld _ 1 (4 * (((i 2).val + 1) / 4) + 1) (off63 i 1) (by omega) r c).trans (congrArg _ (by omega))) (fun c d => ld768 arg5.view X5 _ 1 _ (off64 i) c d)
  · exact two_sum hM.2.2.1 H.2.2.1 (fun r c => (hG.ld _ 2 (4 * (((i 2).val + 1) / 4) + 0) (off65 i 0) (by omega) r c).trans (congrArg _ (by omega))) (fun r c => (hG.ld _ 2 (4 * (((i 2).val + 1) / 4) + 1) (off65 i 1) (by omega) r c).trans (congrArg _ (by omega))) (fun c d => ld768 arg5.view X5 _ 2 _ (off66 i) c d)
  · exact two_sum hM.2.2.2 H.2.2.2 (fun r c => (hG.ld _ 3 (4 * (((i 2).val + 1) / 4) + 0) (off67 i 0) (by omega) r c).trans (congrArg _ (by omega))) (fun r c => (hG.ld _ 3 (4 * (((i 2).val + 1) / 4) + 1) (off67 i 1) (by omega) r c).trans (congrArg _ (by omega))) (fun c d => ld768 arg5.view X5 _ 3 _ (off68 i) c d)

theorem gSum_sum (h5 : k0_cond5 i = 1#1) {a : St4 Ideal} (H : Sum4S (i 2).val (arg3.view.read (Elt Ideal) X3) (arg4.view.read (Elt Ideal) X4) (arg5.view.read (Elt Ideal) X5) (384 * (i 2).val) a) :
    Sum4S (i 2).val (arg3.view.read (Elt Ideal) X3) (arg4.view.read (Elt Ideal) X4) (arg5.view.read (Elt Ideal) X5) (384 * ((i 2).val + 1)) (gSum i arg5 arg7 h5 M0 M1 M2 M3 a X5 X7) := by
  rw [show 384 * ((i 2).val + 1) = 384 * (i 2).val + 384 from by omega]
  unfold gSum
  refine ⟨?_, ?_, ?_, ?_⟩
  · exact one_sum hM.1 H.1 (hG.ld _ 0 (i 2).val (off69 i) (by omega)) (fun c d => ld384 arg5.view X5 _ 0 _ (off70 i) c d)
  · exact one_sum hM.2.1 H.2.1 (hG.ld _ 1 (i 2).val (off71 i) (by omega)) (fun c d => ld384 arg5.view X5 _ 1 _ (off72 i) c d)
  · exact one_sum hM.2.2.1 H.2.2.1 (hG.ld _ 2 (i 2).val (off73 i) (by omega)) (fun c d => ld384 arg5.view X5 _ 2 _ (off74 i) c d)
  · exact one_sum hM.2.2.2 H.2.2.2 (hG.ld _ 3 (i 2).val (off75 i) (by omega)) (fun c d => ld384 arg5.view X5 _ 3 _ (off76 i) c d)

end Sums

theorem Max4S.rows {p : ℕ} {x3 : FVec Ideal S1x4x384x128 .bf16} {x4 : FVec Ideal S1x4x4224x128 .bf16} {m : St4 Ideal} (H : Max4S p x3 x4 (384 * (p + 1)) m) :
    (∀ r, rowMax (F := Ideal) m.1 (ix2 r 0) = mx p x3 x4 0 r) ∧ (∀ r, rowMax (F := Ideal) m.2.1 (ix2 r 0) = mx p x3 x4 1 r) ∧ (∀ r, rowMax (F := Ideal) m.2.2.1 (ix2 r 0) = mx p x3 x4 2 r) ∧ (∀ r, rowMax (F := Ideal) m.2.2.2 (ix2 r 0) = mx p x3 x4 3 r) :=
  ⟨H.1.row, H.2.1.row, H.2.2.1.row, H.2.2.2.row⟩

/-- A block whose index is 0 modulo 4. -/
theorem block0 (h3 : k0_cond3 i = 1#1) (h5 : k0_cond5 i = 1#1) (hm : (i 2).val % 4 = 0) (f7 : BufTy.Contents (Elt Ideal) arg7.view.ty) (arg6 : Memref sig .tc .vmem S1x384x256 .bf16) (f6 : BufTy.Contents (Elt Ideal) arg6.view.ty) :
    arg6.view.read (Elt Ideal) (arg6.view.writes (Elt Ideal) f6 (outPieces (sum0 (F := Ideal) i arg3 arg4 arg5 arg7 h3 h5 X3 X4 X5 f7))) = outB (i 2).val (arg3.view.read (Elt Ideal) X3) (arg4.view.read (Elt Ideal) X4) (arg5.view.read (Elt Ideal) X5) := by
  have e1 := trips1 i
  have e3 := trips3 i
  have hT := (t1A_max i arg3 arg4 X3 X4 _ le_rfl).stored
  rw [e1] at hT
  have hmax : Max4S (i 2).val (arg3.view.read (Elt Ideal) X3) (arg4.view.read (Elt Ideal) X4) (384 * ((i 2).val + 1)) (max0 (F := Ideal) i arg3 arg4 arg5 arg7 h3 h5 X3 X4 X5 f7) := by
    unfold max0
    rw [e1]
    rw [show 1536 * ((i 2).val / 4) = 384 * (i 2).val from by omega] at hT
    exact eMaxs_max i arg3 arg4 X3 X4 h3  hT
  have hC := t1C_good i arg3 arg4 arg7 X3 X4 f7 _ le_rfl
  have hG : Good (i 2).val (arg3.view.read (Elt Ideal) X3) (arg4.view.read (Elt Ideal) X4) arg7.view (sc0 (F := Ideal) i arg3 arg4 arg5 arg7 h3 h5 X3 X4 X5 f7) (fun _ b => b < (i 2).val + 1) := by
    unfold sc0
    rw [← List.append_nil (ePieces (F := Ideal) i arg4 h3 (qAt0 arg3 X3) (qAt1 arg3 X3) (qAt2 arg3 X3) (qAt3 arg3 X3) X4)]
    refine ePieces_good i arg3 arg4 arg7 X3 X4 h3 _ _ _ ?_
    exact Good.mono hC fun a b _ _ h => by rw [e1]; omega
  have hM := hmax.rows
  have hS := (t3A_sum i arg3 arg4 arg5 arg7 X3 X4 X5 hM hG _ le_rfl).stored
  rw [e3] at hS
  rw [show 1536 * (((i 2).val + 1) / 4) = 384 * (i 2).val from by omega] at hS
  have hE := gSum_sum i arg3 arg4 arg5 arg7 X3 X4 X5 hM hG h5 hS
  unfold sum0
  rw [e3]
  exact out_read _ _ _ _ _ _ _ hE.1 hE.2.1 hE.2.2.1 hE.2.2.2

/-- A block whose index is 1 modulo 4. -/
theorem block1 (h2 : k0_cond2 i = 1#1) (h4 : k0_cond4 i = 1#1) (hm : (i 2).val % 4 = 1) (f7 : BufTy.Contents (Elt Ideal) arg7.view.ty) (arg6 : Memref sig .tc .vmem S1x384x256 .bf16) (f6 : BufTy.Contents (Elt Ideal) arg6.view.ty) :
    arg6.view.read (Elt Ideal) (arg6.view.writes (Elt Ideal) f6 (outPieces (sum1 (F := Ideal) i arg3 arg4 arg5 arg7 h2 h4 X3 X4 X5 f7))) = outB (i 2).val (arg3.view.read (Elt Ideal) X3) (arg4.view.read (Elt Ideal) X4) (arg5.view.read (Elt Ideal) X5) := by
  have e1 := trips1 i
  have e3 := trips3 i
  have hT := (t1A_max i arg3 arg4 X3 X4 _ le_rfl).stored
  rw [e1] at hT
  have hmax : Max4S (i 2).val (arg3.view.read (Elt Ideal) X3) (arg4.view.read (Elt Ideal) X4) (384 * ((i 2).val + 1)) (max1 (F := Ideal) i arg3 arg4 arg5 arg7 h2 h4 X3 X4 X5 f7) := by
    unfold max1
    rw [e1]
    rw [show 1536 * ((i 2).val / 4) = 384 * ((i 2).val - 1) from by omega] at hT
    exact oMaxs_max i arg3 arg4 X3 X4 h2 (by omega) hT
  have hC := t1C_good i arg3 arg4 arg7 X3 X4 f7 _ le_rfl
  have hG : Good (i 2).val (arg3.view.read (Elt Ideal) X3) (arg4.view.read (Elt Ideal) X4) arg7.view (sc1 (F := Ideal) i arg3 arg4 arg5 arg7 h2 h4 X3 X4 X5 f7) (fun _ b => b < (i 2).val + 1) := by
    unfold sc1
    rw [← List.append_nil (oPieces (F := Ideal) i arg4 h2 (qAt0 arg3 X3) (qAt1 arg3 X3) (qAt2 arg3 X3) (qAt3 arg3 X3) X4)]
    refine oPieces_good i arg3 arg4 arg7 X3 X4 h2 (by omega) _ _ _ ?_
    exact Good.mono hC fun a b _ _ h => by rw [e1]; omega
  have hM := hmax.rows
  have hS := (t3A_sum i arg3 arg4 arg5 arg7 X3 X4 X5 hM hG _ le_rfl).stored
  rw [e3] at hS
  have hF := fSum_sum i arg3 arg4 arg5 arg7 X3 X4 X5 hM hG h4 (by omega) hS
  rw [show 1536 * (((i 2).val + 1) / 4) + 768 = 384 * ((i 2).val + 1) from by omega] at hF
  unfold sum1
  rw [e3]
  exact out_read _ _ _ _ _ _ _ hF.1 hF.2.1 hF.2.2.1 hF.2.2.2

/-- A block whose index is 2 modulo 4. -/
theorem block2 (h1 : k0_cond1 i = 1#1) (h3 : k0_cond3 i = 1#1) (h4 : k0_cond4 i = 1#1) (h5 : k0_cond5 i = 1#1) (hm : (i 2).val % 4 = 2) (f7 : BufTy.Contents (Elt Ideal) arg7.view.ty) (arg6 : Memref sig .tc .vmem S1x384x256 .bf16) (f6 : BufTy.Contents (Elt Ideal) arg6.view.ty) :
    arg6.view.read (Elt Ideal) (arg6.view.writes (Elt Ideal) f6 (outPieces (sum2 (F := Ideal) i arg3 arg4 arg5 arg7 h1 h3 h4 h5 X3 X4 X5 f7))) = outB (i 2).val (arg3.view.read (Elt Ideal) X3) (arg4.view.read (Elt Ideal) X4) (arg5.view.read (Elt Ideal) X5) := by
  have e1 := trips1 i
  have e3 := trips3 i
  have hT := (t1A_max i arg3 arg4 X3 X4 _ le_rfl).stored
  rw [e1] at hT
  have hmax : Max4S (i 2).val (arg3.view.read (Elt Ideal) X3) (arg4.view.read (Elt Ideal) X4) (384 * ((i 2).val + 1)) (max2 (F := Ideal) i arg3 arg4 arg5 arg7 h1 h3 h4 h5 X3 X4 X5 f7) := by
    unfold max2
    rw [e1]
    have hB := bMax_max i arg3 arg4 X3 X4 h1 (by omega) hT
    rw [show 1536 * ((i 2).val / 4) + 768 = 384 * (i 2).val from by omega] at hB
    exact eMaxs_max i arg3 arg4 X3 X4 h3  hB
  have hC := t1C_good i arg3 arg4 arg7 X3 X4 f7 _ le_rfl
  have hG : Good (i 2).val (arg3.view.read (Elt Ideal) X3) (arg4.view.read (Elt Ideal) X4) arg7.view (sc2 (F := Ideal) i arg3 arg4 arg5 arg7 h1 h3 h4 h5 X3 X4 X5 f7) (fun _ b => b < (i 2).val + 1) := by
    unfold sc2
    refine ePieces_good i arg3 arg4 arg7 X3 X4 h3 _ _ _ ?_
    refine bPieces_good i arg3 arg4 arg7 X3 X4 h1 (by omega) _ _ ?_
    exact Good.mono hC fun a b _ _ h => by rw [e1]; omega
  have hM := hmax.rows
  have hS := (t3A_sum i arg3 arg4 arg5 arg7 X3 X4 X5 hM hG _ le_rfl).stored
  rw [e3] at hS
  have hF := fSum_sum i arg3 arg4 arg5 arg7 X3 X4 X5 hM hG h4 (by omega) hS
  rw [show 1536 * (((i 2).val + 1) / 4) + 768 = 384 * (i 2).val from by omega] at hF
  have hE := gSum_sum i arg3 arg4 arg5 arg7 X3 X4 X5 hM hG h5 hF
  unfold sum2
  rw [e3]
  exact out_read _ _ _ _ _ _ _ hE.1 hE.2.1 hE.2.2.1 hE.2.2.2

/-- A block whose index is 3 modulo 4. -/
theorem block3 (h1 : k0_cond1 i = 1#1) (h2 : k0_cond2 i = 1#1) (hm : (i 2).val % 4 = 3) (f7 : BufTy.Contents (Elt Ideal) arg7.view.ty) (arg6 : Memref sig .tc .vmem S1x384x256 .bf16) (f6 : BufTy.Contents (Elt Ideal) arg6.view.ty) :
    arg6.view.read (Elt Ideal) (arg6.view.writes (Elt Ideal) f6 (outPieces (sum3 (F := Ideal) i arg3 arg4 arg5 arg7 h1 h2 X3 X4 X5 f7))) = outB (i 2).val (arg3.view.read (Elt Ideal) X3) (arg4.view.read (Elt Ideal) X4) (arg5.view.read (Elt Ideal) X5) := by
  have e1 := trips1 i
  have e3 := trips3 i
  have hT := (t1A_max i arg3 arg4 X3 X4 _ le_rfl).stored
  rw [e1] at hT
  have hmax : Max4S (i 2).val (arg3.view.read (Elt Ideal) X3) (arg4.view.read (Elt Ideal) X4) (384 * ((i 2).val + 1)) (max3 (F := Ideal) i arg3 arg4 arg5 arg7 h1 h2 X3 X4 X5 f7) := by
    unfold max3
    rw [e1]
    have hB := bMax_max i arg3 arg4 X3 X4 h1 (by omega) hT
    rw [show 1536 * ((i 2).val / 4) + 768 = 384 * ((i 2).val - 1) from by omega] at hB
    exact oMaxs_max i arg3 arg4 X3 X4 h2 (by omega) hB
  have hC := t1C_good i arg3 arg4 arg7 X3 X4 f7 _ le_rfl
  have hG : Good (i 2).val (arg3.view.read (Elt Ideal) X3) (arg4.view.read (Elt Ideal) X4) arg7.view (sc3 (F := Ideal) i arg3 arg4 arg5 arg7 h1 h2 X3 X4 X5 f7) (fun _ b => b < (i 2).val + 1) := by
    unfold sc3
    refine oPieces_good i arg3 arg4 arg7 X3 X4 h2 (by omega) _ _ _ ?_
    refine bPieces_good i arg3 arg4 arg7 X3 X4 h1 (by omega) _ _ ?_
    exact Good.mono hC fun a b _ _ h => by rw [e1]; omega
  have hM := hmax.rows
  have hS := (t3A_sum i arg3 arg4 arg5 arg7 X3 X4 X5 hM hG _ le_rfl).stored
  rw [e3] at hS
  rw [show 1536 * (((i 2).val + 1) / 4) = 384 * ((i 2).val + 1) from by omega] at hS
  unfold sum3
  rw [e3]
  exact out_read _ _ _ _ _ _ _ hS.1 hS.2.1 hS.2.2.1 hS.2.2.2

end Block

end Cert.Proof.Attn
end
-- ==== Proof.AttnRun0.lean ====
module

public import proofs.«01_k».proof.Proof.AttnSpec

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- The body's run for blocks that are 0 modulo 4: it stores the two pieces of the result. -/
theorem run0 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : ¬ k0_cond1 i = 1#1) (h2 : ¬ k0_cond2 i = 1#1) (h3 : k0_cond3 i = 1#1) (h4 : ¬ k0_cond4 i = 1#1) (h5 : k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6) ∗ ⌜g6 = arg6.view.writes (Elt F) f6 (outPieces (sum0 i arg3 arg4 arg5 arg7 h3 h5 X3 X4 X5 f7))⌝) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]
  · iexists _
    isplitl [H6]; · iexact H6
    ipureintro
    unfold outPieces
    have e0 : run0.sl.v46 (F := F) i arg3 arg4 arg8 h3 X3 X4 = (max0 i arg3 arg4 arg5 arg7 h3 h5 X3 X4 X5 f7).1 := by
      unfold run0.sl.v46
      try unfold run0.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v203
      try unfold run0.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v180
      try unfold run0.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v157
      try unfold run0.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v134
      try unfold run0.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e1 : run0.sl.v50 (F := F) i arg3 arg4 arg8 h3 X3 X4 = (max0 i arg3 arg4 arg5 arg7 h3 h5 X3 X4 X5 f7).2.1 := by
      unfold run0.sl.v50
      try unfold run0.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v203
      try unfold run0.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v180
      try unfold run0.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v157
      try unfold run0.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v134
      try unfold run0.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e2 : run0.sl.v54 (F := F) i arg3 arg4 arg8 h3 X3 X4 = (max0 i arg3 arg4 arg5 arg7 h3 h5 X3 X4 X5 f7).2.2.1 := by
      unfold run0.sl.v54
      try unfold run0.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v203
      try unfold run0.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v180
      try unfold run0.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v157
      try unfold run0.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v134
      try unfold run0.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e3 : run0.sl.v58 (F := F) i arg3 arg4 arg8 h3 X3 X4 = (max0 i arg3 arg4 arg5 arg7 h3 h5 X3 X4 X5 f7).2.2.2 := by
      unfold run0.sl.v58
      try unfold run0.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v203
      try unfold run0.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v180
      try unfold run0.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v157
      try unfold run0.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run0.sl.v134
      try unfold run0.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    refine congrArg (arg6.view.writes (Elt F) f6) ?_
    refine congrArg₂ List.cons (congrArg (fun w => (⟨_, w⟩ : View.Piece (Elt F) S1x384x256 .bf16)) ?_) (congrArg₂ List.cons (congrArg (fun w => (⟨_, w⟩ : View.Piece (Elt F) S1x384x256 .bf16)) ?_) rfl)
    · unfold run0.sl.r_13 run0.sl.r_14 run0.sl.r_15
      refine (pay1_eq _ _).trans (congrArg₂ k0_pay188 ?_ ?_)
      · unfold run0.sl.v110
        try unfold run0.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v196
        try unfold run0.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v190
        try unfold run0.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v189
        try unfold run0.sl.v186
        try unfold run0.sl.v149
        try unfold run0.sl.v143
        try unfold run0.sl.v142
        try unfold run0.sl.v141
        try unfold run0.sl.v140
        try unfold run0.sl.v139
        try unfold run0.sl.v138
        try unfold run0.sl.v185
        try unfold run0.sl.v184
        try unfold run0.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v183
        try unfold run0.sl.v180_1
        try unfold run0.sl.v135
        try unfold run0.sl.v129
        try unfold run0.sl.v128
        try unfold run0.sl.v127
        try unfold run0.sl.v126
        try unfold run0.sl.v125
        try unfold run0.sl.v124
        try unfold run0.sl.v179
        try unfold run0.sl.v178
        try unfold run0.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v163
        try unfold run0.sl.v157_1
        try unfold run0.sl.v156
        try unfold run0.sl.v155
        try unfold run0.sl.v154
        try unfold run0.sl.v153
        try unfold run0.sl.v152
        try unfold run0.sl.v177
        try unfold run0.sl.v171
        try unfold run0.sl.v170
        try unfold run0.sl.v169
        try unfold run0.sl.v168
        try unfold run0.sl.v167
        try unfold run0.sl.v166
        try unfold run0.sl.r_12
        unfold sum0 stored
        unfold gSum
        refine (g_congr arg7 (k0_off73_inb i h5) (View.readAt (Elt F) arg5.view (Rect.unit (s := S1x4x4224x128) (k0_off74 i) S1x1x384x128.size (k0_off74_inb i h5)).toLoadRect X5) (congrArg rowMax e2) ?_ (congrArg k0_pay182 (congrArg (fun a : Acc4 F => a.2.2.1) (t3A_congr i arg5 arg7 X5 (congrArg rowMax e0) (congrArg rowMax e1) (congrArg rowMax e2) (congrArg rowMax e3) ?_ rfl))))
        · unfold sc0 ePieces
          refine (readAt_over arg7.view (k0_off42_inb i h3) (k0_off73_inb i h5) _ _ (t1C i arg4 arg7 (qAt0 arg3 X3) (qAt1 arg3 X3) (qAt2 arg3 X3) (qAt3 arg3 X3) X4 f7 (k0_t1_loop i).trips) _ (List.mem_cons_of_mem _ (List.mem_cons_self ..)) ((off42 i).trans (off73 i).symm)).trans (congrArg (View.readAt (Elt F) arg7.view (Rect.unit (s := S4x11x384x384) (k0_off73 i) S1x1x384x384.size (k0_off73_inb i h5)).toLoadRect) (congrArg₂ (arg7.view.writes (Elt F)) rfl ?_))
          iterate 4 (refine congrArg₂ List.cons (congrArg (fun w => (⟨_, w⟩ : View.Piece (Elt F) S4x11x384x384 .f32)) (by rfl)) ?_)
          rfl
        · unfold sc0 ePieces
          refine congrArg₂ (arg7.view.writes (Elt F)) rfl ?_
          iterate 4 (refine congrArg₂ List.cons (congrArg (fun w => (⟨_, w⟩ : View.Piece (Elt F) S4x11x384x384 .f32)) (by rfl)) ?_)
          rfl
      · unfold run0.sl.v112
        try unfold run0.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v196
        try unfold run0.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v190
        try unfold run0.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v189
        try unfold run0.sl.v186
        try unfold run0.sl.v149
        try unfold run0.sl.v143
        try unfold run0.sl.v142
        try unfold run0.sl.v141
        try unfold run0.sl.v140
        try unfold run0.sl.v139
        try unfold run0.sl.v138
        try unfold run0.sl.v185
        try unfold run0.sl.v184
        try unfold run0.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v183
        try unfold run0.sl.v180_1
        try unfold run0.sl.v135
        try unfold run0.sl.v129
        try unfold run0.sl.v128
        try unfold run0.sl.v127
        try unfold run0.sl.v126
        try unfold run0.sl.v125
        try unfold run0.sl.v124
        try unfold run0.sl.v179
        try unfold run0.sl.v178
        try unfold run0.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v163
        try unfold run0.sl.v157_1
        try unfold run0.sl.v156
        try unfold run0.sl.v155
        try unfold run0.sl.v154
        try unfold run0.sl.v153
        try unfold run0.sl.v152
        try unfold run0.sl.v177
        try unfold run0.sl.v171
        try unfold run0.sl.v170
        try unfold run0.sl.v169
        try unfold run0.sl.v168
        try unfold run0.sl.v167
        try unfold run0.sl.v166
        try unfold run0.sl.r_12
        unfold sum0 stored
        unfold gSum
        refine (g_congr arg7 (k0_off75_inb i h5) (View.readAt (Elt F) arg5.view (Rect.unit (s := S1x4x4224x128) (k0_off76 i) S1x1x384x128.size (k0_off76_inb i h5)).toLoadRect X5) (congrArg rowMax e3) ?_ (congrArg k0_pay183 (congrArg (fun a : Acc4 F => a.2.2.2) (t3A_congr i arg5 arg7 X5 (congrArg rowMax e0) (congrArg rowMax e1) (congrArg rowMax e2) (congrArg rowMax e3) ?_ rfl))))
        · unfold sc0 ePieces
          refine (readAt_over arg7.view (k0_off44_inb i h3) (k0_off75_inb i h5) _ _ (t1C i arg4 arg7 (qAt0 arg3 X3) (qAt1 arg3 X3) (qAt2 arg3 X3) (qAt3 arg3 X3) X4 f7 (k0_t1_loop i).trips) _ (List.mem_cons_self ..) ((off44 i).trans (off75 i).symm)).trans (congrArg (View.readAt (Elt F) arg7.view (Rect.unit (s := S4x11x384x384) (k0_off75 i) S1x1x384x384.size (k0_off75_inb i h5)).toLoadRect) (congrArg₂ (arg7.view.writes (Elt F)) rfl ?_))
          iterate 4 (refine congrArg₂ List.cons (congrArg (fun w => (⟨_, w⟩ : View.Piece (Elt F) S4x11x384x384 .f32)) (by rfl)) ?_)
          rfl
        · unfold sc0 ePieces
          refine congrArg₂ (arg7.view.writes (Elt F)) rfl ?_
          iterate 4 (refine congrArg₂ List.cons (congrArg (fun w => (⟨_, w⟩ : View.Piece (Elt F) S4x11x384x384 .f32)) (by rfl)) ?_)
          rfl
    · refine congrArg₂ k0_pay188 ?_ ?_
      · unfold run0.sl.v98
        try unfold run0.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v196
        try unfold run0.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v190
        try unfold run0.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v189
        try unfold run0.sl.v186
        try unfold run0.sl.v149
        try unfold run0.sl.v143
        try unfold run0.sl.v142
        try unfold run0.sl.v141
        try unfold run0.sl.v140
        try unfold run0.sl.v139
        try unfold run0.sl.v138
        try unfold run0.sl.v185
        try unfold run0.sl.v184
        try unfold run0.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v183
        try unfold run0.sl.v180_1
        try unfold run0.sl.v135
        try unfold run0.sl.v129
        try unfold run0.sl.v128
        try unfold run0.sl.v127
        try unfold run0.sl.v126
        try unfold run0.sl.v125
        try unfold run0.sl.v124
        try unfold run0.sl.v179
        try unfold run0.sl.v178
        try unfold run0.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v163
        try unfold run0.sl.v157_1
        try unfold run0.sl.v156
        try unfold run0.sl.v155
        try unfold run0.sl.v154
        try unfold run0.sl.v153
        try unfold run0.sl.v152
        try unfold run0.sl.v177
        try unfold run0.sl.v171
        try unfold run0.sl.v170
        try unfold run0.sl.v169
        try unfold run0.sl.v168
        try unfold run0.sl.v167
        try unfold run0.sl.v166
        try unfold run0.sl.r_12
        unfold sum0 stored
        unfold gSum
        refine (g_congr arg7 (k0_off69_inb i h5) (View.readAt (Elt F) arg5.view (Rect.unit (s := S1x4x4224x128) (k0_off70 i) S1x1x384x128.size (k0_off70_inb i h5)).toLoadRect X5) (congrArg rowMax e0) ?_ (congrArg k0_pay180 (congrArg (fun a : Acc4 F => a.1) (t3A_congr i arg5 arg7 X5 (congrArg rowMax e0) (congrArg rowMax e1) (congrArg rowMax e2) (congrArg rowMax e3) ?_ rfl))))
        · unfold sc0 ePieces
          refine (readAt_over arg7.view (k0_off38_inb i h3) (k0_off69_inb i h5) _ _ (t1C i arg4 arg7 (qAt0 arg3 X3) (qAt1 arg3 X3) (qAt2 arg3 X3) (qAt3 arg3 X3) X4 f7 (k0_t1_loop i).trips) _ (List.mem_cons_of_mem _ (List.mem_cons_of_mem _ (List.mem_cons_of_mem _ (List.mem_cons_self ..)))) ((off38 i).trans (off69 i).symm)).trans (congrArg (View.readAt (Elt F) arg7.view (Rect.unit (s := S4x11x384x384) (k0_off69 i) S1x1x384x384.size (k0_off69_inb i h5)).toLoadRect) (congrArg₂ (arg7.view.writes (Elt F)) rfl ?_))
          iterate 4 (refine congrArg₂ List.cons (congrArg (fun w => (⟨_, w⟩ : View.Piece (Elt F) S4x11x384x384 .f32)) (by rfl)) ?_)
          rfl
        · unfold sc0 ePieces
          refine congrArg₂ (arg7.view.writes (Elt F)) rfl ?_
          iterate 4 (refine congrArg₂ List.cons (congrArg (fun w => (⟨_, w⟩ : View.Piece (Elt F) S4x11x384x384 .f32)) (by rfl)) ?_)
          rfl
      · unfold run0.sl.v100
        try unfold run0.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v196
        try unfold run0.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v190
        try unfold run0.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v189
        try unfold run0.sl.v186
        try unfold run0.sl.v149
        try unfold run0.sl.v143
        try unfold run0.sl.v142
        try unfold run0.sl.v141
        try unfold run0.sl.v140
        try unfold run0.sl.v139
        try unfold run0.sl.v138
        try unfold run0.sl.v185
        try unfold run0.sl.v184
        try unfold run0.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v183
        try unfold run0.sl.v180_1
        try unfold run0.sl.v135
        try unfold run0.sl.v129
        try unfold run0.sl.v128
        try unfold run0.sl.v127
        try unfold run0.sl.v126
        try unfold run0.sl.v125
        try unfold run0.sl.v124
        try unfold run0.sl.v179
        try unfold run0.sl.v178
        try unfold run0.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run0.sl.v163
        try unfold run0.sl.v157_1
        try unfold run0.sl.v156
        try unfold run0.sl.v155
        try unfold run0.sl.v154
        try unfold run0.sl.v153
        try unfold run0.sl.v152
        try unfold run0.sl.v177
        try unfold run0.sl.v171
        try unfold run0.sl.v170
        try unfold run0.sl.v169
        try unfold run0.sl.v168
        try unfold run0.sl.v167
        try unfold run0.sl.v166
        try unfold run0.sl.r_12
        unfold sum0 stored
        unfold gSum
        refine (g_congr arg7 (k0_off71_inb i h5) (View.readAt (Elt F) arg5.view (Rect.unit (s := S1x4x4224x128) (k0_off72 i) S1x1x384x128.size (k0_off72_inb i h5)).toLoadRect X5) (congrArg rowMax e1) ?_ (congrArg k0_pay181 (congrArg (fun a : Acc4 F => a.2.1) (t3A_congr i arg5 arg7 X5 (congrArg rowMax e0) (congrArg rowMax e1) (congrArg rowMax e2) (congrArg rowMax e3) ?_ rfl))))
        · unfold sc0 ePieces
          refine (readAt_over arg7.view (k0_off40_inb i h3) (k0_off71_inb i h5) _ _ (t1C i arg4 arg7 (qAt0 arg3 X3) (qAt1 arg3 X3) (qAt2 arg3 X3) (qAt3 arg3 X3) X4 f7 (k0_t1_loop i).trips) _ (List.mem_cons_of_mem _ (List.mem_cons_of_mem _ (List.mem_cons_self ..))) ((off40 i).trans (off71 i).symm)).trans (congrArg (View.readAt (Elt F) arg7.view (Rect.unit (s := S4x11x384x384) (k0_off71 i) S1x1x384x384.size (k0_off71_inb i h5)).toLoadRect) (congrArg₂ (arg7.view.writes (Elt F)) rfl ?_))
          iterate 4 (refine congrArg₂ List.cons (congrArg (fun w => (⟨_, w⟩ : View.Piece (Elt F) S4x11x384x384 .f32)) (by rfl)) ?_)
          rfl
        · unfold sc0 ePieces
          refine congrArg₂ (arg7.view.writes (Elt F)) rfl ?_
          iterate 4 (refine congrArg₂ List.cons (congrArg (fun w => (⟨_, w⟩ : View.Piece (Elt F) S4x11x384x384 .f32)) (by rfl)) ?_)
          rfl
  isplitl [H7]; · iexists _; iexact H7
  isplitl [H8]; · iexists _; iexact H8
  iexists _; iexact H9

end Cert.Proof.Attn
end
-- ==== Proof.AttnRun1.lean ====
module

public import proofs.«01_k».proof.Proof.AttnSpec

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- The body's run for blocks that are 1 modulo 4: it stores the two pieces of the result. -/
theorem run1 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : ¬ k0_cond1 i = 1#1) (h2 : k0_cond2 i = 1#1) (h3 : ¬ k0_cond3 i = 1#1) (h4 : k0_cond4 i = 1#1) (h5 : ¬ k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6) ∗ ⌜g6 = arg6.view.writes (Elt F) f6 (outPieces (sum1 i arg3 arg4 arg5 arg7 h2 h4 X3 X4 X5 f7))⌝) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]
  · iexists _
    isplitl [H6]; · iexact H6
    ipureintro
    unfold outPieces
    have e0 : run1.sl.v46 (F := F) i arg3 arg4 arg8 h2 X3 X4 = (max1 i arg3 arg4 arg5 arg7 h2 h4 X3 X4 X5 f7).1 := by
      unfold run1.sl.v46
      try unfold run1.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v253
      try unfold run1.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v216
      try unfold run1.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v179
      try unfold run1.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v142
      try unfold run1.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e1 : run1.sl.v50 (F := F) i arg3 arg4 arg8 h2 X3 X4 = (max1 i arg3 arg4 arg5 arg7 h2 h4 X3 X4 X5 f7).2.1 := by
      unfold run1.sl.v50
      try unfold run1.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v253
      try unfold run1.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v216
      try unfold run1.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v179
      try unfold run1.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v142
      try unfold run1.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e2 : run1.sl.v54 (F := F) i arg3 arg4 arg8 h2 X3 X4 = (max1 i arg3 arg4 arg5 arg7 h2 h4 X3 X4 X5 f7).2.2.1 := by
      unfold run1.sl.v54
      try unfold run1.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v253
      try unfold run1.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v216
      try unfold run1.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v179
      try unfold run1.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v142
      try unfold run1.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e3 : run1.sl.v58 (F := F) i arg3 arg4 arg8 h2 X3 X4 = (max1 i arg3 arg4 arg5 arg7 h2 h4 X3 X4 X5 f7).2.2.2 := by
      unfold run1.sl.v58
      try unfold run1.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v253
      try unfold run1.sl.H8_7
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v216
      try unfold run1.sl.H8_6
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v179
      try unfold run1.sl.H8_5
      try simp -proj -dsimp only [skip_0_1, skip_0_2, skip_0_3, skip_1_0, skip_1_2, skip_1_3, skip_2_0, skip_2_1, skip_2_3, skip_3_0, skip_3_1, skip_3_2, View.readCov_cons_toLoadRect]
      try unfold run1.sl.v142
      try unfold run1.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    refine congrArg (arg6.view.writes (Elt F) f6) ?_
    refine congrArg₂ List.cons (congrArg (fun w => (⟨_, w⟩ : View.Piece (Elt F) S1x384x256 .bf16)) ?_) (congrArg₂ List.cons (congrArg (fun w => (⟨_, w⟩ : View.Piece (Elt F) S1x384x256 .bf16)) ?_) rfl)
    · unfold run1.sl.r_12 run1.sl.r_13 run1.sl.r_14
      refine (pay1_eq _ _).trans (congrArg₂ k0_pay188 ?_ ?_)
      · unfold run1.sl.v110
        try unfold run1.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v219
        try unfold run1.sl.v198
        try unfold run1.sl.v192
        try unfold run1.sl.v191
        try unfold run1.sl.v190
        try unfold run1.sl.v189
        try unfold run1.sl.v218
        try unfold run1.sl.v217
        try unfold run1.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v216_1
        try unfold run1.sl.v213
        try unfold run1.sl.v179_1
        try unfold run1.sl.v173
        try unfold run1.sl.v172
        try unfold run1.sl.v171
        try unfold run1.sl.v170
        try unfold run1.sl.v212
        try unfold run1.sl.v211
        try unfold run1.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v210
        try unfold run1.sl.v207
        try unfold run1.sl.v160
        try unfold run1.sl.v154
        try unfold run1.sl.v153
        try unfold run1.sl.v152
        try unfold run1.sl.v151
        try unfold run1.sl.v206
        try unfold run1.sl.v205
        try unfold run1.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v204
        try unfold run1.sl.v201
        try unfold run1.sl.v141
        try unfold run1.sl.v135
        try unfold run1.sl.v134
        try unfold run1.sl.v133
        try unfold run1.sl.v132
        try unfold run1.sl.v200
        try unfold run1.sl.v199
        try unfold run1.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.r_11
        unfold sum1 stored
        unfold fSum
        refine (f_congr arg7 (k0_off65_inb i h4 0) (k0_off65_inb i h4 1) (View.readAt (Elt F) arg5.view (Rect.unit (s := S1x4x4224x128) (k0_off66 i) S1x1x768x128.size (k0_off66_inb i h4)).toLoadRect X5) (congrArg rowMax e2) ?_ (congrArg k0_pay182 (congrArg (fun a : Acc4 F => a.2.2.1) (t3A_congr i arg5 arg7 X5 (congrArg rowMax e0) (congrArg rowMax e1) (congrArg rowMax e2) (congrArg rowMax e3) ?_ rfl))))
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
      · unfold run1.sl.v112
        try unfold run1.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v219
        try unfold run1.sl.v198
        try unfold run1.sl.v192
        try unfold run1.sl.v191
        try unfold run1.sl.v190
        try unfold run1.sl.v189
        try unfold run1.sl.v218
        try unfold run1.sl.v217
        try unfold run1.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v216_1
        try unfold run1.sl.v213
        try unfold run1.sl.v179_1
        try unfold run1.sl.v173
        try unfold run1.sl.v172
        try unfold run1.sl.v171
        try unfold run1.sl.v170
        try unfold run1.sl.v212
        try unfold run1.sl.v211
        try unfold run1.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v210
        try unfold run1.sl.v207
        try unfold run1.sl.v160
        try unfold run1.sl.v154
        try unfold run1.sl.v153
        try unfold run1.sl.v152
        try unfold run1.sl.v151
        try unfold run1.sl.v206
        try unfold run1.sl.v205
        try unfold run1.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v204
        try unfold run1.sl.v201
        try unfold run1.sl.v141
        try unfold run1.sl.v135
        try unfold run1.sl.v134
        try unfold run1.sl.v133
        try unfold run1.sl.v132
        try unfold run1.sl.v200
        try unfold run1.sl.v199
        try unfold run1.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.r_11
        unfold sum1 stored
        unfold fSum
        refine (f_congr arg7 (k0_off67_inb i h4 0) (k0_off67_inb i h4 1) (View.readAt (Elt F) arg5.view (Rect.unit (s := S1x4x4224x128) (k0_off68 i) S1x1x768x128.size (k0_off68_inb i h4)).toLoadRect X5) (congrArg rowMax e3) ?_ (congrArg k0_pay183 (congrArg (fun a : Acc4 F => a.2.2.2) (t3A_congr i arg5 arg7 X5 (congrArg rowMax e0) (congrArg rowMax e1) (congrArg rowMax e2) (congrArg rowMax e3) ?_ rfl))))
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
    · refine congrArg₂ k0_pay188 ?_ ?_
      · unfold run1.sl.v98
        try unfold run1.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v219
        try unfold run1.sl.v198
        try unfold run1.sl.v192
        try unfold run1.sl.v191
        try unfold run1.sl.v190
        try unfold run1.sl.v189
        try unfold run1.sl.v218
        try unfold run1.sl.v217
        try unfold run1.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v216_1
        try unfold run1.sl.v213
        try unfold run1.sl.v179_1
        try unfold run1.sl.v173
        try unfold run1.sl.v172
        try unfold run1.sl.v171
        try unfold run1.sl.v170
        try unfold run1.sl.v212
        try unfold run1.sl.v211
        try unfold run1.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v210
        try unfold run1.sl.v207
        try unfold run1.sl.v160
        try unfold run1.sl.v154
        try unfold run1.sl.v153
        try unfold run1.sl.v152
        try unfold run1.sl.v151
        try unfold run1.sl.v206
        try unfold run1.sl.v205
        try unfold run1.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v204
        try unfold run1.sl.v201
        try unfold run1.sl.v141
        try unfold run1.sl.v135
        try unfold run1.sl.v134
        try unfold run1.sl.v133
        try unfold run1.sl.v132
        try unfold run1.sl.v200
        try unfold run1.sl.v199
        try unfold run1.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.r_11
        unfold sum1 stored
        unfold fSum
        refine (f_congr arg7 (k0_off61_inb i h4 0) (k0_off61_inb i h4 1) (View.readAt (Elt F) arg5.view (Rect.unit (s := S1x4x4224x128) (k0_off62 i) S1x1x768x128.size (k0_off62_inb i h4)).toLoadRect X5) (congrArg rowMax e0) ?_ (congrArg k0_pay180 (congrArg (fun a : Acc4 F => a.1) (t3A_congr i arg5 arg7 X5 (congrArg rowMax e0) (congrArg rowMax e1) (congrArg rowMax e2) (congrArg rowMax e3) ?_ rfl))))
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
      · unfold run1.sl.v100
        try unfold run1.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v219
        try unfold run1.sl.v198
        try unfold run1.sl.v192
        try unfold run1.sl.v191
        try unfold run1.sl.v190
        try unfold run1.sl.v189
        try unfold run1.sl.v218
        try unfold run1.sl.v217
        try unfold run1.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v216_1
        try unfold run1.sl.v213
        try unfold run1.sl.v179_1
        try unfold run1.sl.v173
        try unfold run1.sl.v172
        try unfold run1.sl.v171
        try unfold run1.sl.v170
        try unfold run1.sl.v212
        try unfold run1.sl.v211
        try unfold run1.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v210
        try unfold run1.sl.v207
        try unfold run1.sl.v160
        try unfold run1.sl.v154
        try unfold run1.sl.v153
        try unfold run1.sl.v152
        try unfold run1.sl.v151
        try unfold run1.sl.v206
        try unfold run1.sl.v205
        try unfold run1.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.v204
        try unfold run1.sl.v201
        try unfold run1.sl.v141
        try unfold run1.sl.v135
        try unfold run1.sl.v134
        try unfold run1.sl.v133
        try unfold run1.sl.v132
        try unfold run1.sl.v200
        try unfold run1.sl.v199
        try unfold run1.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run1.sl.r_11
        unfold sum1 stored
        unfold fSum
        refine (f_congr arg7 (k0_off63_inb i h4 0) (k0_off63_inb i h4 1) (View.readAt (Elt F) arg5.view (Rect.unit (s := S1x4x4224x128) (k0_off64 i) S1x1x768x128.size (k0_off64_inb i h4)).toLoadRect X5) (congrArg rowMax e1) ?_ (congrArg k0_pay181 (congrArg (fun a : Acc4 F => a.2.1) (t3A_congr i arg5 arg7 X5 (congrArg rowMax e0) (congrArg rowMax e1) (congrArg rowMax e2) (congrArg rowMax e3) ?_ rfl))))
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
        · unfold sc1 oPieces
          refine congrArg₂ (arg7.view.writes (Elt F)) rfl ?_
          iterate 8 (refine congrArg₂ List.cons (congrArg (fun w => (⟨_, w⟩ : View.Piece (Elt F) S4x11x384x384 .f32)) (by rfl)) ?_)
          rfl
  isplitl [H7]; · iexists _; iexact H7
  isplitl [H8]; · iexists _; iexact H8
  iexists _; iexact H9

end Cert.Proof.Attn
end
-- ==== Proof.AttnRun2.lean ====
module

public import proofs.«01_k».proof.Proof.AttnSpec

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- The body's run for blocks that are 2 modulo 4: it stores the two pieces of the result. -/
theorem run2 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : k0_cond1 i = 1#1) (h2 : ¬ k0_cond2 i = 1#1) (h3 : k0_cond3 i = 1#1) (h4 : k0_cond4 i = 1#1) (h5 : k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6) ∗ ⌜g6 = arg6.view.writes (Elt F) f6 (outPieces (sum2 i arg3 arg4 arg5 arg7 h1 h3 h4 h5 X3 X4 X5 f7))⌝) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]
  · iexists _
    isplitl [H6]; · iexact H6
    ipureintro
    unfold outPieces
    have e0 : run2.sl.v46 (F := F) i arg3 arg4 arg8 h1 h3 X3 X4 = (max2 i arg3 arg4 arg5 arg7 h1 h3 h4 h5 X3 X4 X5 f7).1 := by
      unfold run2.sl.v46
      try unfold run2.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v203_1
      try unfold run2.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v180_1
      try unfold run2.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v157_1
      try unfold run2.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v134
      try unfold run2.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v160
      try unfold run2.sl.v124
      try unfold run2.sl.v123
      try unfold run2.sl.v190
      try unfold run2.sl.v126
      try unfold run2.sl.v125
      try unfold run2.sl.v220
      try unfold run2.sl.v128
      try unfold run2.sl.v127
      try unfold run2.sl.v130
      try unfold run2.sl.v129
      try unfold run2.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e1 : run2.sl.v50 (F := F) i arg3 arg4 arg8 h1 h3 X3 X4 = (max2 i arg3 arg4 arg5 arg7 h1 h3 h4 h5 X3 X4 X5 f7).2.1 := by
      unfold run2.sl.v50
      try unfold run2.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v203_1
      try unfold run2.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v180_1
      try unfold run2.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v157_1
      try unfold run2.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v134
      try unfold run2.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v160
      try unfold run2.sl.v124
      try unfold run2.sl.v123
      try unfold run2.sl.v190
      try unfold run2.sl.v126
      try unfold run2.sl.v125
      try unfold run2.sl.v220
      try unfold run2.sl.v128
      try unfold run2.sl.v127
      try unfold run2.sl.v130
      try unfold run2.sl.v129
      try unfold run2.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e2 : run2.sl.v54 (F := F) i arg3 arg4 arg8 h1 h3 X3 X4 = (max2 i arg3 arg4 arg5 arg7 h1 h3 h4 h5 X3 X4 X5 f7).2.2.1 := by
      unfold run2.sl.v54
      try unfold run2.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v203_1
      try unfold run2.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v180_1
      try unfold run2.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v157_1
      try unfold run2.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v134
      try unfold run2.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v160
      try unfold run2.sl.v124
      try unfold run2.sl.v123
      try unfold run2.sl.v190
      try unfold run2.sl.v126
      try unfold run2.sl.v125
      try unfold run2.sl.v220
      try unfold run2.sl.v128
      try unfold run2.sl.v127
      try unfold run2.sl.v130
      try unfold run2.sl.v129
      try unfold run2.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e3 : run2.sl.v58 (F := F) i arg3 arg4 arg8 h1 h3 X3 X4 = (max2 i arg3 arg4 arg5 arg7 h1 h3 h4 h5 X3 X4 X5 f7).2.2.2 := by
      unfold run2.sl.v58
      try unfold run2.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v203_1
      try unfold run2.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v180_1
      try unfold run2.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v157_1
      try unfold run2.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v134
      try unfold run2.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run2.sl.v160
      try unfold run2.sl.v124
      try unfold run2.sl.v123
      try unfold run2.sl.v190
      try unfold run2.sl.v126
      try unfold run2.sl.v125
      try unfold run2.sl.v220
      try unfold run2.sl.v128
      try unfold run2.sl.v127
      try unfold run2.sl.v130
      try unfold run2.sl.v129
      try unfold run2.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    refine congrArg (arg6.view.writes (Elt F) f6) ?_
    refine congrArg₂ List.cons (congrArg (fun w => (⟨_, w⟩ : View.Piece (Elt F) S1x384x256 .bf16)) ?_) (congrArg₂ List.cons (congrArg (fun w => (⟨_, w⟩ : View.Piece (Elt F) S1x384x256 .bf16)) ?_) rfl)
    · unfold run2.sl.r_14 run2.sl.r_15 run2.sl.r_16
      refine (pay1_eq _ _).trans (congrArg₂ k0_pay188 ?_ ?_)
      · unfold run2.sl.v110
        try unfold run2.sl.H9_12
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v196_1
        try unfold run2.sl.H9_11
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v190_2
        try unfold run2.sl.H9_10
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v189_2
        try unfold run2.sl.v186_2
        try unfold run2.sl.v149_2
        try unfold run2.sl.v143_1
        try unfold run2.sl.v142_1
        try unfold run2.sl.v141_2
        try unfold run2.sl.v140_2
        try unfold run2.sl.v139_1
        try unfold run2.sl.v138_2
        try unfold run2.sl.v185_1
        try unfold run2.sl.v184_1
        try unfold run2.sl.H9_9
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v183_2
        try unfold run2.sl.v180_2
        try unfold run2.sl.v135_2
        try unfold run2.sl.v129_2
        try unfold run2.sl.v128_2
        try unfold run2.sl.v127_2
        try unfold run2.sl.v126_2
        try unfold run2.sl.v125_2
        try unfold run2.sl.v124_2
        try unfold run2.sl.v179_2
        try unfold run2.sl.v178_2
        try unfold run2.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v219_1
        try unfold run2.sl.v198
        try unfold run2.sl.v192
        try unfold run2.sl.v191
        try unfold run2.sl.v190_1
        try unfold run2.sl.v189_1
        try unfold run2.sl.v218_1
        try unfold run2.sl.v217_1
        try unfold run2.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v216_1
        try unfold run2.sl.v213_1
        try unfold run2.sl.v179_1
        try unfold run2.sl.v173_1
        try unfold run2.sl.v172_1
        try unfold run2.sl.v171_1
        try unfold run2.sl.v170_1
        try unfold run2.sl.v212_1
        try unfold run2.sl.v211_1
        try unfold run2.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v210_1
        try unfold run2.sl.v207_1
        try unfold run2.sl.v160_1
        try unfold run2.sl.v154_1
        try unfold run2.sl.v153_1
        try unfold run2.sl.v152_1
        try unfold run2.sl.v151_1
        try unfold run2.sl.v206_1
        try unfold run2.sl.v205
        try unfold run2.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v204
        try unfold run2.sl.v201_1
        try unfold run2.sl.v141_1
        try unfold run2.sl.v135_1
        try unfold run2.sl.v134_1
        try unfold run2.sl.v133_1
        try unfold run2.sl.v132
        try unfold run2.sl.v200_1
        try unfold run2.sl.v199
        try unfold run2.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v163_1
        try unfold run2.sl.v157_2
        try unfold run2.sl.v156_1
        try unfold run2.sl.v155_1
        try unfold run2.sl.v154_2
        try unfold run2.sl.v153_2
        try unfold run2.sl.v152_2
        try unfold run2.sl.v177_1
        try unfold run2.sl.v171_2
        try unfold run2.sl.v170_2
        try unfold run2.sl.v169_1
        try unfold run2.sl.v168_1
        try unfold run2.sl.v167_2
        try unfold run2.sl.v166_1
        try unfold run2.sl.r_13
        unfold sum2 stored
        unfold fSum
        unfold gSum
        refine (g_congr arg7 (k0_off73_inb i h5) (View.readAt (Elt F) arg5.view (Rect.unit (s := S1x4x4224x128) (k0_off74 i) S1x1x384x128.size (k0_off74_inb i h5)).toLoadRect X5) (congrArg rowMax e2) ?_ (f_congr arg7 (k0_off65_inb i h4 0) (k0_off65_inb i h4 1) (View.readAt (Elt F) arg5.view (Rect.unit (s := S1x4x4224x128) (k0_off66 i) S1x1x768x128.size (k0_off66_inb i h4)).toLoadRect X5) (congrArg rowMax e2) ?_ (congrArg k0_pay182 (congrArg (fun a : Acc4 F => a.2.2.1) (t3A_congr i arg5 arg7 X5 (congrArg rowMax e0) (congrArg rowMax e1) (congrArg rowMax e2) (congrArg rowMax e3) ?_ rfl)))))
        · unfold sc2 ePieces bPieces
          refine (readAt_over arg7.view (k0_off42_inb i h3) (k0_off73_inb i h5) _ _ (t1C i arg4 arg7 (qAt0 arg3 X3) (qAt1 arg3 X3) (qAt2 arg3 X3) (qAt3 arg3 X3) X4 f7 (k0_t1_loop i).trips) _ (List.mem_cons_of_mem _ (List.mem_cons_self ..)) ((off42 i).trans (off73 i).symm)).trans (congrArg (View.readAt (Elt F) arg7.view (Rect.unit (s := S4x11x384x384) (k0_off73 i) S1x1x384x384.size (k0_off73_inb i h5)).toLoadRect) (congrArg₂ (arg7.view.writes (Elt F)) rfl ?_))
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
      · unfold run2.sl.v112
        try unfold run2.sl.H9_12
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v196_1
        try unfold run2.sl.H9_11
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v190_2
        try unfold run2.sl.H9_10
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v189_2
        try unfold run2.sl.v186_2
        try unfold run2.sl.v149_2
        try unfold run2.sl.v143_1
        try unfold run2.sl.v142_1
        try unfold run2.sl.v141_2
        try unfold run2.sl.v140_2
        try unfold run2.sl.v139_1
        try unfold run2.sl.v138_2
        try unfold run2.sl.v185_1
        try unfold run2.sl.v184_1
        try unfold run2.sl.H9_9
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v183_2
        try unfold run2.sl.v180_2
        try unfold run2.sl.v135_2
        try unfold run2.sl.v129_2
        try unfold run2.sl.v128_2
        try unfold run2.sl.v127_2
        try unfold run2.sl.v126_2
        try unfold run2.sl.v125_2
        try unfold run2.sl.v124_2
        try unfold run2.sl.v179_2
        try unfold run2.sl.v178_2
        try unfold run2.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v219_1
        try unfold run2.sl.v198
        try unfold run2.sl.v192
        try unfold run2.sl.v191
        try unfold run2.sl.v190_1
        try unfold run2.sl.v189_1
        try unfold run2.sl.v218_1
        try unfold run2.sl.v217_1
        try unfold run2.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v216_1
        try unfold run2.sl.v213_1
        try unfold run2.sl.v179_1
        try unfold run2.sl.v173_1
        try unfold run2.sl.v172_1
        try unfold run2.sl.v171_1
        try unfold run2.sl.v170_1
        try unfold run2.sl.v212_1
        try unfold run2.sl.v211_1
        try unfold run2.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v210_1
        try unfold run2.sl.v207_1
        try unfold run2.sl.v160_1
        try unfold run2.sl.v154_1
        try unfold run2.sl.v153_1
        try unfold run2.sl.v152_1
        try unfold run2.sl.v151_1
        try unfold run2.sl.v206_1
        try unfold run2.sl.v205
        try unfold run2.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v204
        try unfold run2.sl.v201_1
        try unfold run2.sl.v141_1
        try unfold run2.sl.v135_1
        try unfold run2.sl.v134_1
        try unfold run2.sl.v133_1
        try unfold run2.sl.v132
        try unfold run2.sl.v200_1
        try unfold run2.sl.v199
        try unfold run2.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v163_1
        try unfold run2.sl.v157_2
        try unfold run2.sl.v156_1
        try unfold run2.sl.v155_1
        try unfold run2.sl.v154_2
        try unfold run2.sl.v153_2
        try unfold run2.sl.v152_2
        try unfold run2.sl.v177_1
        try unfold run2.sl.v171_2
        try unfold run2.sl.v170_2
        try unfold run2.sl.v169_1
        try unfold run2.sl.v168_1
        try unfold run2.sl.v167_2
        try unfold run2.sl.v166_1
        try unfold run2.sl.r_13
        unfold sum2 stored
        unfold fSum
        unfold gSum
        refine (g_congr arg7 (k0_off75_inb i h5) (View.readAt (Elt F) arg5.view (Rect.unit (s := S1x4x4224x128) (k0_off76 i) S1x1x384x128.size (k0_off76_inb i h5)).toLoadRect X5) (congrArg rowMax e3) ?_ (f_congr arg7 (k0_off67_inb i h4 0) (k0_off67_inb i h4 1) (View.readAt (Elt F) arg5.view (Rect.unit (s := S1x4x4224x128) (k0_off68 i) S1x1x768x128.size (k0_off68_inb i h4)).toLoadRect X5) (congrArg rowMax e3) ?_ (congrArg k0_pay183 (congrArg (fun a : Acc4 F => a.2.2.2) (t3A_congr i arg5 arg7 X5 (congrArg rowMax e0) (congrArg rowMax e1) (congrArg rowMax e2) (congrArg rowMax e3) ?_ rfl)))))
        · unfold sc2 ePieces bPieces
          refine (readAt_over arg7.view (k0_off44_inb i h3) (k0_off75_inb i h5) _ _ (t1C i arg4 arg7 (qAt0 arg3 X3) (qAt1 arg3 X3) (qAt2 arg3 X3) (qAt3 arg3 X3) X4 f7 (k0_t1_loop i).trips) _ (List.mem_cons_self ..) ((off44 i).trans (off75 i).symm)).trans (congrArg (View.readAt (Elt F) arg7.view (Rect.unit (s := S4x11x384x384) (k0_off75 i) S1x1x384x384.size (k0_off75_inb i h5)).toLoadRect) (congrArg₂ (arg7.view.writes (Elt F)) rfl ?_))
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
    · refine congrArg₂ k0_pay188 ?_ ?_
      · unfold run2.sl.v98
        try unfold run2.sl.H9_12
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v196_1
        try unfold run2.sl.H9_11
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v190_2
        try unfold run2.sl.H9_10
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v189_2
        try unfold run2.sl.v186_2
        try unfold run2.sl.v149_2
        try unfold run2.sl.v143_1
        try unfold run2.sl.v142_1
        try unfold run2.sl.v141_2
        try unfold run2.sl.v140_2
        try unfold run2.sl.v139_1
        try unfold run2.sl.v138_2
        try unfold run2.sl.v185_1
        try unfold run2.sl.v184_1
        try unfold run2.sl.H9_9
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v183_2
        try unfold run2.sl.v180_2
        try unfold run2.sl.v135_2
        try unfold run2.sl.v129_2
        try unfold run2.sl.v128_2
        try unfold run2.sl.v127_2
        try unfold run2.sl.v126_2
        try unfold run2.sl.v125_2
        try unfold run2.sl.v124_2
        try unfold run2.sl.v179_2
        try unfold run2.sl.v178_2
        try unfold run2.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v219_1
        try unfold run2.sl.v198
        try unfold run2.sl.v192
        try unfold run2.sl.v191
        try unfold run2.sl.v190_1
        try unfold run2.sl.v189_1
        try unfold run2.sl.v218_1
        try unfold run2.sl.v217_1
        try unfold run2.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v216_1
        try unfold run2.sl.v213_1
        try unfold run2.sl.v179_1
        try unfold run2.sl.v173_1
        try unfold run2.sl.v172_1
        try unfold run2.sl.v171_1
        try unfold run2.sl.v170_1
        try unfold run2.sl.v212_1
        try unfold run2.sl.v211_1
        try unfold run2.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v210_1
        try unfold run2.sl.v207_1
        try unfold run2.sl.v160_1
        try unfold run2.sl.v154_1
        try unfold run2.sl.v153_1
        try unfold run2.sl.v152_1
        try unfold run2.sl.v151_1
        try unfold run2.sl.v206_1
        try unfold run2.sl.v205
        try unfold run2.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v204
        try unfold run2.sl.v201_1
        try unfold run2.sl.v141_1
        try unfold run2.sl.v135_1
        try unfold run2.sl.v134_1
        try unfold run2.sl.v133_1
        try unfold run2.sl.v132
        try unfold run2.sl.v200_1
        try unfold run2.sl.v199
        try unfold run2.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v163_1
        try unfold run2.sl.v157_2
        try unfold run2.sl.v156_1
        try unfold run2.sl.v155_1
        try unfold run2.sl.v154_2
        try unfold run2.sl.v153_2
        try unfold run2.sl.v152_2
        try unfold run2.sl.v177_1
        try unfold run2.sl.v171_2
        try unfold run2.sl.v170_2
        try unfold run2.sl.v169_1
        try unfold run2.sl.v168_1
        try unfold run2.sl.v167_2
        try unfold run2.sl.v166_1
        try unfold run2.sl.r_13
        unfold sum2 stored
        unfold fSum
        unfold gSum
        refine (g_congr arg7 (k0_off69_inb i h5) (View.readAt (Elt F) arg5.view (Rect.unit (s := S1x4x4224x128) (k0_off70 i) S1x1x384x128.size (k0_off70_inb i h5)).toLoadRect X5) (congrArg rowMax e0) ?_ (f_congr arg7 (k0_off61_inb i h4 0) (k0_off61_inb i h4 1) (View.readAt (Elt F) arg5.view (Rect.unit (s := S1x4x4224x128) (k0_off62 i) S1x1x768x128.size (k0_off62_inb i h4)).toLoadRect X5) (congrArg rowMax e0) ?_ (congrArg k0_pay180 (congrArg (fun a : Acc4 F => a.1) (t3A_congr i arg5 arg7 X5 (congrArg rowMax e0) (congrArg rowMax e1) (congrArg rowMax e2) (congrArg rowMax e3) ?_ rfl)))))
        · unfold sc2 ePieces bPieces
          refine (readAt_over arg7.view (k0_off38_inb i h3) (k0_off69_inb i h5) _ _ (t1C i arg4 arg7 (qAt0 arg3 X3) (qAt1 arg3 X3) (qAt2 arg3 X3) (qAt3 arg3 X3) X4 f7 (k0_t1_loop i).trips) _ (List.mem_cons_of_mem _ (List.mem_cons_of_mem _ (List.mem_cons_of_mem _ (List.mem_cons_self ..)))) ((off38 i).trans (off69 i).symm)).trans (congrArg (View.readAt (Elt F) arg7.view (Rect.unit (s := S4x11x384x384) (k0_off69 i) S1x1x384x384.size (k0_off69_inb i h5)).toLoadRect) (congrArg₂ (arg7.view.writes (Elt F)) rfl ?_))
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
      · unfold run2.sl.v100
        try unfold run2.sl.H9_12
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v196_1
        try unfold run2.sl.H9_11
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v190_2
        try unfold run2.sl.H9_10
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v189_2
        try unfold run2.sl.v186_2
        try unfold run2.sl.v149_2
        try unfold run2.sl.v143_1
        try unfold run2.sl.v142_1
        try unfold run2.sl.v141_2
        try unfold run2.sl.v140_2
        try unfold run2.sl.v139_1
        try unfold run2.sl.v138_2
        try unfold run2.sl.v185_1
        try unfold run2.sl.v184_1
        try unfold run2.sl.H9_9
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v183_2
        try unfold run2.sl.v180_2
        try unfold run2.sl.v135_2
        try unfold run2.sl.v129_2
        try unfold run2.sl.v128_2
        try unfold run2.sl.v127_2
        try unfold run2.sl.v126_2
        try unfold run2.sl.v125_2
        try unfold run2.sl.v124_2
        try unfold run2.sl.v179_2
        try unfold run2.sl.v178_2
        try unfold run2.sl.H9_8
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v219_1
        try unfold run2.sl.v198
        try unfold run2.sl.v192
        try unfold run2.sl.v191
        try unfold run2.sl.v190_1
        try unfold run2.sl.v189_1
        try unfold run2.sl.v218_1
        try unfold run2.sl.v217_1
        try unfold run2.sl.H9_7
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v216_1
        try unfold run2.sl.v213_1
        try unfold run2.sl.v179_1
        try unfold run2.sl.v173_1
        try unfold run2.sl.v172_1
        try unfold run2.sl.v171_1
        try unfold run2.sl.v170_1
        try unfold run2.sl.v212_1
        try unfold run2.sl.v211_1
        try unfold run2.sl.H9_6
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v210_1
        try unfold run2.sl.v207_1
        try unfold run2.sl.v160_1
        try unfold run2.sl.v154_1
        try unfold run2.sl.v153_1
        try unfold run2.sl.v152_1
        try unfold run2.sl.v151_1
        try unfold run2.sl.v206_1
        try unfold run2.sl.v205
        try unfold run2.sl.H9_5
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v204
        try unfold run2.sl.v201_1
        try unfold run2.sl.v141_1
        try unfold run2.sl.v135_1
        try unfold run2.sl.v134_1
        try unfold run2.sl.v133_1
        try unfold run2.sl.v132
        try unfold run2.sl.v200_1
        try unfold run2.sl.v199
        try unfold run2.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run2.sl.v163_1
        try unfold run2.sl.v157_2
        try unfold run2.sl.v156_1
        try unfold run2.sl.v155_1
        try unfold run2.sl.v154_2
        try unfold run2.sl.v153_2
        try unfold run2.sl.v152_2
        try unfold run2.sl.v177_1
        try unfold run2.sl.v171_2
        try unfold run2.sl.v170_2
        try unfold run2.sl.v169_1
        try unfold run2.sl.v168_1
        try unfold run2.sl.v167_2
        try unfold run2.sl.v166_1
        try unfold run2.sl.r_13
        unfold sum2 stored
        unfold fSum
        unfold gSum
        refine (g_congr arg7 (k0_off71_inb i h5) (View.readAt (Elt F) arg5.view (Rect.unit (s := S1x4x4224x128) (k0_off72 i) S1x1x384x128.size (k0_off72_inb i h5)).toLoadRect X5) (congrArg rowMax e1) ?_ (f_congr arg7 (k0_off63_inb i h4 0) (k0_off63_inb i h4 1) (View.readAt (Elt F) arg5.view (Rect.unit (s := S1x4x4224x128) (k0_off64 i) S1x1x768x128.size (k0_off64_inb i h4)).toLoadRect X5) (congrArg rowMax e1) ?_ (congrArg k0_pay181 (congrArg (fun a : Acc4 F => a.2.1) (t3A_congr i arg5 arg7 X5 (congrArg rowMax e0) (congrArg rowMax e1) (congrArg rowMax e2) (congrArg rowMax e3) ?_ rfl)))))
        · unfold sc2 ePieces bPieces
          refine (readAt_over arg7.view (k0_off40_inb i h3) (k0_off71_inb i h5) _ _ (t1C i arg4 arg7 (qAt0 arg3 X3) (qAt1 arg3 X3) (qAt2 arg3 X3) (qAt3 arg3 X3) X4 f7 (k0_t1_loop i).trips) _ (List.mem_cons_of_mem _ (List.mem_cons_of_mem _ (List.mem_cons_self ..))) ((off40 i).trans (off71 i).symm)).trans (congrArg (View.readAt (Elt F) arg7.view (Rect.unit (s := S4x11x384x384) (k0_off71 i) S1x1x384x384.size (k0_off71_inb i h5)).toLoadRect) (congrArg₂ (arg7.view.writes (Elt F)) rfl ?_))
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
        · unfold sc2 ePieces bPieces
          refine congrArg₂ (arg7.view.writes (Elt F)) rfl ?_
          iterate 12 (refine congrArg₂ List.cons (congrArg (fun w => (⟨_, w⟩ : View.Piece (Elt F) S4x11x384x384 .f32)) (by rfl)) ?_)
          rfl
  isplitl [H7]; · iexists _; iexact H7
  isplitl [H8]; · iexists _; iexact H8
  iexists _; iexact H9

end Cert.Proof.Attn
end
-- ==== Proof.AttnRun3.lean ====
module

public import proofs.«01_k».proof.Proof.AttnSpec

@[expose] public section

set_option maxRecDepth 8192
set_option maxHeartbeats 4000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]
local notation "𝕄G" => MT nD τ sig Unit (Elt F) ℕ (UR sig nD τ) ℕ

/-- The body's run for blocks that are 3 modulo 4: it stores the two pieces of the result. -/
theorem run3 (𝒱 : Variants) (c : Dev nD) (bd : Option 𝒱.V) (E : Set ℕ) (i : grid0.Coords) (arg3 : Memref sig .tc .vmem S1x4x384x128 .bf16) (harg3 : arg3.IsWhole) (arg4 : Memref sig .tc .vmem S1x4x4224x128 .bf16) (harg4 : arg4.IsWhole) (arg5 : Memref sig .tc .vmem S1x4x4224x128 .bf16) (harg5 : arg5.IsWhole) (arg6 : Memref sig .tc .vmem S1x384x256 .bf16) (harg6 : arg6.IsWhole) (arg7 : Memref sig .tc .vmem S4x11x384x384 .f32) (harg7 : arg7.IsWhole) (arg8 : Memref sig .tc .vmem S4x384x128 .f32) (harg8 : arg8.IsWhole) (arg9 : Memref sig .tc .vmem S4x384x128 .f32) (harg9 : arg9.IsWhole)
    (h1 : k0_cond1 i = 1#1) (h2 : k0_cond2 i = 1#1) (h3 : ¬ k0_cond3 i = 1#1) (h4 : ¬ k0_cond4 i = 1#1) (h5 : ¬ k0_cond5 i = 1#1)
    (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
    ⊢ wp frame (wpE (defs₀ (F := F)) 𝒱 (c : Thread nD τ) bd) E (cc0__attn_kernel (F := F) i arg3 harg3 arg4 harg4 arg5 harg5 arg6 harg6 arg7 harg7 arg8 harg8 arg9 harg9)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6) ∗ ⌜g6 = arg6.view.writes (Elt F) f6 (outPieces (sum3 i arg3 arg4 arg5 arg7 h1 h2 X3 X4 X5 f7))⌝) ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  rw [cc0__attn_kernel_eq_skeleton]
  unfold cc0__attn_kernel_skel
  simp only [k0_part31_eq_skeleton, k0_part32_eq_skeleton, k0_part33_eq_skeleton, k0_part34_eq_skeleton]
  iintro ⟨H3, H4, H5, H6, H7, H8, H9⟩
  sl_exec
  sl_step
  isplitl [H3]; · iexact H3
  isplitl [H4]; · iexact H4
  isplitl [H5]; · iexact H5
  isplitl [H6]
  · iexists _
    isplitl [H6]; · iexact H6
    ipureintro
    unfold outPieces
    have e0 : run3.sl.v46 (F := F) i arg3 arg4 arg8 h1 h2 X3 X4 = (max3 i arg3 arg4 arg5 arg7 h1 h2 X3 X4 X5 f7).1 := by
      unfold run3.sl.v46
      try unfold run3.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v253
      try unfold run3.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v216_1
      try unfold run3.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v179_1
      try unfold run3.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v142_1
      try unfold run3.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v160
      try unfold run3.sl.v124
      try unfold run3.sl.v123
      try unfold run3.sl.v190
      try unfold run3.sl.v126
      try unfold run3.sl.v125
      try unfold run3.sl.v220
      try unfold run3.sl.v128
      try unfold run3.sl.v127
      try unfold run3.sl.v130
      try unfold run3.sl.v129
      try unfold run3.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e1 : run3.sl.v50 (F := F) i arg3 arg4 arg8 h1 h2 X3 X4 = (max3 i arg3 arg4 arg5 arg7 h1 h2 X3 X4 X5 f7).2.1 := by
      unfold run3.sl.v50
      try unfold run3.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v253
      try unfold run3.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v216_1
      try unfold run3.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v179_1
      try unfold run3.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v142_1
      try unfold run3.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v160
      try unfold run3.sl.v124
      try unfold run3.sl.v123
      try unfold run3.sl.v190
      try unfold run3.sl.v126
      try unfold run3.sl.v125
      try unfold run3.sl.v220
      try unfold run3.sl.v128
      try unfold run3.sl.v127
      try unfold run3.sl.v130
      try unfold run3.sl.v129
      try unfold run3.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e2 : run3.sl.v54 (F := F) i arg3 arg4 arg8 h1 h2 X3 X4 = (max3 i arg3 arg4 arg5 arg7 h1 h2 X3 X4 X5 f7).2.2.1 := by
      unfold run3.sl.v54
      try unfold run3.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v253
      try unfold run3.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v216_1
      try unfold run3.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v179_1
      try unfold run3.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v142_1
      try unfold run3.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v160
      try unfold run3.sl.v124
      try unfold run3.sl.v123
      try unfold run3.sl.v190
      try unfold run3.sl.v126
      try unfold run3.sl.v125
      try unfold run3.sl.v220
      try unfold run3.sl.v128
      try unfold run3.sl.v127
      try unfold run3.sl.v130
      try unfold run3.sl.v129
      try unfold run3.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    have e3 : run3.sl.v58 (F := F) i arg3 arg4 arg8 h1 h2 X3 X4 = (max3 i arg3 arg4 arg5 arg7 h1 h2 X3 X4 X5 f7).2.2.2 := by
      unfold run3.sl.v58
      try unfold run3.sl.H8_12
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v253
      try unfold run3.sl.H8_11
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v216_1
      try unfold run3.sl.H8_10
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v179_1
      try unfold run3.sl.H8_9
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v142_1
      try unfold run3.sl.H8_8
      try simp -proj -dsimp only [skip_0_1, skip_0_2, skip_0_3, skip_1_0, skip_1_2, skip_1_3, skip_2_0, skip_2_1, skip_2_3, skip_3_0, skip_3_1, skip_3_2, View.readCov_cons_toLoadRect]
      try unfold run3.sl.v160
      try unfold run3.sl.v124
      try unfold run3.sl.v123
      try unfold run3.sl.v190
      try unfold run3.sl.v126
      try unfold run3.sl.v125
      try unfold run3.sl.v220
      try unfold run3.sl.v128
      try unfold run3.sl.v127
      try unfold run3.sl.v130
      try unfold run3.sl.v129
      try unfold run3.sl.H8_4
      try simp -proj -dsimp only [skip_0_1, skip_0_2, skip_0_3, skip_1_0, skip_1_2, skip_1_3, skip_2_0, skip_2_1, skip_2_3, skip_3_0, skip_3_1, skip_3_2, View.readCov_cons_toLoadRect]
      rfl
    refine congrArg (arg6.view.writes (Elt F) f6) ?_
    refine congrArg₂ List.cons (congrArg (fun w => (⟨_, w⟩ : View.Piece (Elt F) S1x384x256 .bf16)) ?_) (congrArg₂ List.cons (congrArg (fun w => (⟨_, w⟩ : View.Piece (Elt F) S1x384x256 .bf16)) ?_) rfl)
    · unfold run3.sl.r_13 run3.sl.r_14 run3.sl.r_15
      refine (pay1_eq _ _).trans (congrArg₂ k0_pay188 ?_ ?_)
      · unfold run3.sl.v110
        try unfold run3.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run3.sl.r_12
        unfold sum3 stored
        refine (congrArg k0_pay182 (congrArg (fun a : Acc4 F => a.2.2.1) (t3A_congr i arg5 arg7 X5 (congrArg rowMax e0) (congrArg rowMax e1) (congrArg rowMax e2) (congrArg rowMax e3) ?_ rfl)))
        · unfold sc3 oPieces bPieces
          refine congrArg₂ (arg7.view.writes (Elt F)) rfl ?_
          iterate 16 (refine congrArg₂ List.cons (congrArg (fun w => (⟨_, w⟩ : View.Piece (Elt F) S4x11x384x384 .f32)) (by rfl)) ?_)
          rfl
      · unfold run3.sl.v112
        try unfold run3.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run3.sl.r_12
        unfold sum3 stored
        refine (congrArg k0_pay183 (congrArg (fun a : Acc4 F => a.2.2.2) (t3A_congr i arg5 arg7 X5 (congrArg rowMax e0) (congrArg rowMax e1) (congrArg rowMax e2) (congrArg rowMax e3) ?_ rfl)))
        · unfold sc3 oPieces bPieces
          refine congrArg₂ (arg7.view.writes (Elt F)) rfl ?_
          iterate 16 (refine congrArg₂ List.cons (congrArg (fun w => (⟨_, w⟩ : View.Piece (Elt F) S4x11x384x384 .f32)) (by rfl)) ?_)
          rfl
    · refine congrArg₂ k0_pay188 ?_ ?_
      · unfold run3.sl.v98
        try unfold run3.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run3.sl.r_12
        unfold sum3 stored
        refine (congrArg k0_pay180 (congrArg (fun a : Acc4 F => a.1) (t3A_congr i arg5 arg7 X5 (congrArg rowMax e0) (congrArg rowMax e1) (congrArg rowMax e2) (congrArg rowMax e3) ?_ rfl)))
        · unfold sc3 oPieces bPieces
          refine congrArg₂ (arg7.view.writes (Elt F)) rfl ?_
          iterate 16 (refine congrArg₂ List.cons (congrArg (fun w => (⟨_, w⟩ : View.Piece (Elt F) S4x11x384x384 .f32)) (by rfl)) ?_)
          rfl
      · unfold run3.sl.v100
        try unfold run3.sl.H9_4
        try simp -proj -dsimp only [skip_0_1, skip_0_2, skip_0_3, skip_1_0, skip_1_2, skip_1_3, skip_2_0, skip_2_1, skip_2_3, skip_3_0, skip_3_1, skip_3_2, View.readCov_cons_toLoadRect]
        try unfold run3.sl.r_12
        unfold sum3 stored
        refine (congrArg k0_pay181 (congrArg (fun a : Acc4 F => a.2.1) (t3A_congr i arg5 arg7 X5 (congrArg rowMax e0) (congrArg rowMax e1) (congrArg rowMax e2) (congrArg rowMax e3) ?_ rfl)))
        · unfold sc3 oPieces bPieces
          refine congrArg₂ (arg7.view.writes (Elt F)) rfl ?_
          iterate 16 (refine congrArg₂ List.cons (congrArg (fun w => (⟨_, w⟩ : View.Piece (Elt F) S4x11x384x384 .f32)) (by rfl)) ?_)
          rfl
  isplitl [H7]; · iexists _; iexact H7
  isplitl [H8]; · iexists _; iexact H8
  iexists _; iexact H9

end Cert.Proof.Attn
end
-- ==== Proof.AttnFrame.lean ====
/-
  The attention call from launch to end, over the extended reals: every grid point's body leaves its block's result in
  the output's buffer, so the run ends with the output array holding those blocks and the argument arrays as launched.
-/
module

public import proofs.«01_k».proof.Proof.AttnBlock
public import proofs.«01_k».proof.Proof.AttnRun0
public import proofs.«01_k».proof.Proof.AttnRun1
public import proofs.«01_k».proof.Proof.AttnRun2
public import proofs.«01_k».proof.Proof.AttnRun3
public import proofs.«01_k».proof.Proof.Gen.Kernel3Ideal.Frame

@[expose] public section

set_option maxRecDepth 16384
set_option maxHeartbeats 1000000

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3Ideal Cert.Kernel3Ideal.Gen

local notation "𝕄" => MT nD τ sig Unit (Elt Ideal) ℕ (UR sig nD τ) ℕ

/-! ## Which branches a block takes -/

theorem br0_1 : ∀ i : grid0.Coords, (i 2).val % 4 = 0 → ¬ k0_cond1 i = 1#1 := by decide +kernel
theorem br0_2 : ∀ i : grid0.Coords, (i 2).val % 4 = 0 → ¬ k0_cond2 i = 1#1 := by decide +kernel
theorem br0_3 : ∀ i : grid0.Coords, (i 2).val % 4 = 0 → k0_cond3 i = 1#1 := by decide +kernel
theorem br0_4 : ∀ i : grid0.Coords, (i 2).val % 4 = 0 → ¬ k0_cond4 i = 1#1 := by decide +kernel
theorem br0_5 : ∀ i : grid0.Coords, (i 2).val % 4 = 0 → k0_cond5 i = 1#1 := by decide +kernel
theorem br1_1 : ∀ i : grid0.Coords, (i 2).val % 4 = 1 → ¬ k0_cond1 i = 1#1 := by decide +kernel
theorem br1_2 : ∀ i : grid0.Coords, (i 2).val % 4 = 1 → k0_cond2 i = 1#1 := by decide +kernel
theorem br1_3 : ∀ i : grid0.Coords, (i 2).val % 4 = 1 → ¬ k0_cond3 i = 1#1 := by decide +kernel
theorem br1_4 : ∀ i : grid0.Coords, (i 2).val % 4 = 1 → k0_cond4 i = 1#1 := by decide +kernel
theorem br1_5 : ∀ i : grid0.Coords, (i 2).val % 4 = 1 → ¬ k0_cond5 i = 1#1 := by decide +kernel
theorem br2_1 : ∀ i : grid0.Coords, (i 2).val % 4 = 2 → k0_cond1 i = 1#1 := by decide +kernel
theorem br2_2 : ∀ i : grid0.Coords, (i 2).val % 4 = 2 → ¬ k0_cond2 i = 1#1 := by decide +kernel
theorem br2_3 : ∀ i : grid0.Coords, (i 2).val % 4 = 2 → k0_cond3 i = 1#1 := by decide +kernel
theorem br2_4 : ∀ i : grid0.Coords, (i 2).val % 4 = 2 → k0_cond4 i = 1#1 := by decide +kernel
theorem br2_5 : ∀ i : grid0.Coords, (i 2).val % 4 = 2 → k0_cond5 i = 1#1 := by decide +kernel
theorem br3_1 : ∀ i : grid0.Coords, (i 2).val % 4 = 3 → k0_cond1 i = 1#1 := by decide +kernel
theorem br3_2 : ∀ i : grid0.Coords, (i 2).val % 4 = 3 → k0_cond2 i = 1#1 := by decide +kernel
theorem br3_3 : ∀ i : grid0.Coords, (i 2).val % 4 = 3 → ¬ k0_cond3 i = 1#1 := by decide +kernel
theorem br3_4 : ∀ i : grid0.Coords, (i 2).val % 4 = 3 → ¬ k0_cond4 i = 1#1 := by decide +kernel
theorem br3_5 : ∀ i : grid0.Coords, (i 2).val % 4 = 3 → ¬ k0_cond5 i = 1#1 := by decide +kernel

/-- The body at any grid point: the output's buffer ends at the block's result. -/
theorem body_any (c : Dev nD) (i : grid0.Coords) (arg3 : Memref sig .tc .vmem S1x4x384x128 .bf16) (harg3 : arg3.IsWhole) (arg4 : Memref sig .tc .vmem S1x4x4224x128 .bf16) (harg4 : arg4.IsWhole)
    (arg5 : Memref sig .tc .vmem S1x4x4224x128 .bf16) (harg5 : arg5.IsWhole) (arg6 : Memref sig .tc .vmem S1x384x256 .bf16) (harg6 : arg6.IsWhole)
    (arg7 : Memref sig .tc .vmem S4x11x384x384 .f32) (harg7 : arg7.IsWhole) (arg8 : Memref sig .tc .vmem S4x384x128 .f32) (harg8 : arg8.IsWhole)
    (arg9 : Memref sig .tc .vmem S4x384x128 .f32) (harg9 : arg9.IsWhole)
    (X3 : BufTy.Contents (Elt Ideal) arg3.view.ty) (X4 : BufTy.Contents (Elt Ideal) arg4.view.ty) (X5 : BufTy.Contents (Elt Ideal) arg5.view.ty)
    (f6 : BufTy.Contents (Elt Ideal) arg6.view.ty) (f7 : BufTy.Contents (Elt Ideal) arg7.view.ty) (f8 : BufTy.Contents (Elt Ideal) arg8.view.ty) (f9 : BufTy.Contents (Elt Ideal) arg9.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
    ⊢ wp frame (wpE (defs₀ (F := Ideal)) Variants.none (c : Thread nD τ) none) Set.univ (cc0__attn_kernel (F := Ideal) i arg3 harg3 arg4 harg4 arg5 harg5 arg6 harg6 arg7 harg7 arg8 harg8 arg9 harg9)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g6, (arg6.view.loc (c : Thread nD τ) ↦[arg6.view.set]{fullShare} g6) ∗ ⌜arg6.view.read (Elt Ideal) g6 = outB (i 2).val (arg3.view.read (Elt Ideal) X3) (arg4.view.read (Elt Ideal) X4) (arg5.view.read (Elt Ideal) X5)⌝)
          ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)))) := by
  have hlt : (i 2).val % 4 < 4 := Nat.mod_lt _ (by decide)
  obtain h | h | h | h : (i 2).val % 4 = 0 ∨ (i 2).val % 4 = 1 ∨ (i 2).val % 4 = 2 ∨ (i 2).val % 4 = 3 := by omega
  · refine (run0 (F := Ideal) Variants.none c none Set.univ i arg3 harg3 arg4 harg4 arg5 harg5 arg6 harg6 arg7 harg7 arg8 harg8 arg9 harg9 (br0_1 i h) (br0_2 i h) (br0_3 i h) (br0_4 i h) (br0_5 i h) X3 X4 X5 f6 f7 f8 f9).trans (wp_mono _ _ _ fun _ => ?_)
    iintro ⟨H3, H4, H5, ⟨%g6, H6, %e6⟩, H7, H8, H9⟩
    isplitl [H3]; · iexact H3
    isplitl [H4]; · iexact H4
    isplitl [H5]; · iexact H5
    isplitl [H6]
    · iexists g6
      isplitl [H6]; · iexact H6
      ipureintro
      rw [e6]; exact block0 i arg3 arg4 arg5 arg7 X3 X4 X5 (br0_3 i h) (br0_5 i h) h f7 arg6 f6
    isplitl [H7]; · iexact H7
    isplitl [H8]; · iexact H8
    iexact H9
  · refine (run1 (F := Ideal) Variants.none c none Set.univ i arg3 harg3 arg4 harg4 arg5 harg5 arg6 harg6 arg7 harg7 arg8 harg8 arg9 harg9 (br1_1 i h) (br1_2 i h) (br1_3 i h) (br1_4 i h) (br1_5 i h) X3 X4 X5 f6 f7 f8 f9).trans (wp_mono _ _ _ fun _ => ?_)
    iintro ⟨H3, H4, H5, ⟨%g6, H6, %e6⟩, H7, H8, H9⟩
    isplitl [H3]; · iexact H3
    isplitl [H4]; · iexact H4
    isplitl [H5]; · iexact H5
    isplitl [H6]
    · iexists g6
      isplitl [H6]; · iexact H6
      ipureintro
      rw [e6]; exact block1 i arg3 arg4 arg5 arg7 X3 X4 X5 (br1_2 i h) (br1_4 i h) h f7 arg6 f6
    isplitl [H7]; · iexact H7
    isplitl [H8]; · iexact H8
    iexact H9
  · refine (run2 (F := Ideal) Variants.none c none Set.univ i arg3 harg3 arg4 harg4 arg5 harg5 arg6 harg6 arg7 harg7 arg8 harg8 arg9 harg9 (br2_1 i h) (br2_2 i h) (br2_3 i h) (br2_4 i h) (br2_5 i h) X3 X4 X5 f6 f7 f8 f9).trans (wp_mono _ _ _ fun _ => ?_)
    iintro ⟨H3, H4, H5, ⟨%g6, H6, %e6⟩, H7, H8, H9⟩
    isplitl [H3]; · iexact H3
    isplitl [H4]; · iexact H4
    isplitl [H5]; · iexact H5
    isplitl [H6]
    · iexists g6
      isplitl [H6]; · iexact H6
      ipureintro
      rw [e6]; exact block2 i arg3 arg4 arg5 arg7 X3 X4 X5 (br2_1 i h) (br2_3 i h) (br2_4 i h) (br2_5 i h) h f7 arg6 f6
    isplitl [H7]; · iexact H7
    isplitl [H8]; · iexact H8
    iexact H9
  · refine (run3 (F := Ideal) Variants.none c none Set.univ i arg3 harg3 arg4 harg4 arg5 harg5 arg6 harg6 arg7 harg7 arg8 harg8 arg9 harg9 (br3_1 i h) (br3_2 i h) (br3_3 i h) (br3_4 i h) (br3_5 i h) X3 X4 X5 f6 f7 f8 f9).trans (wp_mono _ _ _ fun _ => ?_)
    iintro ⟨H3, H4, H5, ⟨%g6, H6, %e6⟩, H7, H8, H9⟩
    isplitl [H3]; · iexact H3
    isplitl [H4]; · iexact H4
    isplitl [H5]; · iexact H5
    isplitl [H6]
    · iexists g6
      isplitl [H6]; · iexact H6
      ipureintro
      rw [e6]; exact block3 i arg3 arg4 arg5 arg7 X3 X4 X5 (br3_1 i h) (br3_2 i h) h f7 arg6 f6
    isplitl [H7]; · iexact H7
    isplitl [H8]; · iexact H8
    iexact H9

/-! ## The pipeline's data and the body's obligation -/

variable (m : (ℓ : Loc nD τ sig) → Buf (Elt Ideal) ℓ) (ρ : Dev nD → PrngReg)

/-- The arrays as the call finds them; after a point's body every input's buffer holds its block and the output's the block's result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB ((grid0.coords t) 2).val (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = outB ((grid0.coords t) 2).val (iblk m c 0 t) (iblk m c 1 t) (iblk m c 2 t) := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d

/-- What a point's body is given. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem scratch0_eq (c : Dev nD) (f : Buf (Elt Ideal) ((c : Thread nD τ).loc cc0_scratch0)) :
    ((Memref.whole cc0_scratch0).view.loc (c : Thread nD τ) ↦[(Memref.whole cc0_scratch0).view.set]{fullShare} f : sProp 𝕄)
      = (((c : Thread nD τ).loc cc0_scratch0) ↦{fullShare} f : sProp 𝕄) := by
  rw [show (Memref.whole cc0_scratch0).view.set = Finset.univ from View.set_whole _]
theorem scratch1_eq (c : Dev nD) (f : Buf (Elt Ideal) ((c : Thread nD τ).loc cc0_scratch1)) :
    ((Memref.whole cc0_scratch1).view.loc (c : Thread nD τ) ↦[(Memref.whole cc0_scratch1).view.set]{fullShare} f : sProp 𝕄)
      = (((c : Thread nD τ).loc cc0_scratch1) ↦{fullShare} f : sProp 𝕄) := by
  rw [show (Memref.whole cc0_scratch1).view.set = Finset.univ from View.set_whole _]
theorem scratch2_eq (c : Dev nD) (f : Buf (Elt Ideal) ((c : Thread nD τ).loc cc0_scratch2)) :
    ((Memref.whole cc0_scratch2).view.loc (c : Thread nD τ) ↦[(Memref.whole cc0_scratch2).view.set]{fullShare} f : sProp 𝕄)
      = (((c : Thread nD τ).loc cc0_scratch2) ↦{fullShare} f : sProp 𝕄) := by
  rw [show (Memref.whole cc0_scratch2).view.set = Finset.univ from View.set_whole _]

/-- A point's body runs from what it is given to what it gives back: the scratch is taken out of the invariant and put back. -/
theorem point_body (c : Dev nD) (t : Fin cfg0.N) :
    given m c t ⊢ wp frame (wpE (defs₀ (F := Ideal)) Variants.none (c : Thread nD τ) none) Set.univ (bodyAt0 t) (fun _ => returned m c t) := by
  unfold given returned bodyAt0
  simp only [dats_before0, dats_before1, dats_before2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    dats_after0, dats_after1, dats_after2, dats_after3]
  unfold Pipeline.ΦA
  rw [scopedRest0_eq]
  simp only [← scratch0_eq, ← scratch1_eq, ← scratch2_eq]
  generalize (dats m 0 c).owesAt () t.castSucc = W
  generalize (dats m 0 c).before 3 t = B3
  unfold owns
  iintro ⟨⟨⟨⟨%f7, H7⟩, ⟨%f8, H8⟩, ⟨%f9, H9⟩⟩, Hr⟩, Ho, ⟨%d0, %f0, %hf0, H0⟩, ⟨%d1, %f1, %hf1, H1⟩, ⟨%d2, %f2, %hf2, H2⟩, ⟨%d3, %f3, -, H3⟩⟩
  rw [← hf0, ← hf1, ← hf2]
  iapply (wp_wand_r frame (wpE (defs₀ (F := Ideal)) Variants.none (c : Thread nD τ) none) Set.univ)
  isplitl [H0 H1 H2 H3 H7 H8 H9]
  · iapply (body_any c (grid0.coords t) _ _ _ _ _ _ _ _ _ _ _ _ _ _ f0 f1 f2 f3 f7 f8 f9)
    isplitl [H0]; · iexact H0
    isplitl [H1]; · iexact H1
    isplitl [H2]; · iexact H2
    isplitl [H3]; · iexact H3
    isplitl [H7]; · iexact H7
    isplitl [H8]; · iexact H8
    iexact H9
  · iintro %_ ⟨H0, H1, H2, ⟨%g3, H3, %e3⟩, ⟨%g7, H7⟩, ⟨%g8, H8⟩, ⟨%g9, H9⟩⟩
    isplitl [H7 H8 H9 Hr]
    · isplitl [H7 H8 H9]
      · isplitl [H7]; · iexists g7; iexact H7
        isplitl [H8]; · iexists g8; iexact H8
        iexists g9; iexact H9
      iexact Hr
    isplitl [Ho]; · iexact Ho
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists g3; isplitr; · ipureintro; exact e3
    iexact H3

theorem row_eq (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row_eq]
  exact triple_restated (point_body m c t) rfl .rfl fun _ => .rfl

/-! ## The run -/

set_option backward.isDefEq.respectTransparency.types false in
/-- The call ends, every counter at zero, its output array holding the blocks' results and every other array as found. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

end Cert.Proof.Attn

end
-- ==== Proof.AttnArray.lean ====
/-
  The attention's result array: the host's layout steps in front of the call are read back to the arguments (queries and
  keys with their heads in front, widened to 128 lanes with zeros, the queries scaled; the values beside columns of ones),
  and the blocks put together.
-/
module

public import proofs.«01_k».proof.Proof.AttnFrame
public import Idealize.ShloMosaic.Lib.Pipeline.ValueKit
public import Idealize.ShloMosaic.Lib.Pointwise

@[expose] public section

set_option maxHeartbeats 1000000

noncomputable section

namespace Cert.Proof.Attn

open Idealize.ShloMosaic Idealize.SL.Sem Cert.Kernel3Ideal Cert.Kernel3Ideal.Gen Idealize.ShloMosaic.TcCoe
open Idealize.ShloMosaic.Pipeline (Dat)

/-- Heads in front, 96 lanes widened to 128 with zeros. -/
def heads (x : Vec Ideal S8x4224x8x96 .f32) : Vec Ideal S8x8x4224x128 .f32 :=
  pad S8x8x4224x128 ![0, 0, 0, 0] ![0, 0, 0, 32] ![0, 0, 0, 0] (transpose S8x8x4224x96 [0, 2, 1, 3] x transposes_S8x4224x8x96_S8x8x4224x96_0_2_1_3)
    (sitofp (F := Ideal) .f32 (constantI S_ 32 0#32)) pads_S8x8x4224x96_S8x8x4224x128_000_000_000_0320 h_S_

theorem heads_apply (x : Vec Ideal S8x4224x8x96 .f32) (b H : Fin 8) (j : Fin 4224) (d : Fin 128) :
    heads x (ix4 b H j d) = if h : d.val < 96 then x (ix4 b j H ⟨d.val, h⟩) else 0 := by
  unfold heads
  pointwise
  split
  · rfl
  · show (((0#32 : BitVec 32).toInt : ℝ) : EReal) = 0
    simp

/-- The queries' scale. -/
def scale : EReal := Ideal.div (Ideal.ofBits .f32 0x3F800000#32) (Ideal.sqrt (Ideal.ofBits .f32 0x42C00000#32) * Ideal.log (Ideal.ofBits .f32 0x40000000#32))

/-- The values' heads, two by two. -/
def pairs (x : Vec Ideal S8x4224x8x64 .f32) : Vec Ideal S8x4x2x4224x64 .f32 :=
  shapeCast S8x4x2x4224x64 (transpose S8x8x4224x64 [0, 2, 1, 3] x transposes_S8x4224x8x64_S8x8x4224x64_0_2_1_3) shapeCasts_S8x8x4224x64_S8x4x2x4224x64

def ones : Vec Ideal S8x4x4224x64 .f32 := broadcastInDim S8x4x4224x64 ![] bcast_S_S8x4x4224x64 (constant (F := Ideal) S_ .f32 0x3F800000#32)

/-- An even head's slots: its values, then ones. -/
def evens (x : Vec Ideal S8x4224x8x64 .f32) : Vec Ideal S8x4x4224x128 .f32 :=
  concatenate S8x4x4224x128 3 [⟨S8x4x4224x64, shapeCast S8x4x4224x64 (extractStridedSlice S8x4x1x4224x64 ![0, 0, 0, 0, 0] (pairs x) slices_S8x4x2x4224x64_S8x4x1x4224x64_0_0_0_0_0) shapeCasts_S8x4x1x4224x64_S8x4x4224x64⟩,
    ⟨S8x4x4224x64, ones⟩] concatenates_S8x4x4224x64_S8x4x4224x64_S8x4x4224x128_d3
/-- An odd head's slots: ones, then its values. -/
def odds (x : Vec Ideal S8x4224x8x64 .f32) : Vec Ideal S8x4x4224x128 .f32 :=
  concatenate S8x4x4224x128 3 [⟨S8x4x4224x64, ones⟩,
    ⟨S8x4x4224x64, shapeCast S8x4x4224x64 (extractStridedSlice S8x4x1x4224x64 ![0, 0, 1, 0, 0] (pairs x) slices_S8x4x2x4224x64_S8x4x1x4224x64_0_0_1_0_0) shapeCasts_S8x4x1x4224x64_S8x4x4224x64⟩]
    concatenates_S8x4x4224x64_S8x4x4224x64_S8x4x4224x128_d3
def slots (x : Vec Ideal S8x4224x8x64 .f32) : Vec Ideal S8x8x4224x128 .f32 :=
  shapeCast S8x8x4224x128 (concatenate S8x4x2x4224x128 2 [⟨S8x4x1x4224x128, broadcastInDim S8x4x1x4224x128 ![0, 1, 3, 4] bcast_S8x4x4224x128_S8x4x1x4224x128_0_1_3_4 (evens x)⟩,
    ⟨S8x4x1x4224x128, broadcastInDim S8x4x1x4224x128 ![0, 1, 3, 4] bcast_S8x4x4224x128_S8x4x1x4224x128_0_1_3_4 (odds x)⟩]
    concatenates_S8x4x1x4224x128_S8x4x1x4224x128_S8x4x2x4224x128_d2) shapeCasts_S8x4x2x4224x128_S8x8x4224x128

theorem ones_apply (b : Fin 8) (u : Fin 4) (j : Fin 4224) (e : Fin 64) : ones (ix4 b u j e) = 1 := by
  unfold ones
  pointwise

theorem pairs_apply (x : Vec Ideal S8x4224x8x64 .f32) (b : Fin 8) (u : Fin 4) (s : Fin 2) (j : Fin 4224) (e : Fin 64) :
    pairs x (ix5 b u s j e) = x (ix4 b j ⟨2 * u.val + s.val, by omega⟩ e) := by
  unfold pairs
  refine (shapeCast_apply _ _ _ (ix4 b (⟨2 * u.val + s.val, by omega⟩ : Fin 8) j e) ?_).trans ?_
  · rw [Shape.rowMajor_val_five, Shape.rowMajor_val_four]
    show ((b.val * 8 + (2 * u.val + s.val)) * 4224 + j.val) * 64 + e.val = (((b.val * 4 + u.val) * 2 + s.val) * 4224 + j.val) * 64 + e.val
    omega
  · pointwise

theorem evens_apply (x : Vec Ideal S8x4224x8x64 .f32) (b : Fin 8) (u : Fin 4) (j : Fin 4224) (l : Fin 128) :
    evens x (ix4 b u j l) = if h : l.val < 64 then x (ix4 b j ⟨2 * u.val, by omega⟩ ⟨l.val, h⟩) else 1 := by
  have e : evens x (ix4 b u j l) = if h : l.val < 64 then pairs x (ix5 b u 0 j ⟨l.val, h⟩) else ones (ix4 b u j ⟨l.val - 64, by omega⟩) := by
    unfold evens
    generalize pairs x = y
    generalize ones = o
    pointwise
  rw [e]
  split
  · rw [pairs_apply]; rfl
  · rw [ones_apply]

theorem odds_apply (x : Vec Ideal S8x4224x8x64 .f32) (b : Fin 8) (u : Fin 4) (j : Fin 4224) (l : Fin 128) :
    odds x (ix4 b u j l) = if h : l.val < 64 then 1 else x (ix4 b j ⟨2 * u.val + 1, by omega⟩ ⟨l.val - 64, by omega⟩) := by
  have e : odds x (ix4 b u j l) = if h : l.val < 64 then ones (ix4 b u j ⟨l.val, h⟩) else pairs x (ix5 b u 1 j ⟨l.val - 64, by omega⟩) := by
    unfold odds
    generalize pairs x = y
    generalize ones = o
    pointwise
  rw [e]
  split
  · rw [ones_apply]
  · rw [pairs_apply]; rfl

theorem slots_apply (x : Vec Ideal S8x4224x8x64 .f32) (b : Fin 8) (u : Fin 4) (s : Fin 2) (H : Fin 8) (hH : H.val = 2 * u.val + s.val) (j : Fin 4224) (l : Fin 128) :
    slots x (ix4 b H j l) = if s.val = 0 then evens x (ix4 b u j l) else odds x (ix4 b u j l) := by
  unfold slots
  generalize evens x = ev
  generalize odds x = od
  refine (shapeCast_apply _ _ _ (ix5 b u s j l) ?_).trans ?_
  · rw [Shape.rowMajor_val_five, Shape.rowMajor_val_four]
    show (((b.val * 4 + u.val) * 2 + s.val) * 4224 + j.val) * 128 + l.val = ((b.val * 8 + H.val) * 4224 + j.val) * 128 + l.val
    omega
  · fin_cases s <;> pointwise

variable (m : (ℓ : Loc nD τ sig) → Buf (Elt Ideal) ℓ)

theorem V_q (c : Dev nD) : V m c main_v8 = truncf (F := Ideal) .bf16 (mulf (F := Ideal) (heads (m ((c : Thread nD τ).loc main_arg0)))
    (broadcastInDim S8x8x4224x128 ![] bcast_S_S8x8x4224x128 (Host.divf (constant (F := Ideal) S_ .f32 0x3F800000#32) (mulf (Host.sqrt (constant (F := Ideal) S_ .f32 0x42C00000#32)) (Host.log (constant (F := Ideal) S_ .f32 0x40000000#32)))))) bitsLt_bf16_f32 := by
  unfold V hostOps0 hostOps0_1 hostOps0_2 hostOps0_3 hostOps0_4
  simp only [List.flatten_cons, List.flatten_nil, List.append_nil, List.cons_append, List.nil_append]
  after_results <;> rfl
theorem V_k (c : Dev nD) : V m c main_v11 = truncf (F := Ideal) .bf16 (heads (m ((c : Thread nD τ).loc main_arg1))) bitsLt_bf16_f32 := by
  unfold V hostOps0 hostOps0_1 hostOps0_2 hostOps0_3 hostOps0_4
  simp only [List.flatten_cons, List.flatten_nil, List.append_nil, List.cons_append, List.nil_append]
  after_results <;> rfl
theorem V_v (c : Dev nD) : V m c main_v25 = truncf (F := Ideal) .bf16 (slots (m ((c : Thread nD τ).loc main_arg2))) bitsLt_bf16_f32 := by
  unfold V hostOps0 hostOps0_1 hostOps0_2 hostOps0_3 hostOps0_4
  simp only [List.flatten_cons, List.flatten_nil, List.append_nil, List.cons_append, List.nil_append]
  after_results <;> rfl

/-! The blocks. -/

theorem idx0 : ∀ t : Fin cfg0.N, win0_0.index t = ![(grid0.coords t 0).val, (grid0.coords t 1).val, (grid0.coords t 2).val, 0] :=
  (by decide +kernel : ∀ t : Fin grid0.N, _)
theorem idx1 : ∀ t : Fin cfg0.N, win0_1.index t = ![(grid0.coords t 0).val, (grid0.coords t 1).val, 0, 0] := (by decide +kernel : ∀ t : Fin grid0.N, _)
theorem idx2 : ∀ t : Fin cfg0.N, win0_2.index t = ![(grid0.coords t 0).val, (grid0.coords t 1).val, 0, 0] := (by decide +kernel : ∀ t : Fin grid0.N, _)
theorem idx3 : ∀ t : Fin cfg0.N, win0_3.index t = ![(grid0.coords t 0).val, (grid0.coords t 2).val, (grid0.coords t 1).val] :=
  (by decide +kernel : ∀ t : Fin grid0.N, _)

theorem blk0_apply (c : Dev nD) (t : Fin cfg0.N) (h : Fin 4) (r : Fin 384) (d : Fin 128) (b H : Fin 8) (l : Fin 4224)
    (hb : b.val = (grid0.coords t 0).val) (hH : H.val = (grid0.coords t 1).val * 4 + h.val) (hl : l.val = (grid0.coords t 2).val * 384 + r.val) :
    iblk m c 0 t (ix4 0 h r d) = V m c main_v8 (ix4 b H l d) := by
  blk_ext! [iblk, idx0 t]

theorem blk1_apply (c : Dev nD) (t : Fin cfg0.N) (h : Fin 4) (j : Fin 4224) (d : Fin 128) (b H : Fin 8)
    (hb : b.val = (grid0.coords t 0).val) (hH : H.val = (grid0.coords t 1).val * 4 + h.val) :
    iblk m c 1 t (ix4 0 h j d) = V m c main_v11 (ix4 b H j d) := by
  blk_ext! [iblk, idx1 t]

theorem emb2 (X : S8x8x4224x128.Idx → EReal) (t : Fin cfg0.N) (h : Fin 4) (j : Fin 4224) (d : Fin 128) (b H : Fin 8)
    (hb : b.val = (grid0.coords t 0).val) (hH : H.val = (grid0.coords t 1).val * 4 + h.val) :
    X ((win0_2.rect t).emb (ix4 0 h j d)) = X (ix4 b H j d) := by
  have e0 := Pipeline.Window.rect_emb_val win0_2 t (ix4 0 h j d) 0
  have e1 := Pipeline.Window.rect_emb_val win0_2 t (ix4 0 h j d) 1
  have e2 := Pipeline.Window.rect_emb_val win0_2 t (ix4 0 h j d) 2
  have e3 := Pipeline.Window.rect_emb_val win0_2 t (ix4 0 h j d) 3
  have i0 : win0_2.index t 0 = (grid0.coords t 0).val := by rw [idx2]; rfl
  have i1 : win0_2.index t 1 = (grid0.coords t 1).val := by rw [idx2]; rfl
  have i2 : win0_2.index t 2 = 0 := by rw [idx2]; rfl
  have i3 : win0_2.index t 3 = 0 := by rw [idx2]; rfl
  rw [i0] at e0
  rw [i1] at e1
  rw [i2, Nat.zero_mul, Nat.zero_add] at e2
  rw [i3, Nat.zero_mul, Nat.zero_add] at e3
  refine congrArg X (funext fun a => Fin.ext ?_)
  match a with
  | ⟨0, _⟩ => refine e0.trans ?_; show (grid0.coords t 0).val * 1 + 0 = b.val; omega
  | ⟨1, _⟩ => refine e1.trans ?_; show (grid0.coords t 1).val * 4 + h.val = H.val; omega
  | ⟨2, _⟩ => exact e2
  | ⟨3, _⟩ => exact e3

theorem blk2_apply (c : Dev nD) (t : Fin cfg0.N) (h : Fin 4) (j : Fin 4224) (d : Fin 128) (b H : Fin 8)
    (hb : b.val = (grid0.coords t 0).val) (hH : H.val = (grid0.coords t 1).val * 4 + h.val) :
    iblk m c 2 t (ix4 0 h j d) = V m c main_v25 (ix4 b H j d) := by
  unfold iblk
  generalize V m c = Y
  simp only [View.read]
  refine eq_of_heq ((cast_heq _ _).trans (heq_of_eq ?_))
  exact emb2 (Y main_v25) t h j d b H hb hH

theorem truncf_at (x : Vec Ideal S8x8x4224x128 .f32) (i : S8x8x4224x128.Idx) : truncf (F := Ideal) .bf16 x bitsLt_bf16_f32 i = x i := rfl
theorem scaled_at (x : Vec Ideal S8x8x4224x128 .f32) (i : S8x8x4224x128.Idx) : truncf (F := Ideal) .bf16 (mulf (F := Ideal) x
    (broadcastInDim S8x8x4224x128 ![] bcast_S_S8x8x4224x128 (Host.divf (constant (F := Ideal) S_ .f32 0x3F800000#32) (mulf (Host.sqrt (constant (F := Ideal) S_ .f32 0x42C00000#32)) (Host.log (constant (F := Ideal) S_ .f32 0x40000000#32)))))) bitsLt_bf16_f32 i = x i * scale := rfl

theorem V_q_apply (c : Dev nD) (b H : Fin 8) (j : Fin 4224) (d : Fin 128) :
    V m c main_v8 (ix4 b H j d) = heads (m ((c : Thread nD τ).loc main_arg0)) (ix4 b H j d) * scale := by
  have e := congrFun (V_q m c) (ix4 b H j d)
  rw [scaled_at] at e
  exact e
theorem V_k_apply (c : Dev nD) (b H : Fin 8) (j : Fin 4224) (d : Fin 128) :
    V m c main_v11 (ix4 b H j d) = heads (m ((c : Thread nD τ).loc main_arg1)) (ix4 b H j d) := by
  have e := congrFun (V_k m c) (ix4 b H j d)
  rw [truncf_at] at e
  exact e
theorem V_v_apply (c : Dev nD) (b H : Fin 8) (j : Fin 4224) (d : Fin 128) :
    V m c main_v25 (ix4 b H j d) = slots (m ((c : Thread nD τ).loc main_arg2)) (ix4 b H j d) := by
  have e := congrFun (V_v m c) (ix4 b H j d)
  rw [truncf_at] at e
  exact e

/-! The result as a function of the arguments. -/

/-- A head's values in its slot of lanes. -/
theorem slots_val (x : Vec Ideal S8x4224x8x64 .f32) (b H : Fin 8) (j : Fin 4224) (e : Fin 64) (l : Fin 128) (hl : l.val = 64 * (H.val % 2) + e.val) :
    slots x (ix4 b H j l) = x (ix4 b j H e) := by
  have hH := H.isLt
  rw [slots_apply x b ⟨H.val / 2, by omega⟩ ⟨H.val % 2, by omega⟩ H (by show H.val = 2 * (H.val / 2) + H.val % 2; omega) j l]
  by_cases h : H.val % 2 = 0
  · rw [if_pos h, evens_apply, dif_pos (by omega)]
    have e1 : (⟨2 * (H.val / 2), by omega⟩ : Fin 8) = H := Fin.ext (by show 2 * (H.val / 2) = H.val; omega)
    have e2 : (⟨l.val, by omega⟩ : Fin 64) = e := Fin.ext (by show l.val = e.val; omega)
    exact congrArg₂ (fun k z => x (ix4 b j k z)) e1 e2
  · rw [if_neg h, odds_apply, dif_neg (by omega)]
    have e1 : (⟨2 * (H.val / 2) + 1, by omega⟩ : Fin 8) = H := Fin.ext (by show 2 * (H.val / 2) + 1 = H.val; omega)
    have e2 : (⟨l.val - 64, by omega⟩ : Fin 64) = e := Fin.ext (by show l.val - 64 = e.val; omega)
    exact congrArg₂ (fun k z => x (ix4 b j k z)) e1 e2

/-- The ones lie in the other half of lanes. -/
theorem slots_one (x : Vec Ideal S8x4224x8x64 .f32) (b H : Fin 8) (j : Fin 4224) (e : Fin 64) (l : Fin 128) (hl : l.val = (64 * (H.val % 2) + e.val + 64) % 128) :
    slots x (ix4 b H j l) = 1 := by
  have hH := H.isLt
  have he := e.isLt
  rw [slots_apply x b ⟨H.val / 2, by omega⟩ ⟨H.val % 2, by omega⟩ H (by show H.val = 2 * (H.val / 2) + H.val % 2; omega) j l]
  by_cases h : H.val % 2 = 0
  · rw [if_pos h, evens_apply, dif_neg (by omega)]
  · rw [if_neg h, odds_apply, dif_pos (by omega)]

/-- The scaled score of a query with a key. -/
def kq (x0 x1 : Vec Ideal S8x4224x8x96 .f32) (b H : Fin 8) (l : Fin 4224) (j : ℕ) : EReal :=
  ∑ d : Fin 128, (heads x0 (ix4 b H l d) * scale) * (if hj : j < 4224 then heads x1 (ix4 b H ⟨j, hj⟩ d) else 0)
/-- The score with the keys behind the query left out. -/
def km (x0 x1 : Vec Ideal S8x4224x8x96 .f32) (b H : Fin 8) (l : Fin 4224) (j : ℕ) : EReal := if j ≤ l.val then kq x0 x1 b H l j else ⊥
/-- A key's value. -/
def kv (x2 : Vec Ideal S8x4224x8x64 .f32) (b H : Fin 8) (e : Fin 64) (j : ℕ) : EReal := if hj : j < 4224 then x2 (ix4 b ⟨j, hj⟩ H e) else 0
/-- A row's weighted sum of `v` over the keys up to the end of the query's tile. -/
def wsum (x0 x1 : Vec Ideal S8x4224x8x96 .f32) (b H : Fin 8) (l : Fin 4224) (v : ℕ → EReal) : EReal :=
  ∑ j ∈ Finset.range (384 * (l.val / 384 + 1)), Ideal.exp2 (km x0 x1 b H l j - (Finset.range (384 * (l.val / 384 + 1))).sup (km x0 x1 b H l)) * v j
/-- The result's entry. -/
def attn (x0 x1 : Vec Ideal S8x4224x8x96 .f32) (x2 : Vec Ideal S8x4224x8x64 .f32) (b H : Fin 8) (l : Fin 4224) (e : Fin 64) : EReal :=
  Ideal.div (wsum x0 x1 b H l (kv x2 b H e)) (wsum x0 x1 b H l (fun _ => 1))

theorem msc_eq (c : Dev nD) (t : Fin cfg0.N) (h : Fin 4) (r : Fin 384) (b H : Fin 8) (l : Fin 4224)
    (hb : b.val = (grid0.coords t 0).val) (hH : H.val = (grid0.coords t 1).val * 4 + h.val) (hl : l.val = (grid0.coords t 2).val * 384 + r.val) (j : ℕ) :
    msc (grid0.coords t 2).val (iblk m c 0 t) (iblk m c 1 t) h r j = km (m ((c : Thread nD τ).loc main_arg0)) (m ((c : Thread nD τ).loc main_arg1)) b H l j := by
  unfold msc km
  have e : 384 * (grid0.coords t 2).val + r.val = l.val := by omega
  rw [e]
  refine congrArg (fun z => if j ≤ l.val then z else ⊥) ?_
  unfold sc kq
  refine Finset.sum_congr rfl fun d _ => ?_
  rw [blk0_apply m c t h r d b H l hb hH hl, V_q_apply]
  refine congrArg (fun z => heads (m ((c : Thread nD τ).loc main_arg0)) (ix4 b H l d) * scale * z) ?_
  unfold at4
  by_cases hj : j < 4224
  · rw [dif_pos hj, dif_pos hj, blk1_apply m c t h ⟨j, hj⟩ d b H hb hH, V_k_apply]
  · rw [dif_neg hj, dif_neg hj]

theorem att_eq (c : Dev nD) (t : Fin cfg0.N) (h : Fin 4) (r : Fin 384) (b H : Fin 8) (l : Fin 4224)
    (hb : b.val = (grid0.coords t 0).val) (hH : H.val = (grid0.coords t 1).val * 4 + h.val) (hl : l.val = (grid0.coords t 2).val * 384 + r.val)
    (n : ℕ) (hn : n = 384 * ((grid0.coords t 2).val + 1)) (k : Fin 128) (v : ℕ → EReal)
    (hv : ∀ j (hj : j < 4224), slots (m ((c : Thread nD τ).loc main_arg2)) (ix4 b H ⟨j, hj⟩ k) = v j) :
    att (grid0.coords t 2).val (iblk m c 0 t) (iblk m c 1 t) (iblk m c 2 t) h n r k
      = wsum (m ((c : Thread nD τ).loc main_arg0)) (m ((c : Thread nD τ).loc main_arg1)) b H l v := by
  unfold att wsum mx
  have hr := r.isLt
  have hc : (grid0.coords t 2).val < 11 := (grid0.coords t 2).isLt
  have e : l.val / 384 = (grid0.coords t 2).val := by omega
  have hf : msc (grid0.coords t 2).val (iblk m c 0 t) (iblk m c 1 t) h r = km (m ((c : Thread nD τ).loc main_arg0)) (m ((c : Thread nD τ).loc main_arg1)) b H l :=
    funext fun j => msc_eq m c t h r b H l hb hH hl j
  rw [e, hf, hn]
  refine Finset.sum_congr rfl fun j hj => ?_
  have hj' : j < 4224 := by have := Finset.mem_range.mp hj; omega
  refine congrArg (fun z => ex2 (km (m ((c : Thread nD τ).loc main_arg0)) (m ((c : Thread nD τ).loc main_arg1)) b H l j - (Finset.range (384 * ((grid0.coords t 2).val + 1))).sup (km (m ((c : Thread nD τ).loc main_arg0)) (m ((c : Thread nD τ).loc main_arg1)) b H l)) * z) ?_
  unfold at4
  rw [dif_pos hj', blk2_apply m c t h ⟨j, hj'⟩ k b H hb hH, V_v_apply]
  exact hv j hj'

/-- A grid point's block: its rows of the result. -/
theorem point (c : Dev nD) (t : Fin cfg0.N) (r : Fin 384) (q : Fin 256) (b : Fin 8) (l : Fin 4224) (H : Fin 8) (e : Fin 64)
    (hb : b.val = (grid0.coords t 0).val) (hl : l.val = (grid0.coords t 2).val * 384 + r.val)
    (hH : H.val = ((grid0.coords t 1).val * 256 + q.val) / 64) (he : e.val = ((grid0.coords t 1).val * 256 + q.val) % 64) :
    outB (grid0.coords t 2).val (iblk m c 0 t) (iblk m c 1 t) (iblk m c 2 t) (ix3 0 r q)
      = attn (m ((c : Thread nD τ).loc main_arg0)) (m ((c : Thread nD τ).loc main_arg1)) (m ((c : Thread nD τ).loc main_arg2)) b H l e := by
  have hq := q.isLt
  have hH' : H.val = (grid0.coords t 1).val * 4 + q.val / 64 := by omega
  unfold attn
  refine (congrArg₂ Ideal.div
    (att_eq m c t ⟨q.val / 64, by omega⟩ r b H l hb hH' hl _ rfl ⟨q.val % 128, Nat.mod_lt _ (by decide)⟩ (kv (m ((c : Thread nD τ).loc main_arg2)) b H e) fun j hj => ?_)
    (att_eq m c t ⟨q.val / 64, by omega⟩ r b H l hb hH' hl _ rfl ⟨(q.val % 128 + 64) % 128, Nat.mod_lt _ (by decide)⟩ (fun _ => 1) fun j hj => ?_))
  · rw [slots_val _ b H ⟨j, hj⟩ e _ (by show q.val % 128 = 64 * (H.val % 2) + e.val; omega)]
    unfold kv
    rw [dif_pos hj]
  · exact slots_one _ b H ⟨j, hj⟩ e _ (by show (q.val % 128 + 64) % 128 = (64 * (H.val % 2) + e.val + 64) % 128; omega)

/-- The call's result array, entry by entry. -/
theorem final (c : Dev nD) : (dats m 0 c).arrAt 3 cfg0.N = fun i : S8x4224x512.Idx =>
    attn (m ((c : Thread nD τ).loc main_arg0)) (m ((c : Thread nD τ).loc main_arg1)) (m ((c : Thread nD τ).loc main_arg2)) (i 0)
      ⟨(i 2).val / 64, by have h : (i 2).val < 512 := (i 2).isLt; omega⟩ (i 1) ⟨(i 2).val % 64, Nat.mod_lt _ (by decide)⟩ := by
  refine (dats m 0 c).arrAt_eq_of_covers 3 _ (by decide +kernel) fun t hf y => ?_
  blk_simp
  rw [dats_after3]
  have hy : y = ix3 (n0 := 1) (n1 := 384) (n2 := 256) 0 (y 1) (y 2) := (eq_ix3 (n0 := 1) (n1 := 384) (n2 := 256) y).trans (congrArg (fun z => ix3 z (y 1) (y 2)) (Subsingleton.elim _ _))
  have e0 := Pipeline.Window.rect_emb_val win0_3 t y 0
  have e1 := Pipeline.Window.rect_emb_val win0_3 t y 1
  have e2 := Pipeline.Window.rect_emb_val win0_3 t y 2
  rw [idx3] at e0 e1 e2
  have h0 : (y 0).val < 1 := (y 0).isLt
  have i2 : win0_3.index t 2 = (grid0.coords t 1).val := by rw [idx3]; rfl
  refine (congrArg _ hy).trans (point m c t (y 1) (y 2) _ _ _ _ ?_ ?_ ?_ ?_)
  · refine e0.trans ?_
    show (grid0.coords t 0).val * 1 + (y 0).val = (grid0.coords t 0).val
    omega
  · exact e1
  · show (win0_3.index t 2 * 256 + (y 2).val) / 64 = _
    rw [i2]
  · show (win0_3.index t 2 * 256 + (y 2).val) % 64 = _
    rw [i2]

end Cert.Proof.Attn

end
-- ==== Proof.AttnSoftmax.lean ====
/-
  The third reference's result, index by index: the scores, the softmax over the keys up to the query, the weighted sum of
  the values; and what the condition on the arguments says of their entries.
-/
module

public import proofs.«01_k».proof.Defs
public import proofs.«01_k».proof.Proof.Gen.Reference3Ideal.Run
public import proofs.«01_k».proof.Proof.Gen.Reference3Ideal.Read
public import Idealize.ShloMosaic.Lib.Pointwise
public import Idealize.ShloMosaic.Lib.ReduceAll
public import Idealize.ShloMosaic.Lib.Claim

@[expose] public section

noncomputable section

namespace Cert.Proof.AttnRef

open Idealize.ShloMosaic Idealize.SL.Sem Cert.Reference3Ideal Cert.Reference3Ideal.Gen Cert.Reference3Ideal.Read Idealize.ShloMosaic.TcCoe

variable (x0 x1 : Vec Ideal S8x4224x8x96 .f32) (x2 : Vec Ideal S8x4224x8x64 .f32)

theorem sle_iff (r c : Fin 4224) : IntOp.cmpi CmpIPredicate.sle (BitVec.ofNat 32 c.val) (BitVec.ofNat 32 r.val) = BitVec.ofBool (decide (c.val ≤ r.val)) := by
  have hr := r.isLt
  have hc := c.isLt
  have a : (BitVec.ofNat 32 r.val).toInt = r.val := by rw [BitVec.toInt_eq_toNat_of_lt (by rw [BitVec.toNat_ofNat]; omega), BitVec.toNat_ofNat]; omega
  have b : (BitVec.ofNat 32 c.val).toInt = c.val := by rw [BitVec.toInt_eq_toNat_of_lt (by rw [BitVec.toNat_ofNat]; omega), BitVec.toNat_ofNat]; omega
  show BitVec.ofBool (BitVec.sle (BitVec.ofNat 32 c.val) (BitVec.ofNat 32 r.val)) = _
  rw [BitVec.sle, a, b]
  simp

theorem select_ofBool (p : Prop) [Decidable p] (x y : EReal) : Scalar.select (BitVec.ofBool (decide p)) x y = if p then x else y := by
  by_cases h : p
  · rw [if_pos h, decide_eq_true h]; rfl
  · rw [if_neg h, decide_eq_false h]; rfl

theorem ofBits_bot : Ideal.ofBits .f32 0xFF800000#32 = ⊥ := by simp [Ideal.ofBits, Ideal.ieee]

/-- The score of query `l` with key `j`. -/
def score (b H : Fin 8) (l j : Fin 4224) : EReal := Ideal.div (∑ d : Fin 96, x0 (ix4 b l H d) * x1 (ix4 b j H d)) (Ideal.sqrt (Ideal.ofBits .f32 0x42C00000#32))

theorem score_apply (b H : Fin 8) (l j : Fin 4224) : val_main_v3 (F := Ideal) x0 x1 (ix4 b H l j) = score x0 x1 b H l j := by
  unfold score
  pointwise [val_main_v3, val_main_v2, val_main_v1, val_main_v0, val_main_cst]

/-- The score with the keys behind the query left out. -/
def mscore (b H : Fin 8) (l j : Fin 4224) : EReal := if j.val ≤ l.val then score x0 x1 b H l j else ⊥

theorem mask_apply (b H : Fin 8) (l j : Fin 4224) : val_main_call0_v1 (F := Ideal) (ix4 b H l j) = BitVec.ofBool (decide (j.val ≤ l.val)) := by
  rw [← sle_iff]
  pointwise [val_main_call0_v1, val_main_v9, val_main_v8, val_main_v7, val_main_v6, val_main_v5, val_main_v4]

theorem mscore_apply (b H : Fin 8) (l j : Fin 4224) : val_main_v10 (F := Ideal) x0 x1 (ix4 b H l j) = mscore x0 x1 b H l j := by
  rw [val_main_v10_apply, mask_apply, score_apply, select_ofBool]
  unfold mscore
  refine congrArg (fun z => if j.val ≤ l.val then score x0 x1 b H l j else z) ?_
  exact ofBits_bot

theorem eq_of_drop (b H : Fin 8) (l : Fin 4224) (i : S8x8x4224x4224.Idx) (h : reducesTo_S8x8x4224x4224_S8x8x4224_d3.drop i = ix3 b H l) :
    i = ix4 b H l (i 3) := by
  have e0 := Shape.ReducesTo.drop_apply_val_of_eq reducesTo_S8x8x4224x4224_S8x8x4224_d3 i 0 0 (by decide)
  have e1 := Shape.ReducesTo.drop_apply_val_of_eq reducesTo_S8x8x4224x4224_S8x8x4224_d3 i 1 1 (by decide)
  have e2 := Shape.ReducesTo.drop_apply_val_of_eq reducesTo_S8x8x4224x4224_S8x8x4224_d3 i 2 2 (by decide)
  rw [h] at e0 e1 e2
  refine funext fun a => Fin.ext ?_
  match a with
  | ⟨0, _⟩ => exact e0.symm
  | ⟨1, _⟩ => exact e1.symm
  | ⟨2, _⟩ => exact e2.symm
  | ⟨3, _⟩ => rfl

/-- The greatest of a row's scores. -/
theorem max_apply (b H : Fin 8) (l : Fin 4224) : val_main_v11 (F := Ideal) x0 x1 (ix3 b H l) = Finset.univ.sup (mscore x0 x1 b H l) := by
  have hs : ∀ j, val_main_v10 (F := Ideal) x0 x1 (ix4 b H l j) = mscore x0 x1 b H l j := mscore_apply x0 x1 b H l
  unfold val_main_v11
  generalize val_main_v10 (F := Ideal) x0 x1 = y at hs
  rw [Host.reduce_eq_fold]
  have hi : val_main_cst_1 (F := Ideal) = fun _ => ⊥ := funext fun _ => ofBits_bot
  rw [hi]
  show Finset.sup _ y = _
  refine le_antisymm (Finset.sup_le fun i hi => ?_) (Finset.sup_le fun j _ => ?_)
  · have hy : y i = mscore x0 x1 b H l (i 3) := (congrArg y (eq_of_drop b H l i (Finset.mem_filter.mp hi).2)).trans (hs (i 3))
    rw [hy]
    exact Finset.le_sup (f := mscore x0 x1 b H l) (Finset.mem_univ _)
  · rw [← hs]
    refine Finset.le_sup (f := y) (Finset.mem_filter.mpr ⟨Finset.mem_univ _, funext fun a => Fin.ext ?_⟩)
    match a with
    | ⟨0, _⟩ => exact Shape.ReducesTo.drop_apply_val_of_eq reducesTo_S8x8x4224x4224_S8x8x4224_d3 (ix4 b H l j) 0 0 (by decide)
    | ⟨1, _⟩ => exact Shape.ReducesTo.drop_apply_val_of_eq reducesTo_S8x8x4224x4224_S8x8x4224_d3 (ix4 b H l j) 1 1 (by decide)
    | ⟨2, _⟩ => exact Shape.ReducesTo.drop_apply_val_of_eq reducesTo_S8x8x4224x4224_S8x8x4224_d3 (ix4 b H l j) 2 2 (by decide)

/-- A key's weight before the division. -/
def weight (b H : Fin 8) (l j : Fin 4224) : EReal := Ideal.exp (mscore x0 x1 b H l j - Finset.univ.sup (mscore x0 x1 b H l))

theorem weight_apply (b H : Fin 8) (l j : Fin 4224) : val_main_v17 (F := Ideal) x0 x1 (ix4 b H l j) = weight x0 x1 b H l j := by
  rw [val_main_v17_apply, val_main_v16_apply, val_main_v15_apply, val_main_v14_apply, val_main_v13_apply, val_main_v12_apply, mscore_apply]
  have hi : idx_main_v14 (idx_main_v15 (ix4 b H l j)) = ix3 b H l := funext fun a => by
    match a with
    | ⟨0, _⟩ => rfl
    | ⟨1, _⟩ => rfl
    | ⟨2, _⟩ => rfl
  rw [hi, max_apply]
  show Ideal.exp (mscore x0 x1 b H l j - max (Ideal.ofBits .f32 0xFF800000#32) (Finset.univ.sup (mscore x0 x1 b H l))) = _
  rw [ofBits_bot, max_eq_right bot_le]
  rfl

theorem soft_apply (b H : Fin 8) (l j : Fin 4224) :
    val_main_v21 (F := Ideal) x0 x1 (ix4 b H l j) = Ideal.div (weight x0 x1 b H l j) (∑ k : Fin 4224, weight x0 x1 b H l k) := by
  have e : val_main_v21 (F := Ideal) x0 x1 (ix4 b H l j) = Ideal.div (val_main_v17 (F := Ideal) x0 x1 (ix4 b H l j)) (∑ k : Fin 4224, val_main_v17 (F := Ideal) x0 x1 (ix4 b H l k)) := by
    pointwise [val_main_v21, val_main_v20, val_main_v19, val_main_v18, val_main_cst_3]
  rw [e]
  simp only [weight_apply]

theorem result_apply (i : S8x4224x512.Idx) (b H : Fin 8) (l : Fin 4224) (e : Fin 64) (hb : b = i 0) (hl : l = i 1) (hH : H.val = (i 2).val / 64) (he : e.val = (i 2).val % 64) :
    val_main_v25 (F := Ideal) x0 x1 x2 i = ∑ j : Fin 4224, x2 (ix4 b j H e) * Ideal.div (weight x0 x1 b H l j) (∑ k : Fin 4224, weight x0 x1 b H l k) := by
  rw [val_main_v25_apply, val_main_v24_apply]
  have hi : idx_main_v24 i = ix4 b l H e := by
    subst hb hl
    refine funext fun a => Fin.ext ?_
    have h0 : (i 0).val < 8 := (i 0).isLt
    have h1 : (i 1).val < 4224 := (i 1).isLt
    have h2 : (i 2).val < 512 := (i 2).isLt
    match a with
    | ⟨0, _⟩ => show _ = (i 0).val; try dsimp only [idx_main_v24]; try omega
    | ⟨1, _⟩ => show _ = (i 1).val; try dsimp only [idx_main_v24]; try omega
    | ⟨2, _⟩ => show _ = H.val; try dsimp only [idx_main_v24]; try omega
    | ⟨3, _⟩ => show _ = e.val; try dsimp only [idx_main_v24]; try omega
  rw [hi]
  have e2 : val_main_v23 (F := Ideal) x0 x1 x2 (ix4 b l H e) = ∑ j : Fin 4224, x2 (ix4 b j H e) * val_main_v21 (F := Ideal) x0 x1 (ix4 b H l j) := by
    pointwise [val_main_v23, val_main_v22]
  refine e2.trans ?_
  simp only [soft_apply]

/-- An entry below +∞ in absolute value is real. -/
theorem real_of_finite (x : EReal) (h : Ideal.cmp .olt (max x (-x)) (Ideal.ofBits .f32 0x7F800000#32) = 1#1) : ((x.toReal : ℝ) : EReal) = x := by
  have ht : Ideal.ofBits .f32 0x7F800000#32 = ⊤ := by simp [Ideal.ofBits, Ideal.ieee]
  rw [ht] at h
  have h' : max x (-x) < ⊤ := by
    by_contra hn
    simp [Ideal.cmp, hn] at h
    try exact absurd h hn
  refine EReal.coe_toReal ?_ ?_
  · rintro rfl
    simp at h'
  · rintro rfl
    simp at h'

/-- What the condition says of the queries and the keys. -/
theorem finite_of_pre [hP : Cert.Pre_finite_scores.Facts] (h : Cert.Pre_finite_scores.fn (F := Ideal) x0 x1 x2 = fun _ => 1#1) :
    (∀ i, (((x0 i).toReal : ℝ) : EReal) = x0 i) ∧ (∀ i, (((x1 i).toReal : ℝ) : EReal) = x1 i) := by
  have h0 := congrFun h (fun a => a.elim0)
  dsimp only [Cert.Pre_finite_scores.fn] at h0
  obtain ⟨a, b⟩ := IntOp.andi_eq_one.mp h0
  haveI : Subsingleton Cert.Pre_finite_scores.S_.Idx := ⟨fun a b => funext fun i => i.elim0⟩
  exact ⟨fun i => real_of_finite _ (Host.reduce_andi_all _ _ _ _ _ a i), fun i => real_of_finite _ (Host.reduce_andi_all _ _ _ _ _ b i)⟩

end Cert.Proof.AttnRef

end
-- ==== Proof.AttnMath.lean ====
/-
  The attention's arithmetic on one row of real scores: weights 2^(c·(score - maximum)) against exp((score - maximum)/a),
  and one division behind the sum over the keys against one division per weight.
-/
module

public import Idealize.ShloMosaic.PureOps.Ideal
public import Idealize.ShloMosaic.Lib.Pointwise

@[expose] public section

noncomputable section

namespace Cert.Proof.AttnMath

open Idealize.ShloMosaic

/-- A real score, or the mask's `⊥` behind position `L`. -/
def masked (L : ℕ) (f : ℕ → ℝ) (j : ℕ) : EReal := if j ≤ L then (f j : EReal) else ⊥

/-- The greatest of a row's masked scores is the greatest of those that are not masked. -/
theorem sup_masked (L n : ℕ) (hn : L < n) (f : ℕ → ℝ) (j0 : ℕ) (h0 : j0 ≤ L) (hmax : ∀ j, j ≤ L → f j ≤ f j0) :
    (Finset.range n).sup (masked L f) = (f j0 : EReal) := by
  apply le_antisymm
  · refine Finset.sup_le fun j _ => ?_
    unfold masked
    split
    · rename_i hj; exact EReal.coe_le_coe_iff.mpr (hmax j hj)
    · exact bot_le
  · have h := Finset.le_sup (f := masked L f) (Finset.mem_range.mpr (lt_of_le_of_lt h0 hn))
    have e : masked L f j0 = (f j0 : EReal) := by unfold masked; rw [if_pos h0]
    rwa [e] at h

/-- The weight of key `j`. -/
def weight (L : ℕ) (f : ℕ → ℝ) (j0 j : ℕ) : ℝ := if j ≤ L then Real.exp (f j - f j0) else 0

theorem weight_nonneg (L : ℕ) (f : ℕ → ℝ) (j0 j : ℕ) : 0 ≤ weight L f j0 j := by
  unfold weight; split
  · exact (Real.exp_pos _).le
  · exact le_rfl

theorem exp_weight (L : ℕ) (f : ℕ → ℝ) (j0 j : ℕ) : Ideal.exp (masked L f j - (f j0 : EReal)) = (weight L f j0 j : EReal) := by
  unfold masked weight
  split
  · rw [← EReal.coe_sub, Ideal.exp_coe]
  · rw [EReal.bot_sub]; rfl

/-- With the scores scaled by `1/ln 2`, the power of two is the exponential. -/
theorem exp2_weight (L : ℕ) (f g : ℕ → ℝ) (hg : ∀ j, g j * Real.log 2 = f j) (j0 j : ℕ) :
    Ideal.exp2 (masked L g j - (g j0 : EReal)) = (weight L f j0 j : EReal) := by
  unfold masked weight
  split
  · rw [← EReal.coe_sub, Ideal.exp2_coe]
    refine congrArg _ ?_
    show (2 : ℝ) ^ (g j - g j0) = _
    rw [Real.rpow_def_of_pos (by norm_num), ← hg j, ← hg j0]
    ring_nf
  · rw [EReal.bot_sub]; rfl

theorem sum_coe (s : Finset ℕ) (w : ℕ → ℝ) : ∑ j ∈ s, (w j : EReal) = ((∑ j ∈ s, w j : ℝ) : EReal) := by
  classical
  induction s using Finset.induction_on with
  | empty => simp
  | insert a s ha ih => rw [Finset.sum_insert ha, Finset.sum_insert ha, ih, EReal.coe_add]

theorem sum_mul_coe (s : Finset ℕ) (x : ℕ → EReal) (a : ℝ) (ha : 0 ≤ a) : (∑ j ∈ s, x j) * (a : EReal) = ∑ j ∈ s, x j * (a : EReal) := by
  classical
  induction s using Finset.induction_on with
  | empty => simp
  | insert b s hb ih =>
    rw [Finset.sum_insert hb, Finset.sum_insert hb, ← ih]
    exact EReal.right_distrib_of_nonneg_of_ne_top (EReal.coe_nonneg.mpr ha) (EReal.coe_ne_top a) _ _

theorem div_coe (x : EReal) (a : ℝ) (ha : 0 < a) : Ideal.div x (a : EReal) = x * ((a⁻¹ : ℝ) : EReal) := by
  unfold Ideal.div
  rw [if_neg (by exact_mod_cast ha.ne'), EReal.coe_inv]

/-- A sum over more keys than are not masked is the sum over those. -/
theorem sum_cut (L n : ℕ) (hn : L < n) (f : ℕ → ℝ) (j0 : ℕ) (v : ℕ → EReal) :
    ∑ j ∈ Finset.range n, (weight L f j0 j : EReal) * v j = ∑ j ∈ Finset.range (L + 1), (weight L f j0 j : EReal) * v j := by
  symm
  refine Finset.sum_subset (Finset.range_subset_range.mpr (by omega)) fun j _ hj => ?_
  have h : ¬ j ≤ L := fun h => hj (Finset.mem_range.mpr (by omega))
  unfold weight
  rw [if_neg h, EReal.coe_zero, zero_mul]

theorem sum_cut_one (L n : ℕ) (hn : L < n) (f : ℕ → ℝ) (j0 : ℕ) :
    ∑ j ∈ Finset.range n, (weight L f j0 j : EReal) = ((∑ j ∈ Finset.range (L + 1), weight L f j0 j : ℝ) : EReal) := by
  have h := sum_cut L n hn f j0 (fun _ => 1)
  simp only [mul_one] at h
  rw [h, sum_coe]

theorem total_pos (L : ℕ) (f : ℕ → ℝ) (j0 : ℕ) : 0 < ∑ j ∈ Finset.range (L + 1), weight L f j0 j := by
  refine Finset.sum_pos' (fun j _ => weight_nonneg L f j0 j) ⟨0, Finset.mem_range.mpr (by omega), ?_⟩
  unfold weight
  rw [if_pos (by omega)]
  exact Real.exp_pos _

/-- Some key has the greatest score. -/
theorem exists_greatest (L : ℕ) (f : ℕ → ℝ) : ∃ j0, j0 ≤ L ∧ ∀ j, j ≤ L → f j ≤ f j0 := by
  obtain ⟨j0, h0, h⟩ := Finset.exists_max_image (Finset.range (L + 1)) f ⟨0, Finset.mem_range.mpr (by omega)⟩
  exact ⟨j0, by have := Finset.mem_range.mp h0; omega, fun j hj => h j (Finset.mem_range.mpr (by omega))⟩

/-- One row: the block's division behind the sum over the keys is the softmax's division of each weight. -/
theorem row_eq (L n N : ℕ) (hn : L < n) (hN : L < N) (f g : ℕ → ℝ) (hg : ∀ j, g j * Real.log 2 = f j) (v : ℕ → EReal) :
    Ideal.div (∑ j ∈ Finset.range n, Ideal.exp2 (masked L g j - (Finset.range n).sup (masked L g)) * v j)
        (∑ j ∈ Finset.range n, Ideal.exp2 (masked L g j - (Finset.range n).sup (masked L g)) * 1)
      = ∑ j ∈ Finset.range N, Ideal.div (Ideal.exp (masked L f j - (Finset.range N).sup (masked L f)))
          (∑ k ∈ Finset.range N, Ideal.exp (masked L f k - (Finset.range N).sup (masked L f))) * v j := by
  obtain ⟨j0, h0, hmax⟩ := exists_greatest L f
  have hl : 0 < Real.log 2 := Real.log_pos (by norm_num)
  have hmaxg : ∀ j, j ≤ L → g j ≤ g j0 := fun j hj => by
    have h := hmax j hj
    rw [← hg j, ← hg j0] at h
    exact le_of_mul_le_mul_right h hl
  rw [sup_masked L n hn g j0 h0 hmaxg, sup_masked L N hN f j0 h0 hmax]
  simp only [exp2_weight L f g hg, exp_weight, mul_one]
  rw [sum_cut L n hn, sum_cut_one L n hn, sum_cut_one L N hN, div_coe _ _ (total_pos L f j0)]
  simp only [div_coe _ _ (total_pos L f j0)]
  rw [sum_mul_coe _ _ _ (inv_nonneg.mpr (total_pos L f j0).le)]
  have e : ∀ j, (weight L f j0 j : EReal) * ((((∑ j ∈ Finset.range (L + 1), weight L f j0 j)⁻¹ : ℝ)) : EReal) * v j
      = (weight L f j0 j : EReal) * (v j * ((((∑ j ∈ Finset.range (L + 1), weight L f j0 j)⁻¹ : ℝ)) : EReal)) := fun j => by
    rw [mul_assoc, mul_comm (v j)]
  simp only [e]
  rw [sum_cut L N hN]
  exact Finset.sum_congr rfl fun j _ => mul_assoc _ _ _

end Cert.Proof.AttnMath

end
-- ==== Proof.AttnReference.lean ====
/-
  The attention's two sides meet: at finite queries and keys both scores are real, the kernel's in base two, and a row of
  the kernel's result is the softmax's row.
-/
module

public import proofs.«01_k».proof.Proof.AttnArray
public import proofs.«01_k».proof.Proof.AttnSoftmax
public import proofs.«01_k».proof.Proof.AttnMath

@[expose] public section

noncomputable section

namespace Cert.Proof.AttnRef

open Idealize.ShloMosaic Idealize.SL.Sem Idealize.ShloMosaic.TcCoe Cert.Reference3Ideal

theorem sum_coe_fin {n : ℕ} (w : Fin n → ℝ) : ∑ j, (w j : EReal) = ((∑ j, w j : ℝ) : EReal) := by
  induction n with
  | zero => simp
  | succ n ih => rw [Fin.sum_univ_succ, Fin.sum_univ_succ, EReal.coe_add, ih]

theorem root_eq : Ideal.sqrt (Ideal.ofBits .f32 0x42C00000#32) = ((Real.sqrt 96 : ℝ) : EReal) := by
  have h : Ideal.ofBits .f32 0x42C00000#32 = ((96 : ℝ) : EReal) := by
    simp [Ideal.ofBits, Ideal.ieee]
    rw [← EReal.coe_mul]
    norm_num
  rw [h]
  show (if (96 : ℝ) < 0 then (⊥ : EReal) else ((Real.sqrt 96 : ℝ) : EReal)) = _
  rw [if_neg (by norm_num)]

theorem log_eq : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else ((Real.log 2 : ℝ) : EReal)) = _
  rw [if_neg (by norm_num)]

theorem root_pos : (0 : ℝ) < Real.sqrt 96 := Real.sqrt_pos.mpr (by norm_num)
theorem log_pos : (0 : ℝ) < Real.log 2 := Real.log_pos (by norm_num)

theorem scale_eq : Attn.scale = (((Real.sqrt 96 * Real.log 2)⁻¹ : ℝ) : EReal) := by
  unfold Attn.scale
  have h : Ideal.ofBits .f32 0x3F800000#32 = 1 := by
    simp [Ideal.ofBits, Ideal.ieee]
    rw [← EReal.coe_mul]
    norm_num
  rw [root_eq, log_eq, ← EReal.coe_mul, AttnMath.div_coe _ _ (mul_pos root_pos log_pos), h, one_mul]

variable (x0 x1 : Vec Ideal S8x4224x8x96 .f32) (x2 : Vec Ideal S8x4224x8x64 .f32)

/-- The product of a query with a key, over the reals. -/
def dot (b H : Fin 8) (l : Fin 4224) (j : ℕ) : ℝ :=
  if hj : j < 4224 then ∑ d : Fin 96, (x0 (ix4 b l H d)).toReal * (x1 (ix4 b ⟨j, hj⟩ H d)).toReal else 0

theorem score_eq (h0 : ∀ i, (((x0 i).toReal : ℝ) : EReal) = x0 i) (h1 : ∀ i, (((x1 i).toReal : ℝ) : EReal) = x1 i) (b H : Fin 8) (l j : Fin 4224) :
    score x0 x1 b H l j = ((dot x0 x1 b H l j.val * (Real.sqrt 96)⁻¹ : ℝ) : EReal) := by
  unfold score dot
  rw [dif_pos j.isLt, root_eq, AttnMath.div_coe _ _ root_pos, EReal.coe_mul, ← sum_coe_fin]
  refine congrArg (· * _) (Finset.sum_congr rfl fun d _ => ?_)
  rw [EReal.coe_mul, h0, h1]

theorem kq_eq (h0 : ∀ i, (((x0 i).toReal : ℝ) : EReal) = x0 i) (h1 : ∀ i, (((x1 i).toReal : ℝ) : EReal) = x1 i) (b H : Fin 8) (l : Fin 4224) (j : ℕ) :
    Attn.kq x0 x1 b H l j = ((dot x0 x1 b H l j * (Real.sqrt 96 * Real.log 2)⁻¹ : ℝ) : EReal) := by
  unfold Attn.kq dot
  by_cases hj : j < 4224
  · simp only [dif_pos hj]
    rw [scale_eq]
    generalize (Real.sqrt 96 * Real.log 2)⁻¹ = c
    rw [Finset.sum_mul, ← sum_coe_fin]
    refine (Fin.sum_univ_add (a := 96) (b := 32) (fun d : Fin 128 => Attn.heads x0 (ix4 b H l d) * (c : EReal) * Attn.heads x1 (ix4 b H ⟨j, hj⟩ d))).trans ?_
    have hz : ∑ i : Fin 32, Attn.heads x0 (ix4 b H l (Fin.natAdd 96 i)) * (c : EReal) * Attn.heads x1 (ix4 b H ⟨j, hj⟩ (Fin.natAdd 96 i)) = 0 := by
      refine Finset.sum_eq_zero fun i _ => ?_
      rw [Attn.heads_apply x1, dif_neg (by show ¬(96 + i.val < 96); omega), mul_zero]
    refine (congrArg (_ + ·) hz).trans ?_
    rw [add_zero]
    refine Finset.sum_congr rfl fun d _ => ?_
    rw [Attn.heads_apply x0, Attn.heads_apply x1, dif_pos (show (Fin.castAdd 32 d).val < 96 from d.isLt), dif_pos (show (Fin.castAdd 32 d).val < 96 from d.isLt)]
    rw [EReal.coe_mul, EReal.coe_mul, h0, h1]
    exact mul_right_comm _ _ _
  · simp only [dif_neg hj, mul_zero, Finset.sum_const_zero, zero_mul, EReal.coe_zero]

/-- A row's entry of the kernel's result is the reference's. -/
theorem attn_eq (h0 : ∀ i, (((x0 i).toReal : ℝ) : EReal) = x0 i) (h1 : ∀ i, (((x1 i).toReal : ℝ) : EReal) = x1 i) (b H : Fin 8) (l : Fin 4224) (e : Fin 64) :
    Attn.attn x0 x1 x2 b H l e = ∑ j : Fin 4224, x2 (ix4 b j H e) * Ideal.div (weight x0 x1 b H l j) (∑ k : Fin 4224, weight x0 x1 b H l k) := by
  have hl := l.isLt
  have hk : Attn.km x0 x1 b H l = AttnMath.masked l.val (fun j => dot x0 x1 b H l j * (Real.sqrt 96 * Real.log 2)⁻¹) := funext fun j => by
    unfold Attn.km AttnMath.masked
    rw [kq_eq x0 x1 h0 h1]
  have hs : ∀ j : Fin 4224, mscore x0 x1 b H l j = AttnMath.masked l.val (fun j => dot x0 x1 b H l j * (Real.sqrt 96)⁻¹) j.val := fun j => by
    unfold mscore AttnMath.masked
    rw [score_eq x0 x1 h0 h1]
  have hm : Finset.univ.sup (mscore x0 x1 b H l) = (Finset.range 4224).sup (AttnMath.masked l.val (fun j => dot x0 x1 b H l j * (Real.sqrt 96)⁻¹)) := by
    refine le_antisymm (Finset.sup_le fun j _ => ?_) (Finset.sup_le fun j hj => ?_)
    · rw [hs]
      exact Finset.le_sup (f := AttnMath.masked l.val (fun j => dot x0 x1 b H l j * (Real.sqrt 96)⁻¹)) (Finset.mem_range.mpr j.isLt)
    · rw [← hs ⟨j, Finset.mem_range.mp hj⟩]
      exact Finset.le_sup (f := mscore x0 x1 b H l) (Finset.mem_univ _)
  have hw : ∀ j : Fin 4224, weight x0 x1 b H l j = Ideal.exp (AttnMath.masked l.val (fun j => dot x0 x1 b H l j * (Real.sqrt 96)⁻¹) j.val
      - (Finset.range 4224).sup (AttnMath.masked l.val (fun j => dot x0 x1 b H l j * (Real.sqrt 96)⁻¹))) := fun j => by
    unfold weight
    rw [hs, hm]
  unfold Attn.attn Attn.wsum
  rw [hk]
  refine (AttnMath.row_eq l.val (384 * (l.val / 384 + 1)) 4224 (by omega) hl (fun j => dot x0 x1 b H l j * (Real.sqrt 96)⁻¹) _ (fun j => ?_) (Attn.kv x2 b H e)).trans ?_
  · have := root_pos.ne'
    have := log_pos.ne'
    show dot x0 x1 b H l j * (Real.sqrt 96 * Real.log 2)⁻¹ * Real.log 2 = dot x0 x1 b H l j * (Real.sqrt 96)⁻¹
    field_simp
  · simp only [hw]
    rw [Finset.sum_range, Finset.sum_range]
    refine Finset.sum_congr rfl fun j _ => ?_
    unfold Attn.kv
    rw [dif_pos j.isLt]
    exact mul_comm _ _

end Cert.Proof.AttnRef

namespace Cert.Proof.Attn

open Idealize.ShloMosaic Idealize.SL.Sem Cert.Kernel3Ideal Cert.Kernel3Ideal.Gen Idealize.ShloMosaic.TcCoe

/-- The attention kernel's run: its result array is the blocks', its arguments are as they were. -/
theorem run_blocks (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v26) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1 3,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m g)

end Cert.Proof.Attn

namespace Cert.Proof

open Idealize.ShloMosaic Idealize.SL.Sem Idealize.ShloMosaic.TcCoe

/-- The shapes' facts the condition on the arguments is stated over. -/
instance finiteFacts : Cert.Pre_finite_scores.Facts := ⟨by decide, by decide, by decide⟩

/-- The attention kernel and the third reference end with equal results when queries and keys are finite. -/
theorem algebraic_attn : Cert.algebraic_Kernel3Ideal_Reference3Ideal_pre_finite_scores := by
  pair_intro
  · run_from Attn.run_blocks m g
  · run_from Cert.Reference3Ideal.Value.run m' g'
    rw [Attn.final m c]
    rw [Reference3Ideal.Read.val_main_v25_eq]
    obtain ⟨h0, h1, h2⟩ := hagree c
    rw [h0, h1, h2]
    obtain ⟨f0, f1⟩ := AttnRef.finite_of_pre _ _ _ (hpre c)
    funext j
    refine (AttnRef.result_apply _ _ _ j _ _ _ _ rfl rfl ?_ ?_).trans (AttnRef.attn_eq _ _ _ f0 f1 _ _ _ _).symm
    · rfl
    · rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.MergeReference
public import proofs.«01_k».proof.Proof.FinalReference
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.AttnBitsFrame
public import proofs.«01_k».proof.Proof.AttnFrame
public import proofs.«01_k».proof.Proof.AttnReference
public import Idealize.ShloMosaic.Adequacy
public import Idealize.ShloMosaic.Init

@[expose] public section

noncomputable section

namespace Cert.Proof

open Idealize.ShloMosaic Idealize.SL.Sem Cert.Kernel

/-- The first reference's frame: its run leaves the arguments as they were, and it declares no semaphore. -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The second reference's frame, the same way. -/
theorem quiescent_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The third reference's frame, the same way. -/
theorem quiescent_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The attention kernel's frame over the words. -/
theorem quiescent_attn : Cert.quiescent_Kernel3 := fun m g _ =>
  (θ_run Cert.Kernel3.defs _ _).mono (fun _ h => ⟨h.2, h.1⟩) (AttnBits.frame_attn (F := Bits) m g)

/-- The attention kernel's frame over the extended reals. -/
theorem quiescent_attn_ideal : Cert.quiescent_Kernel3Ideal := fun m g _ =>
  θ_run_with_sems (Cert.Kernel3Ideal.Gen.frame_of m g (Attn.dats m) (Attn.dats_A m)) (Attn.run_main_quiescent m g)

/-- Every conjunct of the claim, in its order. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, finiteFacts,
  fun m ρ _ => Cert.Kernel.Gen.frame m ρ,
  fun m ρ _ => Cert.KernelIdeal.Gen.frame m ρ,
  quiescent_reference,
  fun m ρ _ => Cert.Kernel2.Gen.frame m ρ,
  fun m ρ _ => Cert.Kernel2Ideal.Gen.frame m ρ,
  quiescent_reference2,
  quiescent_attn,
  quiescent_attn_ideal,
  fun m ρ _ => quiescent_attn_ideal m ρ trivial,
  quiescent_reference3,
  fun m ρ _ => quiescent_reference3 m ρ trivial,
  trivial,
  algebraic_merge,
  trivial,
  algebraic_final,
  IdealRules.named_const.statement Cert.Kernel3Ideal.κ "mask" .f32 0xF149F2CA#32 ⊥ rfl,
  algebraic_attn⟩

end Cert.Proof

end
